-- ==== Defs.lean ====
def Pre_FinishKernel (m : (ℓ : Loc Cert.FinishKernel.nD Cert.FinishKernel.τ Cert.FinishKernel.sig) → Buf (Elt Bits) ℓ) : Prop :=
  True

def Pre_FinishKernelIdeal (m : (ℓ : Loc Cert.FinishKernelIdeal.nD Cert.FinishKernelIdeal.τ Cert.FinishKernelIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_SampleCaches (m : (ℓ : Loc Cert.SampleCaches.nD Cert.SampleCaches.τ Cert.SampleCaches.sig) → Buf (Elt Bits) ℓ) : Prop :=
  True

def Pre_SampleCachesIdeal (m : (ℓ : Loc Cert.SampleCachesIdeal.nD Cert.SampleCachesIdeal.τ Cert.SampleCachesIdeal.sig) → Buf (Elt Ideal) ℓ) : Prop :=
  True

def Pre_SampleCachesReferenceIdeal (m : (ℓ : Loc Cert.SampleCachesReferenceIdeal.nD Cert.SampleCachesReferenceIdeal.τ Cert.SampleCachesReferenceIdeal.sig) → Buf (Elt Ideal) ℓ) : Prop :=
  True

def Pre_PromptCaches (m : (ℓ : Loc Cert.PromptCaches.nD Cert.PromptCaches.τ Cert.PromptCaches.sig) → Buf (Elt Bits) ℓ) : Prop :=
  True

def Pre_PromptCachesIdeal (m : (ℓ : Loc Cert.PromptCachesIdeal.nD Cert.PromptCachesIdeal.τ Cert.PromptCachesIdeal.sig) → Buf (Elt Ideal) ℓ) : Prop :=
  True

def Pre_PromptCachesReferenceIdeal (m : (ℓ : Loc Cert.PromptCachesReferenceIdeal.nD Cert.PromptCachesReferenceIdeal.τ Cert.PromptCachesReferenceIdeal.sig) → Buf (Elt Ideal) ℓ) : Prop :=
  True

def Pre_FinishSample (m : (ℓ : Loc Cert.FinishSample.nD Cert.FinishSample.τ Cert.FinishSample.sig) → Buf (Elt Bits) ℓ) : Prop :=
  True

def Pre_FinishSampleIdeal (m : (ℓ : Loc Cert.FinishSampleIdeal.nD Cert.FinishSampleIdeal.τ Cert.FinishSampleIdeal.sig) → Buf (Elt Ideal) ℓ) : Prop :=
  True

def Pre_FinishSampleReferenceIdeal (m : (ℓ : Loc Cert.FinishSampleReferenceIdeal.nD Cert.FinishSampleReferenceIdeal.τ Cert.FinishSampleReferenceIdeal.sig) → Buf (Elt Ideal) ℓ) : Prop :=
  True

def quiescent_FinishKernel [hFinishKernel : Cert.FinishKernel.Facts] : Prop :=
  ∀ (m : (ℓ : Loc Cert.FinishKernel.nD Cert.FinishKernel.τ Cert.FinishKernel.sig) → Buf (Elt Bits) ℓ) (g : Dev Cert.FinishKernel.nD → PrngReg), Pre_FinishKernel m →
    θ_run (Cert.FinishKernel.defs (F := Bits)) (onTc (τ := Cert.FinishKernel.τ) (Cert.FinishKernel.main (F := Bits))) ⟨m, fun _ => 0, g⟩ (fun r => (∀ c : Dev Cert.FinishKernel.nD,
      r.2.mem ((c.tc : Thread Cert.FinishKernel.nD Cert.FinishKernel.τ).loc Cert.FinishKernel.main_arg0) = m ((c.tc : Thread Cert.FinishKernel.nD Cert.FinishKernel.τ).loc Cert.FinishKernel.main_arg0)
      ∧ r.2.mem ((c.tc : Thread Cert.FinishKernel.nD Cert.FinishKernel.τ).loc Cert.FinishKernel.main_arg1) = m ((c.tc : Thread Cert.FinishKernel.nD Cert.FinishKernel.τ).loc Cert.FinishKernel.main_arg1)
      ∧ r.2.mem ((c.tc : Thread Cert.FinishKernel.nD Cert.FinishKernel.τ).loc Cert.FinishKernel.main_arg2) = m ((c.tc : Thread Cert.FinishKernel.nD Cert.FinishKernel.τ).loc Cert.FinishKernel.main_arg2)
      ∧ r.2.mem ((c.tc : Thread Cert.FinishKernel.nD Cert.FinishKernel.τ).loc Cert.FinishKernel.main_arg3) = m ((c.tc : Thread Cert.FinishKernel.nD Cert.FinishKernel.τ).loc Cert.FinishKernel.main_arg3)
      ∧ r.2.mem ((c.tc : Thread Cert.FinishKernel.nD Cert.FinishKernel.τ).loc Cert.FinishKernel.main_arg4) = m ((c.tc : Thread Cert.FinishKernel.nD Cert.FinishKernel.τ).loc Cert.FinishKernel.main_arg4)
      ∧ r.2.mem ((c.tc : Thread Cert.FinishKernel.nD Cert.FinishKernel.τ).loc Cert.FinishKernel.main_arg5) = m ((c.tc : Thread Cert.FinishKernel.nD Cert.FinishKernel.τ).loc Cert.FinishKernel.main_arg5)
      ∧ r.2.mem ((c.tc : Thread Cert.FinishKernel.nD Cert.FinishKernel.τ).loc Cert.FinishKernel.main_arg6) = m ((c.tc : Thread Cert.FinishKernel.nD Cert.FinishKernel.τ).loc Cert.FinishKernel.main_arg6)
      ∧ r.2.mem ((c.tc : Thread Cert.FinishKernel.nD Cert.FinishKernel.τ).loc Cert.FinishKernel.main_arg7) = m ((c.tc : Thread Cert.FinishKernel.nD Cert.FinishKernel.τ).loc Cert.FinishKernel.main_arg7))
      ∧ r.2.sem = fun _ => 0)

def quiescent_FinishKernelIdeal [hFinishKernelIdeal : Cert.FinishKernelIdeal.Facts] : Prop :=
  ∀ (m : (ℓ : Loc Cert.FinishKernelIdeal.nD Cert.FinishKernelIdeal.τ Cert.FinishKernelIdeal.sig) → Buf (Elt Ideal) ℓ) (g : Dev Cert.FinishKernelIdeal.nD → PrngReg), Pre_FinishKernelIdeal m →
    θ_run (Cert.FinishKernelIdeal.defs (F := Ideal)) (onTc (τ := Cert.FinishKernelIdeal.τ) (Cert.FinishKernelIdeal.main (F := Ideal))) ⟨m, fun _ => 0, g⟩ (fun r => (∀ c : Dev Cert.FinishKernelIdeal.nD,
      r.2.mem ((c.tc : Thread Cert.FinishKernelIdeal.nD Cert.FinishKernelIdeal.τ).loc Cert.FinishKernelIdeal.main_arg0) = m ((c.tc : Thread Cert.FinishKernelIdeal.nD Cert.FinishKernelIdeal.τ).loc Cert.FinishKernelIdeal.main_arg0)
      ∧ r.2.mem ((c.tc : Thread Cert.FinishKernelIdeal.nD Cert.FinishKernelIdeal.τ).loc Cert.FinishKernelIdeal.main_arg1) = m ((c.tc : Thread Cert.FinishKernelIdeal.nD Cert.FinishKernelIdeal.τ).loc Cert.FinishKernelIdeal.main_arg1)
      ∧ r.2.mem ((c.tc : Thread Cert.FinishKernelIdeal.nD Cert.FinishKernelIdeal.τ).loc Cert.FinishKernelIdeal.main_arg2) = m ((c.tc : Thread Cert.FinishKernelIdeal.nD Cert.FinishKernelIdeal.τ).loc Cert.FinishKernelIdeal.main_arg2)
      ∧ r.2.mem ((c.tc : Thread Cert.FinishKernelIdeal.nD Cert.FinishKernelIdeal.τ).loc Cert.FinishKernelIdeal.main_arg3) = m ((c.tc : Thread Cert.FinishKernelIdeal.nD Cert.FinishKernelIdeal.τ).loc Cert.FinishKernelIdeal.main_arg3)
      ∧ r.2.mem ((c.tc : Thread Cert.FinishKernelIdeal.nD Cert.FinishKernelIdeal.τ).loc Cert.FinishKernelIdeal.main_arg4) = m ((c.tc : Thread Cert.FinishKernelIdeal.nD Cert.FinishKernelIdeal.τ).loc Cert.FinishKernelIdeal.main_arg4)
      ∧ r.2.mem ((c.tc : Thread Cert.FinishKernelIdeal.nD Cert.FinishKernelIdeal.τ).loc Cert.FinishKernelIdeal.main_arg5) = m ((c.tc : Thread Cert.FinishKernelIdeal.nD Cert.FinishKernelIdeal.τ).loc Cert.FinishKernelIdeal.main_arg5)
      ∧ r.2.mem ((c.tc : Thread Cert.FinishKernelIdeal.nD Cert.FinishKernelIdeal.τ).loc Cert.FinishKernelIdeal.main_arg6) = m ((c.tc : Thread Cert.FinishKernelIdeal.nD Cert.FinishKernelIdeal.τ).loc Cert.FinishKernelIdeal.main_arg6)
      ∧ r.2.mem ((c.tc : Thread Cert.FinishKernelIdeal.nD Cert.FinishKernelIdeal.τ).loc Cert.FinishKernelIdeal.main_arg7) = m ((c.tc : Thread Cert.FinishKernelIdeal.nD Cert.FinishKernelIdeal.τ).loc Cert.FinishKernelIdeal.main_arg7))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7))
      ∧ r.2.sem = fun _ => 0)

def quiescent_SampleCaches [hSampleCaches : Cert.SampleCaches.Facts] : Prop :=
  ∀ (m : (ℓ : Loc Cert.SampleCaches.nD Cert.SampleCaches.τ Cert.SampleCaches.sig) → Buf (Elt Bits) ℓ) (g : Dev Cert.SampleCaches.nD → PrngReg), Pre_SampleCaches m →
    θ_run (Cert.SampleCaches.defs (F := Bits)) (onTc (τ := Cert.SampleCaches.τ) (Cert.SampleCaches.main (F := Bits))) ⟨m, fun _ => 0, g⟩ (fun r => (∀ c : Dev Cert.SampleCaches.nD,
      r.2.mem ((c.tc : Thread Cert.SampleCaches.nD Cert.SampleCaches.τ).loc Cert.SampleCaches.main_arg0) = m ((c.tc : Thread Cert.SampleCaches.nD Cert.SampleCaches.τ).loc Cert.SampleCaches.main_arg0)
      ∧ r.2.mem ((c.tc : Thread Cert.SampleCaches.nD Cert.SampleCaches.τ).loc Cert.SampleCaches.main_arg1) = m ((c.tc : Thread Cert.SampleCaches.nD Cert.SampleCaches.τ).loc Cert.SampleCaches.main_arg1)
      ∧ r.2.mem ((c.tc : Thread Cert.SampleCaches.nD Cert.SampleCaches.τ).loc Cert.SampleCaches.main_arg2) = m ((c.tc : Thread Cert.SampleCaches.nD Cert.SampleCaches.τ).loc Cert.SampleCaches.main_arg2)
      ∧ r.2.mem ((c.tc : Thread Cert.SampleCaches.nD Cert.SampleCaches.τ).loc Cert.SampleCaches.main_arg3) = m ((c.tc : Thread Cert.SampleCaches.nD Cert.SampleCaches.τ).loc Cert.SampleCaches.main_arg3)
      ∧ r.2.mem ((c.tc : Thread Cert.SampleCaches.nD Cert.SampleCaches.τ).loc Cert.SampleCaches.main_arg4) = m ((c.tc : Thread Cert.SampleCaches.nD Cert.SampleCaches.τ).loc Cert.SampleCaches.main_arg4))
      ∧ r.2.sem = fun _ => 0)

def quiescent_SampleCachesIdeal [hSampleCachesIdeal : Cert.SampleCachesIdeal.Facts] : Prop :=
  ∀ (m : (ℓ : Loc Cert.SampleCachesIdeal.nD Cert.SampleCachesIdeal.τ Cert.SampleCachesIdeal.sig) → Buf (Elt Ideal) ℓ) (g : Dev Cert.SampleCachesIdeal.nD → PrngReg), Pre_SampleCachesIdeal m →
    θ_run (Cert.SampleCachesIdeal.defs (F := Ideal)) (onTc (τ := Cert.SampleCachesIdeal.τ) (Cert.SampleCachesIdeal.main (F := Ideal))) ⟨m, fun _ => 0, g⟩ (fun r => (∀ c : Dev Cert.SampleCachesIdeal.nD,
      r.2.mem ((c.tc : Thread Cert.SampleCachesIdeal.nD Cert.SampleCachesIdeal.τ).loc Cert.SampleCachesIdeal.main_arg0) = m ((c.tc : Thread Cert.SampleCachesIdeal.nD Cert.SampleCachesIdeal.τ).loc Cert.SampleCachesIdeal.main_arg0)
      ∧ r.2.mem ((c.tc : Thread Cert.SampleCachesIdeal.nD Cert.SampleCachesIdeal.τ).loc Cert.SampleCachesIdeal.main_arg1) = m ((c.tc : Thread Cert.SampleCachesIdeal.nD Cert.SampleCachesIdeal.τ).loc Cert.SampleCachesIdeal.main_arg1)
      ∧ r.2.mem ((c.tc : Thread Cert.SampleCachesIdeal.nD Cert.SampleCachesIdeal.τ).loc Cert.SampleCachesIdeal.main_arg2) = m ((c.tc : Thread Cert.SampleCachesIdeal.nD Cert.SampleCachesIdeal.τ).loc Cert.SampleCachesIdeal.main_arg2)
      ∧ r.2.mem ((c.tc : Thread Cert.SampleCachesIdeal.nD Cert.SampleCachesIdeal.τ).loc Cert.SampleCachesIdeal.main_arg3) = m ((c.tc : Thread Cert.SampleCachesIdeal.nD Cert.SampleCachesIdeal.τ).loc Cert.SampleCachesIdeal.main_arg3)
      ∧ r.2.mem ((c.tc : Thread Cert.SampleCachesIdeal.nD Cert.SampleCachesIdeal.τ).loc Cert.SampleCachesIdeal.main_arg4) = m ((c.tc : Thread Cert.SampleCachesIdeal.nD Cert.SampleCachesIdeal.τ).loc Cert.SampleCachesIdeal.main_arg4))
      ∧ r.2.sem = fun _ => 0)

def quiescent_SampleCachesReferenceIdeal [hSampleCachesReferenceIdeal : Cert.SampleCachesReferenceIdeal.Facts] : Prop :=
  ∀ (m : (ℓ : Loc Cert.SampleCachesReferenceIdeal.nD Cert.SampleCachesReferenceIdeal.τ Cert.SampleCachesReferenceIdeal.sig) → Buf (Elt Ideal) ℓ) (g : Dev Cert.SampleCachesReferenceIdeal.nD → PrngReg), Pre_SampleCachesReferenceIdeal m →
    θ_run (Cert.SampleCachesReferenceIdeal.defs (F := Ideal)) (onTc (τ := Cert.SampleCachesReferenceIdeal.τ) (Cert.SampleCachesReferenceIdeal.main (F := Ideal))) ⟨m, fun _ => 0, g⟩ (fun r => (∀ c : Dev Cert.SampleCachesReferenceIdeal.nD,
      r.2.mem ((c.tc : Thread Cert.SampleCachesReferenceIdeal.nD Cert.SampleCachesReferenceIdeal.τ).loc Cert.SampleCachesReferenceIdeal.main_arg0) = m ((c.tc : Thread Cert.SampleCachesReferenceIdeal.nD Cert.SampleCachesReferenceIdeal.τ).loc Cert.SampleCachesReferenceIdeal.main_arg0)
      ∧ r.2.mem ((c.tc : Thread Cert.SampleCachesReferenceIdeal.nD Cert.SampleCachesReferenceIdeal.τ).loc Cert.SampleCachesReferenceIdeal.main_arg1) = m ((c.tc : Thread Cert.SampleCachesReferenceIdeal.nD Cert.SampleCachesReferenceIdeal.τ).loc Cert.SampleCachesReferenceIdeal.main_arg1)
      ∧ r.2.mem ((c.tc : Thread Cert.SampleCachesReferenceIdeal.nD Cert.SampleCachesReferenceIdeal.τ).loc Cert.SampleCachesReferenceIdeal.main_arg2) = m ((c.tc : Thread Cert.SampleCachesReferenceIdeal.nD Cert.SampleCachesReferenceIdeal.τ).loc Cert.SampleCachesReferenceIdeal.main_arg2)
      ∧ r.2.mem ((c.tc : Thread Cert.SampleCachesReferenceIdeal.nD Cert.SampleCachesReferenceIdeal.τ).loc Cert.SampleCachesReferenceIdeal.main_arg3) = m ((c.tc : Thread Cert.SampleCachesReferenceIdeal.nD Cert.SampleCachesReferenceIdeal.τ).loc Cert.SampleCachesReferenceIdeal.main_arg3)
      ∧ r.2.mem ((c.tc : Thread Cert.SampleCachesReferenceIdeal.nD Cert.SampleCachesReferenceIdeal.τ).loc Cert.SampleCachesReferenceIdeal.main_arg4) = m ((c.tc : Thread Cert.SampleCachesReferenceIdeal.nD Cert.SampleCachesReferenceIdeal.τ).loc Cert.SampleCachesReferenceIdeal.main_arg4))
      ∧ r.2.sem = fun _ => 0)

def quiescent_PromptCaches [hPromptCaches : Cert.PromptCaches.Facts] : Prop :=
  ∀ (m : (ℓ : Loc Cert.PromptCaches.nD Cert.PromptCaches.τ Cert.PromptCaches.sig) → Buf (Elt Bits) ℓ) (g : Dev Cert.PromptCaches.nD → PrngReg), Pre_PromptCaches m →
    θ_run (Cert.PromptCaches.defs (F := Bits)) (onTc (τ := Cert.PromptCaches.τ) (Cert.PromptCaches.main (F := Bits))) ⟨m, fun _ => 0, g⟩ (fun r => (∀ c : Dev Cert.PromptCaches.nD,
      r.2.mem ((c.tc : Thread Cert.PromptCaches.nD Cert.PromptCaches.τ).loc Cert.PromptCaches.main_arg0) = m ((c.tc : Thread Cert.PromptCaches.nD Cert.PromptCaches.τ).loc Cert.PromptCaches.main_arg0)
      ∧ r.2.mem ((c.tc : Thread Cert.PromptCaches.nD Cert.PromptCaches.τ).loc Cert.PromptCaches.main_arg1) = m ((c.tc : Thread Cert.PromptCaches.nD Cert.PromptCaches.τ).loc Cert.PromptCaches.main_arg1)
      ∧ r.2.mem ((c.tc : Thread Cert.PromptCaches.nD Cert.PromptCaches.τ).loc Cert.PromptCaches.main_arg2) = m ((c.tc : Thread Cert.PromptCaches.nD Cert.PromptCaches.τ).loc Cert.PromptCaches.main_arg2)
      ∧ r.2.mem ((c.tc : Thread Cert.PromptCaches.nD Cert.PromptCaches.τ).loc Cert.PromptCaches.main_arg3) = m ((c.tc : Thread Cert.PromptCaches.nD Cert.PromptCaches.τ).loc Cert.PromptCaches.main_arg3)
      ∧ r.2.mem ((c.tc : Thread Cert.PromptCaches.nD Cert.PromptCaches.τ).loc Cert.PromptCaches.main_arg4) = m ((c.tc : Thread Cert.PromptCaches.nD Cert.PromptCaches.τ).loc Cert.PromptCaches.main_arg4)
      ∧ r.2.mem ((c.tc : Thread Cert.PromptCaches.nD Cert.PromptCaches.τ).loc Cert.PromptCaches.main_arg5) = m ((c.tc : Thread Cert.PromptCaches.nD Cert.PromptCaches.τ).loc Cert.PromptCaches.main_arg5))
      ∧ r.2.sem = fun _ => 0)

def quiescent_PromptCachesIdeal [hPromptCachesIdeal : Cert.PromptCachesIdeal.Facts] : Prop :=
  ∀ (m : (ℓ : Loc Cert.PromptCachesIdeal.nD Cert.PromptCachesIdeal.τ Cert.PromptCachesIdeal.sig) → Buf (Elt Ideal) ℓ) (g : Dev Cert.PromptCachesIdeal.nD → PrngReg), Pre_PromptCachesIdeal m →
    θ_run (Cert.PromptCachesIdeal.defs (F := Ideal)) (onTc (τ := Cert.PromptCachesIdeal.τ) (Cert.PromptCachesIdeal.main (F := Ideal))) ⟨m, fun _ => 0, g⟩ (fun r => (∀ c : Dev Cert.PromptCachesIdeal.nD,
      r.2.mem ((c.tc : Thread Cert.PromptCachesIdeal.nD Cert.PromptCachesIdeal.τ).loc Cert.PromptCachesIdeal.main_arg0) = m ((c.tc : Thread Cert.PromptCachesIdeal.nD Cert.PromptCachesIdeal.τ).loc Cert.PromptCachesIdeal.main_arg0)
      ∧ r.2.mem ((c.tc : Thread Cert.PromptCachesIdeal.nD Cert.PromptCachesIdeal.τ).loc Cert.PromptCachesIdeal.main_arg1) = m ((c.tc : Thread Cert.PromptCachesIdeal.nD Cert.PromptCachesIdeal.τ).loc Cert.PromptCachesIdeal.main_arg1)
      ∧ r.2.mem ((c.tc : Thread Cert.PromptCachesIdeal.nD Cert.PromptCachesIdeal.τ).loc Cert.PromptCachesIdeal.main_arg2) = m ((c.tc : Thread Cert.PromptCachesIdeal.nD Cert.PromptCachesIdeal.τ).loc Cert.PromptCachesIdeal.main_arg2)
      ∧ r.2.mem ((c.tc : Thread Cert.PromptCachesIdeal.nD Cert.PromptCachesIdeal.τ).loc Cert.PromptCachesIdeal.main_arg3) = m ((c.tc : Thread Cert.PromptCachesIdeal.nD Cert.PromptCachesIdeal.τ).loc Cert.PromptCachesIdeal.main_arg3)
      ∧ r.2.mem ((c.tc : Thread Cert.PromptCachesIdeal.nD Cert.PromptCachesIdeal.τ).loc Cert.PromptCachesIdeal.main_arg4) = m ((c.tc : Thread Cert.PromptCachesIdeal.nD Cert.PromptCachesIdeal.τ).loc Cert.PromptCachesIdeal.main_arg4)
      ∧ r.2.mem ((c.tc : Thread Cert.PromptCachesIdeal.nD Cert.PromptCachesIdeal.τ).loc Cert.PromptCachesIdeal.main_arg5) = m ((c.tc : Thread Cert.PromptCachesIdeal.nD Cert.PromptCachesIdeal.τ).loc Cert.PromptCachesIdeal.main_arg5))
      ∧ r.2.sem = fun _ => 0)

def quiescent_PromptCachesReferenceIdeal [hPromptCachesReferenceIdeal : Cert.PromptCachesReferenceIdeal.Facts] : Prop :=
  ∀ (m : (ℓ : Loc Cert.PromptCachesReferenceIdeal.nD Cert.PromptCachesReferenceIdeal.τ Cert.PromptCachesReferenceIdeal.sig) → Buf (Elt Ideal) ℓ) (g : Dev Cert.PromptCachesReferenceIdeal.nD → PrngReg), Pre_PromptCachesReferenceIdeal m →
    θ_run (Cert.PromptCachesReferenceIdeal.defs (F := Ideal)) (onTc (τ := Cert.PromptCachesReferenceIdeal.τ) (Cert.PromptCachesReferenceIdeal.main (F := Ideal))) ⟨m, fun _ => 0, g⟩ (fun r => (∀ c : Dev Cert.PromptCachesReferenceIdeal.nD,
      r.2.mem ((c.tc : Thread Cert.PromptCachesReferenceIdeal.nD Cert.PromptCachesReferenceIdeal.τ).loc Cert.PromptCachesReferenceIdeal.main_arg0) = m ((c.tc : Thread Cert.PromptCachesReferenceIdeal.nD Cert.PromptCachesReferenceIdeal.τ).loc Cert.PromptCachesReferenceIdeal.main_arg0)
      ∧ r.2.mem ((c.tc : Thread Cert.PromptCachesReferenceIdeal.nD Cert.PromptCachesReferenceIdeal.τ).loc Cert.PromptCachesReferenceIdeal.main_arg1) = m ((c.tc : Thread Cert.PromptCachesReferenceIdeal.nD Cert.PromptCachesReferenceIdeal.τ).loc Cert.PromptCachesReferenceIdeal.main_arg1)
      ∧ r.2.mem ((c.tc : Thread Cert.PromptCachesReferenceIdeal.nD Cert.PromptCachesReferenceIdeal.τ).loc Cert.PromptCachesReferenceIdeal.main_arg2) = m ((c.tc : Thread Cert.PromptCachesReferenceIdeal.nD Cert.PromptCachesReferenceIdeal.τ).loc Cert.PromptCachesReferenceIdeal.main_arg2)
      ∧ r.2.mem ((c.tc : Thread Cert.PromptCachesReferenceIdeal.nD Cert.PromptCachesReferenceIdeal.τ).loc Cert.PromptCachesReferenceIdeal.main_arg3) = m ((c.tc : Thread Cert.PromptCachesReferenceIdeal.nD Cert.PromptCachesReferenceIdeal.τ).loc Cert.PromptCachesReferenceIdeal.main_arg3)
      ∧ r.2.mem ((c.tc : Thread Cert.PromptCachesReferenceIdeal.nD Cert.PromptCachesReferenceIdeal.τ).loc Cert.PromptCachesReferenceIdeal.main_arg4) = m ((c.tc : Thread Cert.PromptCachesReferenceIdeal.nD Cert.PromptCachesReferenceIdeal.τ).loc Cert.PromptCachesReferenceIdeal.main_arg4)
      ∧ r.2.mem ((c.tc : Thread Cert.PromptCachesReferenceIdeal.nD Cert.PromptCachesReferenceIdeal.τ).loc Cert.PromptCachesReferenceIdeal.main_arg5) = m ((c.tc : Thread Cert.PromptCachesReferenceIdeal.nD Cert.PromptCachesReferenceIdeal.τ).loc Cert.PromptCachesReferenceIdeal.main_arg5))
      ∧ r.2.sem = fun _ => 0)

def quiescent_FinishSample [hFinishSample : Cert.FinishSample.Facts] : Prop :=
  ∀ (m : (ℓ : Loc Cert.FinishSample.nD Cert.FinishSample.τ Cert.FinishSample.sig) → Buf (Elt Bits) ℓ) (g : Dev Cert.FinishSample.nD → PrngReg), Pre_FinishSample m →
    θ_run (Cert.FinishSample.defs (F := Bits)) (onTc (τ := Cert.FinishSample.τ) (Cert.FinishSample.main (F := Bits))) ⟨m, fun _ => 0, g⟩ (fun r => (∀ c : Dev Cert.FinishSample.nD,
      r.2.mem ((c.tc : Thread Cert.FinishSample.nD Cert.FinishSample.τ).loc Cert.FinishSample.main_arg0) = m ((c.tc : Thread Cert.FinishSample.nD Cert.FinishSample.τ).loc Cert.FinishSample.main_arg0)
      ∧ r.2.mem ((c.tc : Thread Cert.FinishSample.nD Cert.FinishSample.τ).loc Cert.FinishSample.main_arg1) = m ((c.tc : Thread Cert.FinishSample.nD Cert.FinishSample.τ).loc Cert.FinishSample.main_arg1)
      ∧ r.2.mem ((c.tc : Thread Cert.FinishSample.nD Cert.FinishSample.τ).loc Cert.FinishSample.main_arg2) = m ((c.tc : Thread Cert.FinishSample.nD Cert.FinishSample.τ).loc Cert.FinishSample.main_arg2)
      ∧ r.2.mem ((c.tc : Thread Cert.FinishSample.nD Cert.FinishSample.τ).loc Cert.FinishSample.main_arg3) = m ((c.tc : Thread Cert.FinishSample.nD Cert.FinishSample.τ).loc Cert.FinishSample.main_arg3)
      ∧ r.2.mem ((c.tc : Thread Cert.FinishSample.nD Cert.FinishSample.τ).loc Cert.FinishSample.main_arg4) = m ((c.tc : Thread Cert.FinishSample.nD Cert.FinishSample.τ).loc Cert.FinishSample.main_arg4)
      ∧ r.2.mem ((c.tc : Thread Cert.FinishSample.nD Cert.FinishSample.τ).loc Cert.FinishSample.main_arg5) = m ((c.tc : Thread Cert.FinishSample.nD Cert.FinishSample.τ).loc Cert.FinishSample.main_arg5)
      ∧ r.2.mem ((c.tc : Thread Cert.FinishSample.nD Cert.FinishSample.τ).loc Cert.FinishSample.main_arg6) = m ((c.tc : Thread Cert.FinishSample.nD Cert.FinishSample.τ).loc Cert.FinishSample.main_arg6)
      ∧ r.2.mem ((c.tc : Thread Cert.FinishSample.nD Cert.FinishSample.τ).loc Cert.FinishSample.main_arg7) = m ((c.tc : Thread Cert.FinishSample.nD Cert.FinishSample.τ).loc Cert.FinishSample.main_arg7))
      ∧ r.2.sem = fun _ => 0)

def quiescent_FinishSampleIdeal [hFinishSampleIdeal : Cert.FinishSampleIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg), Pre_FinishSampleIdeal m →
    θ_run (Cert.FinishSampleIdeal.defs (F := Ideal)) (onTc (τ := Cert.FinishSampleIdeal.τ) (Cert.FinishSampleIdeal.main (F := Ideal))) ⟨m, fun _ => 0, g⟩ (fun r => (∀ c : Dev Cert.FinishSampleIdeal.nD,
      r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
      ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
      ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
      ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
      ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
      ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
      ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
      ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7))
      ∧ r.2.sem = fun _ => 0)

def quiescent_FinishSampleReferenceIdeal [hFinishSampleReferenceIdeal : Cert.FinishSampleReferenceIdeal.Facts] : Prop :=
  ∀ (m : (ℓ : Loc Cert.FinishSampleReferenceIdeal.nD Cert.FinishSampleReferenceIdeal.τ Cert.FinishSampleReferenceIdeal.sig) → Buf (Elt Ideal) ℓ) (g : Dev Cert.FinishSampleReferenceIdeal.nD → PrngReg), Pre_FinishSampleReferenceIdeal m →
    θ_run (Cert.FinishSampleReferenceIdeal.defs (F := Ideal)) (onTc (τ := Cert.FinishSampleReferenceIdeal.τ) (Cert.FinishSampleReferenceIdeal.main (F := Ideal))) ⟨m, fun _ => 0, g⟩ (fun r => (∀ c : Dev Cert.FinishSampleReferenceIdeal.nD,
      r.2.mem ((c.tc : Thread Cert.FinishSampleReferenceIdeal.nD Cert.FinishSampleReferenceIdeal.τ).loc Cert.FinishSampleReferenceIdeal.main_arg0) = m ((c.tc : Thread Cert.FinishSampleReferenceIdeal.nD Cert.FinishSampleReferenceIdeal.τ).loc Cert.FinishSampleReferenceIdeal.main_arg0)
      ∧ r.2.mem ((c.tc : Thread Cert.FinishSampleReferenceIdeal.nD Cert.FinishSampleReferenceIdeal.τ).loc Cert.FinishSampleReferenceIdeal.main_arg1) = m ((c.tc : Thread Cert.FinishSampleReferenceIdeal.nD Cert.FinishSampleReferenceIdeal.τ).loc Cert.FinishSampleReferenceIdeal.main_arg1)
      ∧ r.2.mem ((c.tc : Thread Cert.FinishSampleReferenceIdeal.nD Cert.FinishSampleReferenceIdeal.τ).loc Cert.FinishSampleReferenceIdeal.main_arg2) = m ((c.tc : Thread Cert.FinishSampleReferenceIdeal.nD Cert.FinishSampleReferenceIdeal.τ).loc Cert.FinishSampleReferenceIdeal.main_arg2)
      ∧ r.2.mem ((c.tc : Thread Cert.FinishSampleReferenceIdeal.nD Cert.FinishSampleReferenceIdeal.τ).loc Cert.FinishSampleReferenceIdeal.main_arg3) = m ((c.tc : Thread Cert.FinishSampleReferenceIdeal.nD Cert.FinishSampleReferenceIdeal.τ).loc Cert.FinishSampleReferenceIdeal.main_arg3)
      ∧ r.2.mem ((c.tc : Thread Cert.FinishSampleReferenceIdeal.nD Cert.FinishSampleReferenceIdeal.τ).loc Cert.FinishSampleReferenceIdeal.main_arg4) = m ((c.tc : Thread Cert.FinishSampleReferenceIdeal.nD Cert.FinishSampleReferenceIdeal.τ).loc Cert.FinishSampleReferenceIdeal.main_arg4)
      ∧ r.2.mem ((c.tc : Thread Cert.FinishSampleReferenceIdeal.nD Cert.FinishSampleReferenceIdeal.τ).loc Cert.FinishSampleReferenceIdeal.main_arg5) = m ((c.tc : Thread Cert.FinishSampleReferenceIdeal.nD Cert.FinishSampleReferenceIdeal.τ).loc Cert.FinishSampleReferenceIdeal.main_arg5)
      ∧ r.2.mem ((c.tc : Thread Cert.FinishSampleReferenceIdeal.nD Cert.FinishSampleReferenceIdeal.τ).loc Cert.FinishSampleReferenceIdeal.main_arg6) = m ((c.tc : Thread Cert.FinishSampleReferenceIdeal.nD Cert.FinishSampleReferenceIdeal.τ).loc Cert.FinishSampleReferenceIdeal.main_arg6)
      ∧ r.2.mem ((c.tc : Thread Cert.FinishSampleReferenceIdeal.nD Cert.FinishSampleReferenceIdeal.τ).loc Cert.FinishSampleReferenceIdeal.main_arg7) = m ((c.tc : Thread Cert.FinishSampleReferenceIdeal.nD Cert.FinishSampleReferenceIdeal.τ).loc Cert.FinishSampleReferenceIdeal.main_arg7))
      ∧ r.2.sem = fun _ => 0)

def preserves_FinishKernel_FinishKernelIdeal : Prop :=
  True

def algebraic_FinishKernelIdeal_FinishReferenceIdeal [hFinishKernelIdeal : Cert.FinishKernelIdeal.Facts] [hFinishReferenceIdeal : Cert.FinishReferenceIdeal.Facts] : Prop :=
  ∀ (m : (ℓ : Loc Cert.FinishKernelIdeal.nD Cert.FinishKernelIdeal.τ Cert.FinishKernelIdeal.sig) → Buf (Elt Ideal) ℓ) (g : Dev Cert.FinishKernelIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishKernelIdeal m →
    (∀ c : Dev Cert.FinishKernelIdeal.nD,
      m' ((c.tc : Thread Cert.FinishReferenceIdeal.nD Cert.FinishReferenceIdeal.τ).loc Cert.FinishReferenceIdeal.main_arg0) = m ((c.tc : Thread Cert.FinishKernelIdeal.nD Cert.FinishKernelIdeal.τ).loc Cert.FinishKernelIdeal.main_arg0)
      ∧ m' ((c.tc : Thread Cert.FinishReferenceIdeal.nD Cert.FinishReferenceIdeal.τ).loc Cert.FinishReferenceIdeal.main_arg1) = m ((c.tc : Thread Cert.FinishKernelIdeal.nD Cert.FinishKernelIdeal.τ).loc Cert.FinishKernelIdeal.main_arg1)
      ∧ m' ((c.tc : Thread Cert.FinishReferenceIdeal.nD Cert.FinishReferenceIdeal.τ).loc Cert.FinishReferenceIdeal.main_arg2) = m ((c.tc : Thread Cert.FinishKernelIdeal.nD Cert.FinishKernelIdeal.τ).loc Cert.FinishKernelIdeal.main_arg2)
      ∧ m' ((c.tc : Thread Cert.FinishReferenceIdeal.nD Cert.FinishReferenceIdeal.τ).loc Cert.FinishReferenceIdeal.main_arg3) = m ((c.tc : Thread Cert.FinishKernelIdeal.nD Cert.FinishKernelIdeal.τ).loc Cert.FinishKernelIdeal.main_arg3)
      ∧ m' ((c.tc : Thread Cert.FinishReferenceIdeal.nD Cert.FinishReferenceIdeal.τ).loc Cert.FinishReferenceIdeal.main_arg4) = m ((c.tc : Thread Cert.FinishKernelIdeal.nD Cert.FinishKernelIdeal.τ).loc Cert.FinishKernelIdeal.main_arg4)
      ∧ m' ((c.tc : Thread Cert.FinishReferenceIdeal.nD Cert.FinishReferenceIdeal.τ).loc Cert.FinishReferenceIdeal.main_arg5) = m ((c.tc : Thread Cert.FinishKernelIdeal.nD Cert.FinishKernelIdeal.τ).loc Cert.FinishKernelIdeal.main_arg5)
      ∧ m' ((c.tc : Thread Cert.FinishReferenceIdeal.nD Cert.FinishReferenceIdeal.τ).loc Cert.FinishReferenceIdeal.main_arg6) = m ((c.tc : Thread Cert.FinishKernelIdeal.nD Cert.FinishKernelIdeal.τ).loc Cert.FinishKernelIdeal.main_arg6)
      ∧ m' ((c.tc : Thread Cert.FinishReferenceIdeal.nD Cert.FinishReferenceIdeal.τ).loc Cert.FinishReferenceIdeal.main_arg7) = m ((c.tc : Thread Cert.FinishKernelIdeal.nD Cert.FinishKernelIdeal.τ).loc Cert.FinishKernelIdeal.main_arg7)) →
    ∃ (v0 : (c : Dev Cert.FinishKernelIdeal.nD) → Buf (Elt Ideal) ((c.tc : Thread Cert.FinishKernelIdeal.nD Cert.FinishKernelIdeal.τ).loc Cert.FinishKernelIdeal.main_v10)),
      θ_run (Cert.FinishKernelIdeal.defs (F := Ideal)) (onTc (τ := Cert.FinishKernelIdeal.τ) (Cert.FinishKernelIdeal.main (F := Ideal))) ⟨m, fun _ => 0, g⟩ (fun r => ∀ c : Dev Cert.FinishKernelIdeal.nD,
          r.2.mem ((c.tc : Thread Cert.FinishKernelIdeal.nD Cert.FinishKernelIdeal.τ).loc Cert.FinishKernelIdeal.main_v10) = v0 c
          ∧ r.2.mem ((c.tc : Thread Cert.FinishKernelIdeal.nD Cert.FinishKernelIdeal.τ).loc Cert.FinishKernelIdeal.main_arg0) = m ((c.tc : Thread Cert.FinishKernelIdeal.nD Cert.FinishKernelIdeal.τ).loc Cert.FinishKernelIdeal.main_arg0)
          ∧ r.2.mem ((c.tc : Thread Cert.FinishKernelIdeal.nD Cert.FinishKernelIdeal.τ).loc Cert.FinishKernelIdeal.main_arg1) = m ((c.tc : Thread Cert.FinishKernelIdeal.nD Cert.FinishKernelIdeal.τ).loc Cert.FinishKernelIdeal.main_arg1)
          ∧ r.2.mem ((c.tc : Thread Cert.FinishKernelIdeal.nD Cert.FinishKernelIdeal.τ).loc Cert.FinishKernelIdeal.main_arg2) = m ((c.tc : Thread Cert.FinishKernelIdeal.nD Cert.FinishKernelIdeal.τ).loc Cert.FinishKernelIdeal.main_arg2)
          ∧ r.2.mem ((c.tc : Thread Cert.FinishKernelIdeal.nD Cert.FinishKernelIdeal.τ).loc Cert.FinishKernelIdeal.main_arg3) = m ((c.tc : Thread Cert.FinishKernelIdeal.nD Cert.FinishKernelIdeal.τ).loc Cert.FinishKernelIdeal.main_arg3)
          ∧ r.2.mem ((c.tc : Thread Cert.FinishKernelIdeal.nD Cert.FinishKernelIdeal.τ).loc Cert.FinishKernelIdeal.main_arg4) = m ((c.tc : Thread Cert.FinishKernelIdeal.nD Cert.FinishKernelIdeal.τ).loc Cert.FinishKernelIdeal.main_arg4)
          ∧ r.2.mem ((c.tc : Thread Cert.FinishKernelIdeal.nD Cert.FinishKernelIdeal.τ).loc Cert.FinishKernelIdeal.main_arg5) = m ((c.tc : Thread Cert.FinishKernelIdeal.nD Cert.FinishKernelIdeal.τ).loc Cert.FinishKernelIdeal.main_arg5)
          ∧ r.2.mem ((c.tc : Thread Cert.FinishKernelIdeal.nD Cert.FinishKernelIdeal.τ).loc Cert.FinishKernelIdeal.main_arg6) = m ((c.tc : Thread Cert.FinishKernelIdeal.nD Cert.FinishKernelIdeal.τ).loc Cert.FinishKernelIdeal.main_arg6)
          ∧ r.2.mem ((c.tc : Thread Cert.FinishKernelIdeal.nD Cert.FinishKernelIdeal.τ).loc Cert.FinishKernelIdeal.main_arg7) = m ((c.tc : Thread Cert.FinishKernelIdeal.nD Cert.FinishKernelIdeal.τ).loc Cert.FinishKernelIdeal.main_arg7))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v39) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7))

def preserves_SampleCaches_SampleCachesIdeal : Prop :=
  True

def algebraic_SampleCachesIdeal_SampleCachesReferenceIdeal [hSampleCachesIdeal : Cert.SampleCachesIdeal.Facts] [hSampleCachesReferenceIdeal : Cert.SampleCachesReferenceIdeal.Facts] : Prop :=
  ∀ (m : (ℓ : Loc Cert.SampleCachesIdeal.nD Cert.SampleCachesIdeal.τ Cert.SampleCachesIdeal.sig) → Buf (Elt Ideal) ℓ) (g : Dev Cert.SampleCachesIdeal.nD → PrngReg)
    (m' : (ℓ : Loc Cert.SampleCachesReferenceIdeal.nD Cert.SampleCachesReferenceIdeal.τ Cert.SampleCachesReferenceIdeal.sig) → Buf (Elt Ideal) ℓ) (g' : Dev Cert.SampleCachesReferenceIdeal.nD → PrngReg), Pre_SampleCachesIdeal m →
    (∀ c : Dev Cert.SampleCachesIdeal.nD,
      m' ((c.tc : Thread Cert.SampleCachesReferenceIdeal.nD Cert.SampleCachesReferenceIdeal.τ).loc Cert.SampleCachesReferenceIdeal.main_arg0) = m ((c.tc : Thread Cert.SampleCachesIdeal.nD Cert.SampleCachesIdeal.τ).loc Cert.SampleCachesIdeal.main_arg0)
      ∧ m' ((c.tc : Thread Cert.SampleCachesReferenceIdeal.nD Cert.SampleCachesReferenceIdeal.τ).loc Cert.SampleCachesReferenceIdeal.main_arg1) = m ((c.tc : Thread Cert.SampleCachesIdeal.nD Cert.SampleCachesIdeal.τ).loc Cert.SampleCachesIdeal.main_arg1)
      ∧ m' ((c.tc : Thread Cert.SampleCachesReferenceIdeal.nD Cert.SampleCachesReferenceIdeal.τ).loc Cert.SampleCachesReferenceIdeal.main_arg2) = m ((c.tc : Thread Cert.SampleCachesIdeal.nD Cert.SampleCachesIdeal.τ).loc Cert.SampleCachesIdeal.main_arg2)
      ∧ m' ((c.tc : Thread Cert.SampleCachesReferenceIdeal.nD Cert.SampleCachesReferenceIdeal.τ).loc Cert.SampleCachesReferenceIdeal.main_arg3) = m ((c.tc : Thread Cert.SampleCachesIdeal.nD Cert.SampleCachesIdeal.τ).loc Cert.SampleCachesIdeal.main_arg3)
      ∧ m' ((c.tc : Thread Cert.SampleCachesReferenceIdeal.nD Cert.SampleCachesReferenceIdeal.τ).loc Cert.SampleCachesReferenceIdeal.main_arg4) = m ((c.tc : Thread Cert.SampleCachesIdeal.nD Cert.SampleCachesIdeal.τ).loc Cert.SampleCachesIdeal.main_arg4)) →
    ∃ (v0 : (c : Dev Cert.SampleCachesIdeal.nD) → Buf (Elt Ideal) ((c.tc : Thread Cert.SampleCachesIdeal.nD Cert.SampleCachesIdeal.τ).loc Cert.SampleCachesIdeal.main_v23)) (v1 : (c : Dev Cert.SampleCachesIdeal.nD) → Buf (Elt Ideal) ((c.tc : Thread Cert.SampleCachesIdeal.nD Cert.SampleCachesIdeal.τ).loc Cert.SampleCachesIdeal.main_v25)) (v2 : (c : Dev Cert.SampleCachesIdeal.nD) → Buf (Elt Ideal) ((c.tc : Thread Cert.SampleCachesIdeal.nD Cert.SampleCachesIdeal.τ).loc Cert.SampleCachesIdeal.main_v27)) (v3 : (c : Dev Cert.SampleCachesIdeal.nD) → Buf (Elt Ideal) ((c.tc : Thread Cert.SampleCachesIdeal.nD Cert.SampleCachesIdeal.τ).loc Cert.SampleCachesIdeal.main_v28)) (v4 : (c : Dev Cert.SampleCachesIdeal.nD) → Buf (Elt Ideal) ((c.tc : Thread Cert.SampleCachesIdeal.nD Cert.SampleCachesIdeal.τ).loc Cert.SampleCachesIdeal.main_v29)),
      θ_run (Cert.SampleCachesIdeal.defs (F := Ideal)) (onTc (τ := Cert.SampleCachesIdeal.τ) (Cert.SampleCachesIdeal.main (F := Ideal))) ⟨m, fun _ => 0, g⟩ (fun r => ∀ c : Dev Cert.SampleCachesIdeal.nD,
          r.2.mem ((c.tc : Thread Cert.SampleCachesIdeal.nD Cert.SampleCachesIdeal.τ).loc Cert.SampleCachesIdeal.main_v23) = v0 c
          ∧ r.2.mem ((c.tc : Thread Cert.SampleCachesIdeal.nD Cert.SampleCachesIdeal.τ).loc Cert.SampleCachesIdeal.main_v25) = v1 c
          ∧ r.2.mem ((c.tc : Thread Cert.SampleCachesIdeal.nD Cert.SampleCachesIdeal.τ).loc Cert.SampleCachesIdeal.main_v27) = v2 c
          ∧ r.2.mem ((c.tc : Thread Cert.SampleCachesIdeal.nD Cert.SampleCachesIdeal.τ).loc Cert.SampleCachesIdeal.main_v28) = v3 c
          ∧ r.2.mem ((c.tc : Thread Cert.SampleCachesIdeal.nD Cert.SampleCachesIdeal.τ).loc Cert.SampleCachesIdeal.main_v29) = v4 c
          ∧ r.2.mem ((c.tc : Thread Cert.SampleCachesIdeal.nD Cert.SampleCachesIdeal.τ).loc Cert.SampleCachesIdeal.main_arg0) = m ((c.tc : Thread Cert.SampleCachesIdeal.nD Cert.SampleCachesIdeal.τ).loc Cert.SampleCachesIdeal.main_arg0)
          ∧ r.2.mem ((c.tc : Thread Cert.SampleCachesIdeal.nD Cert.SampleCachesIdeal.τ).loc Cert.SampleCachesIdeal.main_arg1) = m ((c.tc : Thread Cert.SampleCachesIdeal.nD Cert.SampleCachesIdeal.τ).loc Cert.SampleCachesIdeal.main_arg1)
          ∧ r.2.mem ((c.tc : Thread Cert.SampleCachesIdeal.nD Cert.SampleCachesIdeal.τ).loc Cert.SampleCachesIdeal.main_arg2) = m ((c.tc : Thread Cert.SampleCachesIdeal.nD Cert.SampleCachesIdeal.τ).loc Cert.SampleCachesIdeal.main_arg2)
          ∧ r.2.mem ((c.tc : Thread Cert.SampleCachesIdeal.nD Cert.SampleCachesIdeal.τ).loc Cert.SampleCachesIdeal.main_arg3) = m ((c.tc : Thread Cert.SampleCachesIdeal.nD Cert.SampleCachesIdeal.τ).loc Cert.SampleCachesIdeal.main_arg3)
          ∧ r.2.mem ((c.tc : Thread Cert.SampleCachesIdeal.nD Cert.SampleCachesIdeal.τ).loc Cert.SampleCachesIdeal.main_arg4) = m ((c.tc : Thread Cert.SampleCachesIdeal.nD Cert.SampleCachesIdeal.τ).loc Cert.SampleCachesIdeal.main_arg4))
      ∧ θ_run (Cert.SampleCachesReferenceIdeal.defs (F := Ideal)) (onTc (τ := Cert.SampleCachesReferenceIdeal.τ) (Cert.SampleCachesReferenceIdeal.main (F := Ideal))) ⟨m', fun _ => 0, g'⟩ (fun r => ∀ c : Dev Cert.SampleCachesReferenceIdeal.nD,
          r.2.mem ((c.tc : Thread Cert.SampleCachesReferenceIdeal.nD Cert.SampleCachesReferenceIdeal.τ).loc Cert.SampleCachesReferenceIdeal.main_v47) = v0 c
          ∧ r.2.mem ((c.tc : Thread Cert.SampleCachesReferenceIdeal.nD Cert.SampleCachesReferenceIdeal.τ).loc Cert.SampleCachesReferenceIdeal.main_v48) = v1 c
          ∧ r.2.mem ((c.tc : Thread Cert.SampleCachesReferenceIdeal.nD Cert.SampleCachesReferenceIdeal.τ).loc Cert.SampleCachesReferenceIdeal.main_v49) = v2 c
          ∧ r.2.mem ((c.tc : Thread Cert.SampleCachesReferenceIdeal.nD Cert.SampleCachesReferenceIdeal.τ).loc Cert.SampleCachesReferenceIdeal.main_v50) = v3 c
          ∧ r.2.mem ((c.tc : Thread Cert.SampleCachesReferenceIdeal.nD Cert.SampleCachesReferenceIdeal.τ).loc Cert.SampleCachesReferenceIdeal.main_v51) = v4 c
          ∧ r.2.mem ((c.tc : Thread Cert.SampleCachesReferenceIdeal.nD Cert.SampleCachesReferenceIdeal.τ).loc Cert.SampleCachesReferenceIdeal.main_arg0) = m' ((c.tc : Thread Cert.SampleCachesReferenceIdeal.nD Cert.SampleCachesReferenceIdeal.τ).loc Cert.SampleCachesReferenceIdeal.main_arg0)
          ∧ r.2.mem ((c.tc : Thread Cert.SampleCachesReferenceIdeal.nD Cert.SampleCachesReferenceIdeal.τ).loc Cert.SampleCachesReferenceIdeal.main_arg1) = m' ((c.tc : Thread Cert.SampleCachesReferenceIdeal.nD Cert.SampleCachesReferenceIdeal.τ).loc Cert.SampleCachesReferenceIdeal.main_arg1)
          ∧ r.2.mem ((c.tc : Thread Cert.SampleCachesReferenceIdeal.nD Cert.SampleCachesReferenceIdeal.τ).loc Cert.SampleCachesReferenceIdeal.main_arg2) = m' ((c.tc : Thread Cert.SampleCachesReferenceIdeal.nD Cert.SampleCachesReferenceIdeal.τ).loc Cert.SampleCachesReferenceIdeal.main_arg2)
          ∧ r.2.mem ((c.tc : Thread Cert.SampleCachesReferenceIdeal.nD Cert.SampleCachesReferenceIdeal.τ).loc Cert.SampleCachesReferenceIdeal.main_arg3) = m' ((c.tc : Thread Cert.SampleCachesReferenceIdeal.nD Cert.SampleCachesReferenceIdeal.τ).loc Cert.SampleCachesReferenceIdeal.main_arg3)
          ∧ r.2.mem ((c.tc : Thread Cert.SampleCachesReferenceIdeal.nD Cert.SampleCachesReferenceIdeal.τ).loc Cert.SampleCachesReferenceIdeal.main_arg4) = m' ((c.tc : Thread Cert.SampleCachesReferenceIdeal.nD Cert.SampleCachesReferenceIdeal.τ).loc Cert.SampleCachesReferenceIdeal.main_arg4))

def preserves_PromptCaches_PromptCachesIdeal : Prop :=
  True

def algebraic_PromptCachesIdeal_PromptCachesReferenceIdeal [hPromptCachesIdeal : Cert.PromptCachesIdeal.Facts] [hPromptCachesReferenceIdeal : Cert.PromptCachesReferenceIdeal.Facts] : Prop :=
  ∀ (m : (ℓ : Loc Cert.PromptCachesIdeal.nD Cert.PromptCachesIdeal.τ Cert.PromptCachesIdeal.sig) → Buf (Elt Ideal) ℓ) (g : Dev Cert.PromptCachesIdeal.nD → PrngReg)
    (m' : (ℓ : Loc Cert.PromptCachesReferenceIdeal.nD Cert.PromptCachesReferenceIdeal.τ Cert.PromptCachesReferenceIdeal.sig) → Buf (Elt Ideal) ℓ) (g' : Dev Cert.PromptCachesReferenceIdeal.nD → PrngReg), Pre_PromptCachesIdeal m →
    (∀ c : Dev Cert.PromptCachesIdeal.nD,
      m' ((c.tc : Thread Cert.PromptCachesReferenceIdeal.nD Cert.PromptCachesReferenceIdeal.τ).loc Cert.PromptCachesReferenceIdeal.main_arg0) = m ((c.tc : Thread Cert.PromptCachesIdeal.nD Cert.PromptCachesIdeal.τ).loc Cert.PromptCachesIdeal.main_arg0)
      ∧ m' ((c.tc : Thread Cert.PromptCachesReferenceIdeal.nD Cert.PromptCachesReferenceIdeal.τ).loc Cert.PromptCachesReferenceIdeal.main_arg1) = m ((c.tc : Thread Cert.PromptCachesIdeal.nD Cert.PromptCachesIdeal.τ).loc Cert.PromptCachesIdeal.main_arg1)
      ∧ m' ((c.tc : Thread Cert.PromptCachesReferenceIdeal.nD Cert.PromptCachesReferenceIdeal.τ).loc Cert.PromptCachesReferenceIdeal.main_arg2) = m ((c.tc : Thread Cert.PromptCachesIdeal.nD Cert.PromptCachesIdeal.τ).loc Cert.PromptCachesIdeal.main_arg2)
      ∧ m' ((c.tc : Thread Cert.PromptCachesReferenceIdeal.nD Cert.PromptCachesReferenceIdeal.τ).loc Cert.PromptCachesReferenceIdeal.main_arg3) = m ((c.tc : Thread Cert.PromptCachesIdeal.nD Cert.PromptCachesIdeal.τ).loc Cert.PromptCachesIdeal.main_arg3)
      ∧ m' ((c.tc : Thread Cert.PromptCachesReferenceIdeal.nD Cert.PromptCachesReferenceIdeal.τ).loc Cert.PromptCachesReferenceIdeal.main_arg4) = m ((c.tc : Thread Cert.PromptCachesIdeal.nD Cert.PromptCachesIdeal.τ).loc Cert.PromptCachesIdeal.main_arg4)
      ∧ m' ((c.tc : Thread Cert.PromptCachesReferenceIdeal.nD Cert.PromptCachesReferenceIdeal.τ).loc Cert.PromptCachesReferenceIdeal.main_arg5) = m ((c.tc : Thread Cert.PromptCachesIdeal.nD Cert.PromptCachesIdeal.τ).loc Cert.PromptCachesIdeal.main_arg5)) →
    ∃ (v0 : (c : Dev Cert.PromptCachesIdeal.nD) → Buf (Elt Ideal) ((c.tc : Thread Cert.PromptCachesIdeal.nD Cert.PromptCachesIdeal.τ).loc Cert.PromptCachesIdeal.main_v30)) (v1 : (c : Dev Cert.PromptCachesIdeal.nD) → Buf (Elt Ideal) ((c.tc : Thread Cert.PromptCachesIdeal.nD Cert.PromptCachesIdeal.τ).loc Cert.PromptCachesIdeal.main_v38)) (v2 : (c : Dev Cert.PromptCachesIdeal.nD) → Buf (Elt Ideal) ((c.tc : Thread Cert.PromptCachesIdeal.nD Cert.PromptCachesIdeal.τ).loc Cert.PromptCachesIdeal.main_v46)) (v3 : (c : Dev Cert.PromptCachesIdeal.nD) → Buf (Elt Ideal) ((c.tc : Thread Cert.PromptCachesIdeal.nD Cert.PromptCachesIdeal.τ).loc Cert.PromptCachesIdeal.main_v53)) (v4 : (c : Dev Cert.PromptCachesIdeal.nD) → Buf (Elt Ideal) ((c.tc : Thread Cert.PromptCachesIdeal.nD Cert.PromptCachesIdeal.τ).loc Cert.PromptCachesIdeal.main_v58)),
      θ_run (Cert.PromptCachesIdeal.defs (F := Ideal)) (onTc (τ := Cert.PromptCachesIdeal.τ) (Cert.PromptCachesIdeal.main (F := Ideal))) ⟨m, fun _ => 0, g⟩ (fun r => ∀ c : Dev Cert.PromptCachesIdeal.nD,
          r.2.mem ((c.tc : Thread Cert.PromptCachesIdeal.nD Cert.PromptCachesIdeal.τ).loc Cert.PromptCachesIdeal.main_v30) = v0 c
          ∧ r.2.mem ((c.tc : Thread Cert.PromptCachesIdeal.nD Cert.PromptCachesIdeal.τ).loc Cert.PromptCachesIdeal.main_v38) = v1 c
          ∧ r.2.mem ((c.tc : Thread Cert.PromptCachesIdeal.nD Cert.PromptCachesIdeal.τ).loc Cert.PromptCachesIdeal.main_v46) = v2 c
          ∧ r.2.mem ((c.tc : Thread Cert.PromptCachesIdeal.nD Cert.PromptCachesIdeal.τ).loc Cert.PromptCachesIdeal.main_v53) = v3 c
          ∧ r.2.mem ((c.tc : Thread Cert.PromptCachesIdeal.nD Cert.PromptCachesIdeal.τ).loc Cert.PromptCachesIdeal.main_v58) = v4 c
          ∧ r.2.mem ((c.tc : Thread Cert.PromptCachesIdeal.nD Cert.PromptCachesIdeal.τ).loc Cert.PromptCachesIdeal.main_arg0) = m ((c.tc : Thread Cert.PromptCachesIdeal.nD Cert.PromptCachesIdeal.τ).loc Cert.PromptCachesIdeal.main_arg0)
          ∧ r.2.mem ((c.tc : Thread Cert.PromptCachesIdeal.nD Cert.PromptCachesIdeal.τ).loc Cert.PromptCachesIdeal.main_arg1) = m ((c.tc : Thread Cert.PromptCachesIdeal.nD Cert.PromptCachesIdeal.τ).loc Cert.PromptCachesIdeal.main_arg1)
          ∧ r.2.mem ((c.tc : Thread Cert.PromptCachesIdeal.nD Cert.PromptCachesIdeal.τ).loc Cert.PromptCachesIdeal.main_arg2) = m ((c.tc : Thread Cert.PromptCachesIdeal.nD Cert.PromptCachesIdeal.τ).loc Cert.PromptCachesIdeal.main_arg2)
          ∧ r.2.mem ((c.tc : Thread Cert.PromptCachesIdeal.nD Cert.PromptCachesIdeal.τ).loc Cert.PromptCachesIdeal.main_arg3) = m ((c.tc : Thread Cert.PromptCachesIdeal.nD Cert.PromptCachesIdeal.τ).loc Cert.PromptCachesIdeal.main_arg3)
          ∧ r.2.mem ((c.tc : Thread Cert.PromptCachesIdeal.nD Cert.PromptCachesIdeal.τ).loc Cert.PromptCachesIdeal.main_arg4) = m ((c.tc : Thread Cert.PromptCachesIdeal.nD Cert.PromptCachesIdeal.τ).loc Cert.PromptCachesIdeal.main_arg4)
          ∧ r.2.mem ((c.tc : Thread Cert.PromptCachesIdeal.nD Cert.PromptCachesIdeal.τ).loc Cert.PromptCachesIdeal.main_arg5) = m ((c.tc : Thread Cert.PromptCachesIdeal.nD Cert.PromptCachesIdeal.τ).loc Cert.PromptCachesIdeal.main_arg5))
      ∧ θ_run (Cert.PromptCachesReferenceIdeal.defs (F := Ideal)) (onTc (τ := Cert.PromptCachesReferenceIdeal.τ) (Cert.PromptCachesReferenceIdeal.main (F := Ideal))) ⟨m', fun _ => 0, g'⟩ (fun r => ∀ c : Dev Cert.PromptCachesReferenceIdeal.nD,
          r.2.mem ((c.tc : Thread Cert.PromptCachesReferenceIdeal.nD Cert.PromptCachesReferenceIdeal.τ).loc Cert.PromptCachesReferenceIdeal.main_v50) = v0 c
          ∧ r.2.mem ((c.tc : Thread Cert.PromptCachesReferenceIdeal.nD Cert.PromptCachesReferenceIdeal.τ).loc Cert.PromptCachesReferenceIdeal.main_v51) = v1 c
          ∧ r.2.mem ((c.tc : Thread Cert.PromptCachesReferenceIdeal.nD Cert.PromptCachesReferenceIdeal.τ).loc Cert.PromptCachesReferenceIdeal.main_v52) = v2 c
          ∧ r.2.mem ((c.tc : Thread Cert.PromptCachesReferenceIdeal.nD Cert.PromptCachesReferenceIdeal.τ).loc Cert.PromptCachesReferenceIdeal.main_v53) = v3 c
          ∧ r.2.mem ((c.tc : Thread Cert.PromptCachesReferenceIdeal.nD Cert.PromptCachesReferenceIdeal.τ).loc Cert.PromptCachesReferenceIdeal.main_v54) = v4 c
          ∧ r.2.mem ((c.tc : Thread Cert.PromptCachesReferenceIdeal.nD Cert.PromptCachesReferenceIdeal.τ).loc Cert.PromptCachesReferenceIdeal.main_arg0) = m' ((c.tc : Thread Cert.PromptCachesReferenceIdeal.nD Cert.PromptCachesReferenceIdeal.τ).loc Cert.PromptCachesReferenceIdeal.main_arg0)
          ∧ r.2.mem ((c.tc : Thread Cert.PromptCachesReferenceIdeal.nD Cert.PromptCachesReferenceIdeal.τ).loc Cert.PromptCachesReferenceIdeal.main_arg1) = m' ((c.tc : Thread Cert.PromptCachesReferenceIdeal.nD Cert.PromptCachesReferenceIdeal.τ).loc Cert.PromptCachesReferenceIdeal.main_arg1)
          ∧ r.2.mem ((c.tc : Thread Cert.PromptCachesReferenceIdeal.nD Cert.PromptCachesReferenceIdeal.τ).loc Cert.PromptCachesReferenceIdeal.main_arg2) = m' ((c.tc : Thread Cert.PromptCachesReferenceIdeal.nD Cert.PromptCachesReferenceIdeal.τ).loc Cert.PromptCachesReferenceIdeal.main_arg2)
          ∧ r.2.mem ((c.tc : Thread Cert.PromptCachesReferenceIdeal.nD Cert.PromptCachesReferenceIdeal.τ).loc Cert.PromptCachesReferenceIdeal.main_arg3) = m' ((c.tc : Thread Cert.PromptCachesReferenceIdeal.nD Cert.PromptCachesReferenceIdeal.τ).loc Cert.PromptCachesReferenceIdeal.main_arg3)
          ∧ r.2.mem ((c.tc : Thread Cert.PromptCachesReferenceIdeal.nD Cert.PromptCachesReferenceIdeal.τ).loc Cert.PromptCachesReferenceIdeal.main_arg4) = m' ((c.tc : Thread Cert.PromptCachesReferenceIdeal.nD Cert.PromptCachesReferenceIdeal.τ).loc Cert.PromptCachesReferenceIdeal.main_arg4)
          ∧ r.2.mem ((c.tc : Thread Cert.PromptCachesReferenceIdeal.nD Cert.PromptCachesReferenceIdeal.τ).loc Cert.PromptCachesReferenceIdeal.main_arg5) = m' ((c.tc : Thread Cert.PromptCachesReferenceIdeal.nD Cert.PromptCachesReferenceIdeal.τ).loc Cert.PromptCachesReferenceIdeal.main_arg5))

def preserves_FinishSample_FinishSampleIdeal : Prop :=
  True

def algebraic_FinishSampleIdeal_FinishSampleReferenceIdeal [hFinishSampleIdeal : Cert.FinishSampleIdeal.Facts] [hFinishSampleReferenceIdeal : Cert.FinishSampleReferenceIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg)
    (m' : (ℓ : Loc Cert.FinishSampleReferenceIdeal.nD Cert.FinishSampleReferenceIdeal.τ Cert.FinishSampleReferenceIdeal.sig) → Buf (Elt Ideal) ℓ) (g' : Dev Cert.FinishSampleReferenceIdeal.nD → PrngReg), Pre_FinishSampleIdeal m →
    (∀ c : Dev Cert.FinishSampleIdeal.nD,
      m' ((c.tc : Thread Cert.FinishSampleReferenceIdeal.nD Cert.FinishSampleReferenceIdeal.τ).loc Cert.FinishSampleReferenceIdeal.main_arg0) = m ((c.tc : Thread Cert.FinishSampleIdeal.nD Cert.FinishSampleIdeal.τ).loc Cert.FinishSampleIdeal.main_arg0)
      ∧ m' ((c.tc : Thread Cert.FinishSampleReferenceIdeal.nD Cert.FinishSampleReferenceIdeal.τ).loc Cert.FinishSampleReferenceIdeal.main_arg1) = m ((c.tc : Thread Cert.FinishSampleIdeal.nD Cert.FinishSampleIdeal.τ).loc Cert.FinishSampleIdeal.main_arg1)
      ∧ m' ((c.tc : Thread Cert.FinishSampleReferenceIdeal.nD Cert.FinishSampleReferenceIdeal.τ).loc Cert.FinishSampleReferenceIdeal.main_arg2) = m ((c.tc : Thread Cert.FinishSampleIdeal.nD Cert.FinishSampleIdeal.τ).loc Cert.FinishSampleIdeal.main_arg2)
      ∧ m' ((c.tc : Thread Cert.FinishSampleReferenceIdeal.nD Cert.FinishSampleReferenceIdeal.τ).loc Cert.FinishSampleReferenceIdeal.main_arg3) = m ((c.tc : Thread Cert.FinishSampleIdeal.nD Cert.FinishSampleIdeal.τ).loc Cert.FinishSampleIdeal.main_arg3)
      ∧ m' ((c.tc : Thread Cert.FinishSampleReferenceIdeal.nD Cert.FinishSampleReferenceIdeal.τ).loc Cert.FinishSampleReferenceIdeal.main_arg4) = m ((c.tc : Thread Cert.FinishSampleIdeal.nD Cert.FinishSampleIdeal.τ).loc Cert.FinishSampleIdeal.main_arg4)
      ∧ m' ((c.tc : Thread Cert.FinishSampleReferenceIdeal.nD Cert.FinishSampleReferenceIdeal.τ).loc Cert.FinishSampleReferenceIdeal.main_arg5) = m ((c.tc : Thread Cert.FinishSampleIdeal.nD Cert.FinishSampleIdeal.τ).loc Cert.FinishSampleIdeal.main_arg5)
      ∧ m' ((c.tc : Thread Cert.FinishSampleReferenceIdeal.nD Cert.FinishSampleReferenceIdeal.τ).loc Cert.FinishSampleReferenceIdeal.main_arg6) = m ((c.tc : Thread Cert.FinishSampleIdeal.nD Cert.FinishSampleIdeal.τ).loc Cert.FinishSampleIdeal.main_arg6)
      ∧ m' ((c.tc : Thread Cert.FinishSampleReferenceIdeal.nD Cert.FinishSampleReferenceIdeal.τ).loc Cert.FinishSampleReferenceIdeal.main_arg7) = m ((c.tc : Thread Cert.FinishSampleIdeal.nD Cert.FinishSampleIdeal.τ).loc Cert.FinishSampleIdeal.main_arg7)) →
    ∃ (v0 : (c : Dev Cert.FinishSampleIdeal.nD) → Buf (Elt Ideal) ((c.tc : Thread Cert.FinishSampleIdeal.nD Cert.FinishSampleIdeal.τ).loc Cert.FinishSampleIdeal.main_v10)),
      θ_run (Cert.FinishSampleIdeal.defs (F := Ideal)) (onTc (τ := Cert.FinishSampleIdeal.τ) (Cert.FinishSampleIdeal.main (F := Ideal))) ⟨m, fun _ => 0, g⟩ (fun r => ∀ c : Dev Cert.FinishSampleIdeal.nD,
          r.2.mem ((c.tc : Thread Cert.FinishSampleIdeal.nD Cert.FinishSampleIdeal.τ).loc Cert.FinishSampleIdeal.main_v10) = v0 c
          ∧ r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
          ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
          ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
          ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
          ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
          ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
          ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
          ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7))
      ∧ θ_run (Cert.FinishSampleReferenceIdeal.defs (F := Ideal)) (onTc (τ := Cert.FinishSampleReferenceIdeal.τ) (Cert.FinishSampleReferenceIdeal.main (F := Ideal))) ⟨m', fun _ => 0, g'⟩ (fun r => ∀ c : Dev Cert.FinishSampleReferenceIdeal.nD,
          r.2.mem ((c.tc : Thread Cert.FinishSampleReferenceIdeal.nD Cert.FinishSampleReferenceIdeal.τ).loc Cert.FinishSampleReferenceIdeal.main_v39) = v0 c
          ∧ r.2.mem ((c.tc : Thread Cert.FinishSampleReferenceIdeal.nD Cert.FinishSampleReferenceIdeal.τ).loc Cert.FinishSampleReferenceIdeal.main_arg0) = m' ((c.tc : Thread Cert.FinishSampleReferenceIdeal.nD Cert.FinishSampleReferenceIdeal.τ).loc Cert.FinishSampleReferenceIdeal.main_arg0)
          ∧ r.2.mem ((c.tc : Thread Cert.FinishSampleReferenceIdeal.nD Cert.FinishSampleReferenceIdeal.τ).loc Cert.FinishSampleReferenceIdeal.main_arg1) = m' ((c.tc : Thread Cert.FinishSampleReferenceIdeal.nD Cert.FinishSampleReferenceIdeal.τ).loc Cert.FinishSampleReferenceIdeal.main_arg1)
          ∧ r.2.mem ((c.tc : Thread Cert.FinishSampleReferenceIdeal.nD Cert.FinishSampleReferenceIdeal.τ).loc Cert.FinishSampleReferenceIdeal.main_arg2) = m' ((c.tc : Thread Cert.FinishSampleReferenceIdeal.nD Cert.FinishSampleReferenceIdeal.τ).loc Cert.FinishSampleReferenceIdeal.main_arg2)
          ∧ r.2.mem ((c.tc : Thread Cert.FinishSampleReferenceIdeal.nD Cert.FinishSampleReferenceIdeal.τ).loc Cert.FinishSampleReferenceIdeal.main_arg3) = m' ((c.tc : Thread Cert.FinishSampleReferenceIdeal.nD Cert.FinishSampleReferenceIdeal.τ).loc Cert.FinishSampleReferenceIdeal.main_arg3)
          ∧ r.2.mem ((c.tc : Thread Cert.FinishSampleReferenceIdeal.nD Cert.FinishSampleReferenceIdeal.τ).loc Cert.FinishSampleReferenceIdeal.main_arg4) = m' ((c.tc : Thread Cert.FinishSampleReferenceIdeal.nD Cert.FinishSampleReferenceIdeal.τ).loc Cert.FinishSampleReferenceIdeal.main_arg4)
          ∧ r.2.mem ((c.tc : Thread Cert.FinishSampleReferenceIdeal.nD Cert.FinishSampleReferenceIdeal.τ).loc Cert.FinishSampleReferenceIdeal.main_arg5) = m' ((c.tc : Thread Cert.FinishSampleReferenceIdeal.nD Cert.FinishSampleReferenceIdeal.τ).loc Cert.FinishSampleReferenceIdeal.main_arg5)
          ∧ r.2.mem ((c.tc : Thread Cert.FinishSampleReferenceIdeal.nD Cert.FinishSampleReferenceIdeal.τ).loc Cert.FinishSampleReferenceIdeal.main_arg6) = m' ((c.tc : Thread Cert.FinishSampleReferenceIdeal.nD Cert.FinishSampleReferenceIdeal.τ).loc Cert.FinishSampleReferenceIdeal.main_arg6)
          ∧ r.2.mem ((c.tc : Thread Cert.FinishSampleReferenceIdeal.nD Cert.FinishSampleReferenceIdeal.τ).loc Cert.FinishSampleReferenceIdeal.main_arg7) = m' ((c.tc : Thread Cert.FinishSampleReferenceIdeal.nD Cert.FinishSampleReferenceIdeal.τ).loc Cert.FinishSampleReferenceIdeal.main_arg7))

def Claim : Prop :=
  ∃ (hFinishKernel : Cert.FinishKernel.Facts) (hFinishKernelIdeal : Cert.FinishKernelIdeal.Facts) (hFinishReferenceIdeal : Cert.FinishReferenceIdeal.Facts) (hSampleCaches : Cert.SampleCaches.Facts) (hSampleCachesIdeal : Cert.SampleCachesIdeal.Facts) (hSampleCachesReferenceIdeal : Cert.SampleCachesReferenceIdeal.Facts) (hPromptCaches : Cert.PromptCaches.Facts) (hPromptCachesIdeal : Cert.PromptCachesIdeal.Facts) (hPromptCachesReferenceIdeal : Cert.PromptCachesReferenceIdeal.Facts) (hFinishSample : Cert.FinishSample.Facts) (hFinishSampleIdeal : Cert.FinishSampleIdeal.Facts) (hFinishSampleReferenceIdeal : Cert.FinishSampleReferenceIdeal.Facts),
    quiescent_FinishKernel (hFinishKernel := hFinishKernel)
    ∧ quiescent_FinishKernelIdeal (hFinishKernelIdeal := hFinishKernelIdeal)
    ∧ quiescent_FinishReferenceIdeal (hFinishReferenceIdeal := hFinishReferenceIdeal)
    ∧ quiescent_SampleCaches (hSampleCaches := hSampleCaches)
    ∧ quiescent_SampleCachesIdeal (hSampleCachesIdeal := hSampleCachesIdeal)
    ∧ quiescent_SampleCachesReferenceIdeal (hSampleCachesReferenceIdeal := hSampleCachesReferenceIdeal)
    ∧ quiescent_PromptCaches (hPromptCaches := hPromptCaches)
    ∧ quiescent_PromptCachesIdeal (hPromptCachesIdeal := hPromptCachesIdeal)
    ∧ quiescent_PromptCachesReferenceIdeal (hPromptCachesReferenceIdeal := hPromptCachesReferenceIdeal)
    ∧ quiescent_FinishSample (hFinishSample := hFinishSample)
    ∧ quiescent_FinishSampleIdeal (hFinishSampleIdeal := hFinishSampleIdeal)
    ∧ quiescent_FinishSampleReferenceIdeal (hFinishSampleReferenceIdeal := hFinishSampleReferenceIdeal)
    ∧ preserves_FinishKernel_FinishKernelIdeal
    ∧ algebraic_FinishKernelIdeal_FinishReferenceIdeal (hFinishKernelIdeal := hFinishKernelIdeal) (hFinishReferenceIdeal := hFinishReferenceIdeal)
    ∧ preserves_SampleCaches_SampleCachesIdeal
    ∧ algebraic_SampleCachesIdeal_SampleCachesReferenceIdeal (hSampleCachesIdeal := hSampleCachesIdeal) (hSampleCachesReferenceIdeal := hSampleCachesReferenceIdeal)
    ∧ preserves_PromptCaches_PromptCachesIdeal
    ∧ algebraic_PromptCachesIdeal_PromptCachesReferenceIdeal (hPromptCachesIdeal := hPromptCachesIdeal) (hPromptCachesReferenceIdeal := hPromptCachesReferenceIdeal)
    ∧ preserves_FinishSample_FinishSampleIdeal
    ∧ algebraic_FinishSampleIdeal_FinishSampleReferenceIdeal (hFinishSampleIdeal := hFinishSampleIdeal) (hFinishSampleReferenceIdeal := hFinishSampleReferenceIdeal)
-- ==== FinishKernel.lean ====
abbrev S8x2048x1024 : Shape := ⟨3, ![8, 2048, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x4096, .f32⟩
  | .hbm, ⟨11, _⟩ => ⟨S1024x4096, .bf16⟩
  | .hbm, ⟨12, _⟩ => ⟨S4096x1024, .f32⟩
  | .hbm, ⟨13, _⟩ => ⟨S4096x1024, .bf16⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinishReferenceIdeal.lean ====
abbrev S8x2048x1024 : Shape := ⟨3, ![8, 2048, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S4096x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== SampleCaches.lean ====
abbrev S8x16x1024 : Shape := ⟨3, ![8, 16, 1024]⟩
abbrev S1x1024 : Shape := ⟨2, ![1, 1024]⟩
abbrev S1x1024x2500 : Shape := ⟨3, ![1, 1024, 2500]⟩
abbrev S1x64 : Shape := ⟨2, ![1, 64]⟩
abbrev S1024x2500 : Shape := ⟨2, ![1024, 2500]⟩
abbrev S2500x1024 : Shape := ⟨2, ![2500, 1024]⟩
abbrev S512x1024 : Shape := ⟨2, ![512, 1024]⟩
abbrev S256x1024 : Shape := ⟨2, ![256, 1024]⟩
abbrev S128x1024 : Shape := ⟨2, ![128, 1024]⟩
abbrev S68x1024 : Shape := ⟨2, ![68, 1024]⟩
abbrev S_ : Shape := ⟨0, ![]⟩
abbrev S2560x1024 : Shape := ⟨2, ![2560, 1024]⟩
abbrev S1024x2560 : Shape := ⟨2, ![1024, 2560]⟩
abbrev S1024x1024 : Shape := ⟨2, ![1024, 1024]⟩
abbrev S1024 : Shape := ⟨1, ![1024]⟩
abbrev S64 : Shape := ⟨1, ![64]⟩
abbrev S8x128x128 : Shape := ⟨3, ![8, 128, 128]⟩
abbrev S4x128x64 : Shape := ⟨3, ![4, 128, 64]⟩
abbrev S512x128 : Shape := ⟨2, ![512, 128]⟩
abbrev S128x128 : Shape := ⟨2, ![128, 128]⟩
abbrev S128x64 : Shape := ⟨2, ![128, 64]⟩
abbrev S128x512 : Shape := ⟨2, ![128, 512]⟩
abbrev S128x256 : Shape := ⟨2, ![128, 256]⟩
abbrev S128 : Shape := ⟨1, ![128]⟩
abbrev S128x1 : Shape := ⟨2, ![128, 1]⟩
abbrev S1024x512 : Shape := ⟨2, ![1024, 512]⟩
abbrev S1x128x128 : Shape := ⟨3, ![1, 128, 128]⟩
abbrev S1024x256 : Shape := ⟨2, ![1024, 256]⟩
abbrev S1x128x64 : Shape := ⟨3, ![1, 128, 64]⟩
abbrev S1x8x16x64 : Shape := ⟨4, ![1, 8, 16, 64]⟩
abbrev S1x8x16x4x2x64 : Shape := ⟨6, ![1, 8, 16, 4, 2, 64]⟩
abbrev S1x8x16x4x128 : Shape := ⟨5, ![1, 8, 16, 4, 128]⟩

abbrev nBuf : Space → Nat
  | .hbm => 47
  | .vmem => 17
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024x2500, .f32⟩
  | .hbm, ⟨3, _⟩ => ⟨S1x64, .f32⟩
  | .hbm, ⟨4, _⟩ => ⟨S1x64, .f32⟩
  | .hbm, ⟨5, _⟩ => ⟨S1024x2500, .f32⟩
  | .hbm, ⟨6, _⟩ => ⟨S2500x1024, .f32⟩
  | .hbm, ⟨7, _⟩ => ⟨S2500x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S256x1024, .bf16⟩
  | .hbm, ⟨13, _⟩ => ⟨S128x1024, .bf16⟩
  | .hbm, ⟨14, _⟩ => ⟨S68x1024, .bf16⟩
  | .hbm, ⟨15, _⟩ => ⟨S2500x1024, .bf16⟩
  | .hbm, ⟨16, _⟩ => ⟨S_, .i32⟩
  | .hbm, ⟨17, _⟩ => ⟨S_, .bf16⟩
  | .hbm, ⟨18, _⟩ => ⟨S2560x1024, .bf16⟩
  | .hbm, ⟨19, _⟩ => ⟨S1024x2560, .bf16⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S128x1024, .f32⟩
  | .hbm, ⟨28, _⟩ => ⟨S8x128x128, .bf16⟩
  | .hbm, ⟨29, _⟩ => ⟨S4x128x64, .bf16⟩
  | .hbm, ⟨30, _⟩ => ⟨S8x128x128, .bf16⟩
  | .hbm, ⟨31, _⟩ => ⟨S8x128x128, .bf16⟩
  | .hbm, ⟨32, _⟩ => ⟨S512x128, .f32⟩
  | .hbm, ⟨33, _⟩ => ⟨S128x128, .bf16⟩
  | .hbm, ⟨34, _⟩ => ⟨S128x64, .bf16⟩
  | .hbm, ⟨35, _⟩ => ⟨S128x512, .f32⟩
  | .hbm, ⟨36, _⟩ => ⟨S128x512, .bf16⟩
  | .hbm, ⟨37, _⟩ => ⟨S128x256, .f32⟩
  | .hbm, ⟨38, _⟩ => ⟨S128x128, .bf16⟩
  | .hbm, ⟨39, _⟩ => ⟨S128x64, .f32⟩
  | .hbm, ⟨40, _⟩ => ⟨S1x8x16x64, .f32⟩
  | .hbm, ⟨41, _⟩ => ⟨S128x64, .f32⟩
  | .hbm, ⟨42, _⟩ => ⟨S1x8x16x64, .f32⟩
  | .hbm, ⟨43, _⟩ => ⟨S128x64, .f32⟩
  | .hbm, ⟨44, _⟩ => ⟨S1x8x16x64, .f32⟩
  | .hbm, ⟨45, _⟩ => ⟨S1x8x16x4x2x64, .f32⟩
  | .hbm, ⟨46, _⟩ => ⟨S1x8x16x4x128, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S1024x1024, .bf16⟩
  | .local _ .vmem, ⟨4, _⟩ => ⟨S1x64, .f32⟩
  | .local _ .vmem, ⟨5, _⟩ => ⟨S1x64, .f32⟩
  | .local _ .vmem, ⟨6, _⟩ => ⟨S8x128x128, .bf16⟩
  | .local _ .vmem, ⟨7, _⟩ => ⟨S4x128x64, .bf16⟩
  | .local _ .vmem, ⟨8, _⟩ => ⟨S8x128x128, .bf16⟩
  | .local _ .vmem, ⟨9, _⟩ => ⟨S8x128x128, .bf16⟩
  | .local _ .vmem, ⟨10, _⟩ => ⟨S512x128, .f32⟩
  | .local _ .vmem, ⟨11, _⟩ => ⟨S128x128, .bf16⟩
  | .local _ .vmem, ⟨12, _⟩ => ⟨S128x64, .bf16⟩
  | .local _ .vmem, ⟨13, _⟩ => ⟨S128x512, .f32⟩
  | .local _ .vmem, ⟨14, _⟩ => ⟨S128x512, .bf16⟩
  | .local _ .vmem, ⟨15, _⟩ => ⟨S128x256, .f32⟩
  | .local _ .vmem, ⟨16, _⟩ => ⟨S128x128, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v21_4 : Ref sig .tc := ⟨.hbm, 32, rfl⟩
abbrev main_v21_5 : Ref sig .tc := ⟨.hbm, 33, rfl⟩
abbrev main_v21_6 : Ref sig .tc := ⟨.hbm, 34, rfl⟩
abbrev main_v21_7 : Ref sig .tc := ⟨.hbm, 35, rfl⟩
abbrev main_v21_8 : Ref sig .tc := ⟨.hbm, 36, rfl⟩
abbrev main_v21_9 : Ref sig .tc := ⟨.hbm, 37, rfl⟩
abbrev main_v21_10 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== SampleCachesReferenceIdeal.lean ====
abbrev S8x16x1024 : Shape := ⟨3, ![8, 16, 1024]⟩
abbrev S1x1024 : Shape := ⟨2, ![1, 1024]⟩
abbrev S1x1024x2500 : Shape := ⟨3, ![1, 1024, 2500]⟩
abbrev S1x64 : Shape := ⟨2, ![1, 64]⟩
abbrev S1024 : Shape := ⟨1, ![1024]⟩
abbrev S1024x2500 : Shape := ⟨2, ![1024, 2500]⟩
abbrev S64 : Shape := ⟨1, ![64]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x2500 : Shape := ⟨3, ![8, 16, 2500]⟩
abbrev S8x16x64 : Shape := ⟨3, ![8, 16, 64]⟩
abbrev S8x16x512 : Shape := ⟨3, ![8, 16, 512]⟩
abbrev S1x1x64 : Shape := ⟨3, ![1, 1, 64]⟩
abbrev S8x16x4x2x64 : Shape := ⟨5, ![8, 16, 4, 2, 64]⟩
abbrev S8x16x4x128 : Shape := ⟨4, ![8, 16, 4, 128]⟩
abbrev S1x8x16x64 : Shape := ⟨4, ![1, 8, 16, 64]⟩
abbrev S1x8x16x4x2x64 : Shape := ⟨6, ![1, 8, 16, 4, 2, 64]⟩
abbrev S1x8x16x4x128 : Shape := ⟨5, ![1, 8, 16, 4, 128]⟩

abbrev nBuf : Space → Nat
  | .hbm => 65
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024x2500, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S1024x2500, .f32⟩
  | .hbm, ⟨7, _⟩ => ⟨S64, .f32⟩
  | .hbm, ⟨8, _⟩ => ⟨S64, .f32⟩
  | .hbm, ⟨9, _⟩ => ⟨S8x16x1024, .f32⟩
  | .hbm, ⟨10, _⟩ => ⟨S_, .f32⟩
  | .hbm, ⟨11, _⟩ => ⟨S8x16, .f32⟩
  | .hbm, ⟨12, _⟩ => ⟨S8x16x1, .f32⟩
  | .hbm, ⟨13, _⟩ => ⟨S_, .f32⟩
  | .hbm, ⟨14, _⟩ => ⟨S8x16x1, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S8x16x1, .f32⟩
  | .hbm, ⟨20, _⟩ => ⟨S8x16x1024, .f32⟩
  | .hbm, ⟨21, _⟩ => ⟨S8x16x1024, .f32⟩
  | .hbm, ⟨22, _⟩ => ⟨S1x1x1024, .f32⟩
  | .hbm, ⟨23, _⟩ => ⟨S8x16x1024, .f32⟩
  | .hbm, ⟨24, _⟩ => ⟨S8x16x1024, .f32⟩
  | .hbm, ⟨25, _⟩ => ⟨S8x16x2500, .f32⟩
  | .hbm, ⟨26, _⟩ => ⟨S8x16x64, .f32⟩
  | .hbm, ⟨27, _⟩ => ⟨S8x16x64, .f32⟩
  | .hbm, ⟨28, _⟩ => ⟨S8x16x64, .f32⟩
  | .hbm, ⟨29, _⟩ => ⟨S8x16x512, .f32⟩
  | .hbm, ⟨30, _⟩ => ⟨S8x16x512, .f32⟩
  | .hbm, ⟨31, _⟩ => ⟨S_, .f32⟩
  | .hbm, ⟨32, _⟩ => ⟨S8x16, .f32⟩
  | .hbm, ⟨33, _⟩ => ⟨S8x16x1, .f32⟩
  | .hbm, ⟨34, _⟩ => ⟨S_, .f32⟩
  | .hbm, ⟨35, _⟩ => ⟨S8x16x1, .f32⟩
  | .hbm, ⟨36, _⟩ => ⟨S8x16x1, .f32⟩
  | .hbm, ⟨37, _⟩ => ⟨S8x16x64, .f32⟩
  | .hbm, ⟨38, _⟩ => ⟨S8x16x64, .f32⟩
  | .hbm, ⟨39, _⟩ => ⟨S8x16x64, .f32⟩
  | .hbm, ⟨40, _⟩ => ⟨S_, .f32⟩
  | .hbm, ⟨41, _⟩ => ⟨S8x16, .f32⟩
  | .hbm, ⟨42, _⟩ => ⟨S8x16x1, .f32⟩
  | .hbm, ⟨43, _⟩ => ⟨S_, .f32⟩
  | .hbm, ⟨44, _⟩ => ⟨S8x16x1, .f32⟩
  | .hbm, ⟨45, _⟩ => ⟨S8x16x1, .f32⟩
  | .hbm, ⟨46, _⟩ => ⟨S_, .f32⟩
  | .hbm, ⟨47, _⟩ => ⟨S8x16x1, .f32⟩
  | .hbm, ⟨48, _⟩ => ⟨S8x16x1, .f32⟩
  | .hbm, ⟨49, _⟩ => ⟨S8x16x1, .f32⟩
  | .hbm, ⟨50, _⟩ => ⟨S8x16x64, .f32⟩
  | .hbm, ⟨51, _⟩ => ⟨S8x16x64, .f32⟩
  | .hbm, ⟨52, _⟩ => ⟨S1x1x64, .f32⟩
  | .hbm, ⟨53, _⟩ => ⟨S8x16x64, .f32⟩
  | .hbm, ⟨54, _⟩ => ⟨S8x16x64, .f32⟩
  | .hbm, ⟨55, _⟩ => ⟨S1x1x64, .f32⟩
  | .hbm, ⟨56, _⟩ => ⟨S8x16x64, .f32⟩
  | .hbm, ⟨57, _⟩ => ⟨S8x16x64, .f32⟩
  | .hbm, ⟨58, _⟩ => ⟨S8x16x4x2x64, .f32⟩
  | .hbm, ⟨59, _⟩ => ⟨S8x16x4x128, .f32⟩
  | .hbm, ⟨60, _⟩ => ⟨S1x8x16x64, .f32⟩
  | .hbm, ⟨61, _⟩ => ⟨S1x8x16x64, .f32⟩
  | .hbm, ⟨62, _⟩ => ⟨S1x8x16x64, .f32⟩
  | .hbm, ⟨63, _⟩ => ⟨S1x8x16x4x2x64, .f32⟩
  | .hbm, ⟨64, _⟩ => ⟨S1x8x16x4x128, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== PromptCaches.lean ====
abbrev S8x2048x1024 : Shape := ⟨3, ![8, 2048, 1024]⟩
abbrev S16x1024 : Shape := ⟨2, ![16, 1024]⟩
abbrev S1x1024 : Shape := ⟨2, ![1, 1024]⟩
abbrev S1x1024x2500 : Shape := ⟨3, ![1, 1024, 2500]⟩
abbrev S1x64 : Shape := ⟨2, ![1, 64]⟩
abbrev S1024x2500 : Shape := ⟨2, ![1024, 2500]⟩
abbrev S2500x1024 : Shape := ⟨2, ![2500, 1024]⟩
abbrev S512x1024 : Shape := ⟨2, ![512, 1024]⟩
abbrev S256x1024 : Shape := ⟨2, ![256, 1024]⟩
abbrev S128x1024 : Shape := ⟨2, ![128, 1024]⟩
abbrev S68x1024 : Shape := ⟨2, ![68, 1024]⟩
abbrev S_ : Shape := ⟨0, ![]⟩
abbrev S2560x1024 : Shape := ⟨2, ![2560, 1024]⟩
abbrev S1024x2560 : Shape := ⟨2, ![1024, 2560]⟩
abbrev S1024x1024 : Shape := ⟨2, ![1024, 1024]⟩
abbrev S1024 : Shape := ⟨1, ![1024]⟩
abbrev S64 : Shape := ⟨1, ![64]⟩
abbrev S16384x1024 : Shape := ⟨2, ![16384, 1024]⟩
abbrev S8x16384x128 : Shape := ⟨3, ![8, 16384, 128]⟩
abbrev S4x16384x64 : Shape := ⟨3, ![4, 16384, 64]⟩
abbrev S65536x128 : Shape := ⟨2, ![65536, 128]⟩
abbrev S16384x128 : Shape := ⟨2, ![16384, 128]⟩
abbrev S16384x64 : Shape := ⟨2, ![16384, 64]⟩
abbrev S64x80x256 : Shape := ⟨3, ![64, 80, 256]⟩
abbrev S8x16384 : Shape := ⟨2, ![8, 16384]⟩
abbrev S64x4x144x256 : Shape := ⟨4, ![64, 4, 144, 256]⟩
abbrev S8x192x2048 : Shape := ⟨3, ![8, 192, 2048]⟩
abbrev S8x512x2048 : Shape := ⟨3, ![8, 512, 2048]⟩
abbrev S8x512x128 : Shape := ⟨3, ![8, 512, 128]⟩
abbrev S4x512x64 : Shape := ⟨3, ![4, 512, 64]⟩
abbrev S2048x128 : Shape := ⟨2, ![2048, 128]⟩
abbrev S512x128 : Shape := ⟨2, ![512, 128]⟩
abbrev S512x64 : Shape := ⟨2, ![512, 64]⟩
abbrev S2x80x256 : Shape := ⟨3, ![2, 80, 256]⟩
abbrev S8x512 : Shape := ⟨2, ![8, 512]⟩
abbrev S2x4x144x256 : Shape := ⟨4, ![2, 4, 144, 256]⟩
abbrev S1x192x512 : Shape := ⟨3, ![1, 192, 512]⟩
abbrev S1x512x512 : Shape := ⟨3, ![1, 512, 512]⟩
abbrev S256 : Shape := ⟨1, ![256]⟩
abbrev S256x1 : Shape := ⟨2, ![256, 1]⟩
abbrev S256x64 : Shape := ⟨2, ![256, 64]⟩
abbrev S1024x512 : Shape := ⟨2, ![1024, 512]⟩
abbrev S256x512 : Shape := ⟨2, ![256, 512]⟩
abbrev S256x128 : Shape := ⟨2, ![256, 128]⟩
abbrev S8x256x128 : Shape := ⟨3, ![8, 256, 128]⟩
abbrev S1x256x128 : Shape := ⟨3, ![1, 256, 128]⟩
abbrev S1024x128 : Shape := ⟨2, ![1024, 128]⟩
abbrev S1024x256 : Shape := ⟨2, ![1024, 256]⟩
abbrev S256x256 : Shape := ⟨2, ![256, 256]⟩
abbrev S4x256x64 : Shape := ⟨3, ![4, 256, 64]⟩
abbrev S1x256x64 : Shape := ⟨3, ![1, 256, 64]⟩
abbrev S128x256 : Shape := ⟨2, ![128, 256]⟩
abbrev S64x256 : Shape := ⟨2, ![64, 256]⟩
abbrev S16x256 : Shape := ⟨2, ![16, 256]⟩
abbrev S80x256 : Shape := ⟨2, ![80, 256]⟩
abbrev S1x80x256 : Shape := ⟨3, ![1, 80, 256]⟩
abbrev S8x256 : Shape := ⟨2, ![8, 256]⟩
abbrev S1x192x256 : Shape := ⟨3, ![1, 192, 256]⟩
abbrev S192x256 : Shape := ⟨2, ![192, 256]⟩
abbrev S512x256 : Shape := ⟨2, ![512, 256]⟩
abbrev S1x512x256 : Shape := ⟨3, ![1, 512, 256]⟩
abbrev S144x256 : Shape := ⟨2, ![144, 256]⟩
abbrev S1x4x144x256 : Shape := ⟨4, ![1, 4, 144, 256]⟩
abbrev S1x1x144x256 : Shape := ⟨4, ![1, 1, 144, 256]⟩
abbrev S8x16x128 : Shape := ⟨3, ![8, 16, 128]⟩
abbrev S4x16x64 : Shape := ⟨3, ![4, 16, 64]⟩
abbrev S64x128 : Shape := ⟨2, ![64, 128]⟩
abbrev S16x128 : Shape := ⟨2, ![16, 128]⟩
abbrev S16x64 : Shape := ⟨2, ![16, 64]⟩
abbrev S16x512 : Shape := ⟨2, ![16, 512]⟩
abbrev S16 : Shape := ⟨1, ![16]⟩
abbrev S16x1 : Shape := ⟨2, ![16, 1]⟩
abbrev S1x16x128 : Shape := ⟨3, ![1, 16, 128]⟩
abbrev S1x16x64 : Shape := ⟨3, ![1, 16, 64]⟩
abbrev S8x64x2048 : Shape := ⟨3, ![8, 64, 2048]⟩
abbrev S64x16 : Shape := ⟨2, ![64, 16]⟩
abbrev S1x64x16 : Shape := ⟨3, ![1, 64, 16]⟩
abbrev S8x64x16 : Shape := ⟨3, ![8, 64, 16]⟩
abbrev S8x64x2064 : Shape := ⟨3, ![8, 64, 2064]⟩
abbrev S8x2064x64 : Shape := ⟨3, ![8, 2064, 64]⟩
abbrev S1x8x2064x64 : Shape := ⟨4, ![1, 8, 2064, 64]⟩
abbrev S512x16 : Shape := ⟨2, ![512, 16]⟩
abbrev S1x4x2x64x16 : Shape := ⟨5, ![1, 4, 2, 64, 16]⟩
abbrev S8x4x2x64x16 : Shape := ⟨5, ![8, 4, 2, 64, 16]⟩
abbrev S8x4x2x64x2048 : Shape := ⟨5, ![8, 4, 2, 64, 2048]⟩
abbrev S8x4x2x64x2064 : Shape := ⟨5, ![8, 4, 2, 64, 2064]⟩
abbrev S8x2064x4x2x64 : Shape := ⟨5, ![8, 2064, 4, 2, 64]⟩
abbrev S1x8x2064x4x2x64 : Shape := ⟨6, ![1, 8, 2064, 4, 2, 64]⟩
abbrev S1x16x4x128 : Shape := ⟨4, ![1, 16, 4, 128]⟩
abbrev S8x16x4x128 : Shape := ⟨4, ![8, 16, 4, 128]⟩
abbrev S8x2048x4x128 : Shape := ⟨4, ![8, 2048, 4, 128]⟩
abbrev S8x2064x4x128 : Shape := ⟨4, ![8, 2064, 4, 128]⟩
abbrev S1x8x2064x4x128 : Shape := ⟨5, ![1, 8, 2064, 4, 128]⟩

abbrev nBuf : Space → Nat
  | .hbm => 88
  | .vmem => 48
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x2500, .f32⟩
  | .hbm, ⟨4, _⟩ => ⟨S1x64, .f32⟩
  | .hbm, ⟨5, _⟩ => ⟨S1x64, .f32⟩
  | .hbm, ⟨6, _⟩ => ⟨S1024x2500, .f32⟩
  | .hbm, ⟨7, _⟩ => ⟨S2500x1024, .f32⟩
  | .hbm, ⟨8, _⟩ => ⟨S2500x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S256x1024, .bf16⟩
  | .hbm, ⟨14, _⟩ => ⟨S128x1024, .bf16⟩
  | .hbm, ⟨15, _⟩ => ⟨S68x1024, .bf16⟩
  | .hbm, ⟨16, _⟩ => ⟨S2500x1024, .bf16⟩
  | .hbm, ⟨17, _⟩ => ⟨S_, .i32⟩
  | .hbm, ⟨18, _⟩ => ⟨S_, .bf16⟩
  | .hbm, ⟨19, _⟩ => ⟨S2560x1024, .bf16⟩
  | .hbm, ⟨20, _⟩ => ⟨S1024x2560, .bf16⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S16384x1024, .f32⟩
  | .hbm, ⟨29, _⟩ => ⟨S8x16384x128, .bf16⟩
  | .hbm, ⟨30, _⟩ => ⟨S4x16384x64, .bf16⟩
  | .hbm, ⟨31, _⟩ => ⟨S8x16384x128, .bf16⟩
  | .hbm, ⟨32, _⟩ => ⟨S8x16384x128, .bf16⟩
  | .hbm, ⟨33, _⟩ => ⟨S65536x128, .f32⟩
  | .hbm, ⟨34, _⟩ => ⟨S16384x128, .bf16⟩
  | .hbm, ⟨35, _⟩ => ⟨S16384x64, .bf16⟩
  | .hbm, ⟨36, _⟩ => ⟨S64x80x256, .bf16⟩
  | .hbm, ⟨37, _⟩ => ⟨S8x16384, .f32⟩
  | .hbm, ⟨38, _⟩ => ⟨S64x4x144x256, .bf16⟩
  | .hbm, ⟨39, _⟩ => ⟨S8x192x2048, .f32⟩
  | .hbm, ⟨40, _⟩ => ⟨S8x512x2048, .f32⟩
  | .hbm, ⟨41, _⟩ => ⟨S8x16x128, .bf16⟩
  | .hbm, ⟨42, _⟩ => ⟨S4x16x64, .bf16⟩
  | .hbm, ⟨43, _⟩ => ⟨S8x16x128, .bf16⟩
  | .hbm, ⟨44, _⟩ => ⟨S8x16x128, .bf16⟩
  | .hbm, ⟨45, _⟩ => ⟨S64x128, .f32⟩
  | .hbm, ⟨46, _⟩ => ⟨S16x128, .bf16⟩
  | .hbm, ⟨47, _⟩ => ⟨S16x64, .bf16⟩
  | .hbm, ⟨48, _⟩ => ⟨S16x512, .f32⟩
  | .hbm, ⟨49, _⟩ => ⟨S16x512, .bf16⟩
  | .hbm, ⟨50, _⟩ => ⟨S16x256, .f32⟩
  | .hbm, ⟨51, _⟩ => ⟨S16x128, .bf16⟩
  | .hbm, ⟨52, _⟩ => ⟨S16x64, .f32⟩
  | .hbm, ⟨53, _⟩ => ⟨S8x64x2048, .f32⟩
  | .hbm, ⟨54, _⟩ => ⟨S64x16, .f32⟩
  | .hbm, ⟨55, _⟩ => ⟨S1x64x16, .f32⟩
  | .hbm, ⟨56, _⟩ => ⟨S8x64x16, .f32⟩
  | .hbm, ⟨57, _⟩ => ⟨S8x64x2064, .f32⟩
  | .hbm, ⟨58, _⟩ => ⟨S8x2064x64, .f32⟩
  | .hbm, ⟨59, _⟩ => ⟨S1x8x2064x64, .f32⟩
  | .hbm, ⟨60, _⟩ => ⟨S16x64, .f32⟩
  | .hbm, ⟨61, _⟩ => ⟨S8x64x2048, .f32⟩
  | .hbm, ⟨62, _⟩ => ⟨S64x16, .f32⟩
  | .hbm, ⟨63, _⟩ => ⟨S1x64x16, .f32⟩
  | .hbm, ⟨64, _⟩ => ⟨S8x64x16, .f32⟩
  | .hbm, ⟨65, _⟩ => ⟨S8x64x2064, .f32⟩
  | .hbm, ⟨66, _⟩ => ⟨S8x2064x64, .f32⟩
  | .hbm, ⟨67, _⟩ => ⟨S1x8x2064x64, .f32⟩
  | .hbm, ⟨68, _⟩ => ⟨S16x64, .f32⟩
  | .hbm, ⟨69, _⟩ => ⟨S8x64x2048, .f32⟩
  | .hbm, ⟨70, _⟩ => ⟨S64x16, .f32⟩
  | .hbm, ⟨71, _⟩ => ⟨S1x64x16, .f32⟩
  | .hbm, ⟨72, _⟩ => ⟨S8x64x16, .f32⟩
  | .hbm, ⟨73, _⟩ => ⟨S8x64x2064, .f32⟩
  | .hbm, ⟨74, _⟩ => ⟨S8x2064x64, .f32⟩
  | .hbm, ⟨75, _⟩ => ⟨S1x8x2064x64, .f32⟩
  | .hbm, ⟨76, _⟩ => ⟨S512x16, .f32⟩
  | .hbm, ⟨77, _⟩ => ⟨S1x4x2x64x16, .f32⟩
  | .hbm, ⟨78, _⟩ => ⟨S8x4x2x64x16, .f32⟩
  | .hbm, ⟨79, _⟩ => ⟨S8x4x2x64x2048, .f32⟩
  | .hbm, ⟨80, _⟩ => ⟨S8x4x2x64x2064, .f32⟩
  | .hbm, ⟨81, _⟩ => ⟨S8x2064x4x2x64, .f32⟩
  | .hbm, ⟨82, _⟩ => ⟨S1x8x2064x4x2x64, .f32⟩
  | .hbm, ⟨83, _⟩ => ⟨S1x16x4x128, .f32⟩
  | .hbm, ⟨84, _⟩ => ⟨S8x16x4x128, .f32⟩
  | .hbm, ⟨85, _⟩ => ⟨S8x2048x4x128, .f32⟩
  | .hbm, ⟨86, _⟩ => ⟨S8x2064x4x128, .f32⟩
  | .hbm, ⟨87, _⟩ => ⟨S1x8x2064x4x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x1024, .bf16⟩
  | .local _ .vmem, ⟨5, _⟩ => ⟨S1x64, .f32⟩
  | .local _ .vmem, ⟨6, _⟩ => ⟨S1x64, .f32⟩
  | .local _ .vmem, ⟨7, _⟩ => ⟨S8x512x128, .bf16⟩
  | .local _ .vmem, ⟨8, _⟩ => ⟨S8x512x128, .bf16⟩
  | .local _ .vmem, ⟨9, _⟩ => ⟨S4x512x64, .bf16⟩
  | .local _ .vmem, ⟨10, _⟩ => ⟨S4x512x64, .bf16⟩
  | .local _ .vmem, ⟨11, _⟩ => ⟨S8x512x128, .bf16⟩
  | .local _ .vmem, ⟨12, _⟩ => ⟨S8x512x128, .bf16⟩
  | .local _ .vmem, ⟨13, _⟩ => ⟨S8x512x128, .bf16⟩
  | .local _ .vmem, ⟨14, _⟩ => ⟨S8x512x128, .bf16⟩
  | .local _ .vmem, ⟨15, _⟩ => ⟨S2048x128, .f32⟩
  | .local _ .vmem, ⟨16, _⟩ => ⟨S2048x128, .f32⟩
  | .local _ .vmem, ⟨17, _⟩ => ⟨S512x128, .bf16⟩
  | .local _ .vmem, ⟨18, _⟩ => ⟨S512x128, .bf16⟩
  | .local _ .vmem, ⟨19, _⟩ => ⟨S512x64, .bf16⟩
  | .local _ .vmem, ⟨20, _⟩ => ⟨S512x64, .bf16⟩
  | .local _ .vmem, ⟨21, _⟩ => ⟨S2x80x256, .bf16⟩
  | .local _ .vmem, ⟨22, _⟩ => ⟨S2x80x256, .bf16⟩
  | .local _ .vmem, ⟨23, _⟩ => ⟨S8x512, .f32⟩
  | .local _ .vmem, ⟨24, _⟩ => ⟨S8x512, .f32⟩
  | .local _ .vmem, ⟨25, _⟩ => ⟨S2x4x144x256, .bf16⟩
  | .local _ .vmem, ⟨26, _⟩ => ⟨S2x4x144x256, .bf16⟩
  | .local _ .vmem, ⟨27, _⟩ => ⟨S1x192x512, .f32⟩
  | .local _ .vmem, ⟨28, _⟩ => ⟨S1x192x512, .f32⟩
  | .local _ .vmem, ⟨29, _⟩ => ⟨S1x512x512, .f32⟩
  | .local _ .vmem, ⟨30, _⟩ => ⟨S1x512x512, .f32⟩
  | .local _ .vmem, ⟨31, _⟩ => ⟨S16x1024, .f32⟩
  | .local _ .vmem, ⟨32, _⟩ => ⟨S1x1024, .f32⟩
  | .local _ .vmem, ⟨33, _⟩ => ⟨S1024x2560, .bf16⟩
  | .local _ .vmem, ⟨34, _⟩ => ⟨S1024x1024, .bf16⟩
  | .local _ .vmem, ⟨35, _⟩ => ⟨S1x64, .f32⟩
  | .local _ .vmem, ⟨36, _⟩ => ⟨S1x64, .f32⟩
  | .local _ .vmem, ⟨37, _⟩ => ⟨S8x16x128, .bf16⟩
  | .local _ .vmem, ⟨38, _⟩ => ⟨S4x16x64, .bf16⟩
  | .local _ .vmem, ⟨39, _⟩ => ⟨S8x16x128, .bf16⟩
  | .local _ .vmem, ⟨40, _⟩ => ⟨S8x16x128, .bf16⟩
  | .local _ .vmem, ⟨41, _⟩ => ⟨S64x128, .f32⟩
  | .local _ .vmem, ⟨42, _⟩ => ⟨S16x128, .bf16⟩
  | .local _ .vmem, ⟨43, _⟩ => ⟨S16x64, .bf16⟩
  | .local _ .vmem, ⟨44, _⟩ => ⟨S16x512, .f32⟩
  | .local _ .vmem, ⟨45, _⟩ => ⟨S16x512, .bf16⟩
  | .local _ .vmem, ⟨46, _⟩ => ⟨S16x256, .f32⟩
  | .local _ .vmem, ⟨47, _⟩ => ⟨S16x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev main_v21_6 : Ref sig .tc := ⟨.hbm, 35, rfl⟩
abbrev main_v21_7 : Ref sig .tc := ⟨.hbm, 36, rfl⟩
abbrev main_v21_8 : Ref sig .tc := ⟨.hbm, 37, rfl⟩
abbrev main_v21_9 : Ref sig .tc := ⟨.hbm, 38, rfl⟩
abbrev main_v21_10 : Ref sig .tc := ⟨.hbm, 39, rfl⟩
abbrev main_v21_11 : Ref sig .tc := ⟨.hbm, 40, rfl⟩
abbrev main_v22_0 : Ref sig .tc := ⟨.hbm, 41, rfl⟩
abbrev main_v22_1 : Ref sig .tc := ⟨.hbm, 42, rfl⟩
abbrev main_v22_2 : Ref sig .tc := ⟨.hbm, 43, rfl⟩
abbrev main_v22_3 : Ref sig .tc := ⟨.hbm, 44, rfl⟩
abbrev main_v22_4 : Ref sig .tc := ⟨.hbm, 45, rfl⟩
abbrev main_v22_5 : Ref sig .tc := ⟨.hbm, 46, rfl⟩
abbrev main_v22_6 : Ref sig .tc := ⟨.hbm, 47, rfl⟩
abbrev main_v22_7 : Ref sig .tc := ⟨.hbm, 48, rfl⟩
abbrev main_v22_8 : Ref sig .tc := ⟨.hbm, 49, rfl⟩
abbrev main_v22_9 : Ref sig .tc := ⟨.hbm, 50, rfl⟩
abbrev main_v22_10 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc1_stg0_0 : Ref sig .tc := ⟨.vmem, 31, rfl⟩
abbrev cc1_stg1_0 : Ref sig .tc := ⟨.vmem, 32, rfl⟩
abbrev cc1_stg2_0 : Ref sig .tc := ⟨.vmem, 33, rfl⟩
abbrev cc1_stg3_0 : Ref sig .tc := ⟨.vmem, 34, rfl⟩
abbrev cc1_stg4_0 : Ref sig .tc := ⟨.vmem, 35, rfl⟩
abbrev cc1_stg5_0 : Ref sig .tc := ⟨.vmem, 36, rfl⟩
abbrev cc1_stg6_0 : Ref sig .tc := ⟨.vmem, 37, rfl⟩
abbrev cc1_stg7_0 : Ref sig .tc := ⟨.vmem, 38, rfl⟩
abbrev cc1_stg8_0 : Ref sig .tc := ⟨.vmem, 39, rfl⟩
abbrev cc1_stg9_0 : Ref sig .tc := ⟨.vmem, 40, rfl⟩
abbrev cc1_stg10_0 : Ref sig .tc := ⟨.vmem, 41, rfl⟩
abbrev cc1_stg11_0 : Ref sig .tc := ⟨.vmem, 42, rfl⟩
abbrev cc1_stg12_0 : Ref sig .tc := ⟨.vmem, 43, rfl⟩
abbrev cc1_stg13_0 : Ref sig .tc := ⟨.vmem, 44, rfl⟩
abbrev cc1_stg14_0 : Ref sig .tc := ⟨.vmem, 45, rfl⟩
abbrev cc1_stg15_0 : Ref sig .tc := ⟨.vmem, 46, rfl⟩
abbrev cc1_stg16_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc1_sem0_0 : DmaSem sig := 31
abbrev cc1_sem1_0 : DmaSem sig := 32
abbrev cc1_sem2_0 : DmaSem sig := 33
abbrev cc1_sem3_0 : DmaSem sig := 34
abbrev cc1_sem4_0 : DmaSem sig := 35
abbrev cc1_sem5_0 : DmaSem sig := 36
abbrev cc1_sem6_0 : DmaSem sig := 37
abbrev cc1_sem7_0 : DmaSem sig := 38
abbrev cc1_sem8_0 : DmaSem sig := 39
abbrev cc1_sem9_0 : DmaSem sig := 40
abbrev cc1_sem10_0 : DmaSem sig := 41
abbrev cc1_sem11_0 : DmaSem sig := 42
abbrev cc1_sem12_0 : DmaSem sig := 43
abbrev cc1_sem13_0 : DmaSem sig := 44
abbrev cc1_sem14_0 : DmaSem sig := 45
abbrev cc1_sem15_0 : DmaSem sig := 46
abbrev cc1_sem16_0 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x80x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x144x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x192x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x16x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S4x16x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S8x16x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S8x16x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S64x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S16x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S16x64 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S16x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S16x512 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]

abbrev stage1_15 : Fin 1 → Memref sig .tc .vmem S16x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true]

abbrev stage1_16 : Fin 1 → Memref sig .tc .vmem S16x128 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![true]
-- ==== PromptCachesReferenceIdeal.lean ====
abbrev S8x2048x1024 : Shape := ⟨3, ![8, 2048, 1024]⟩
abbrev S16x1024 : Shape := ⟨2, ![16, 1024]⟩
abbrev S1x1024 : Shape := ⟨2, ![1, 1024]⟩
abbrev S1x1024x2500 : Shape := ⟨3, ![1, 1024, 2500]⟩
abbrev S1x64 : Shape := ⟨2, ![1, 64]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S1024 : Shape := ⟨1, ![1024]⟩
abbrev S1024x2500 : Shape := ⟨2, ![1024, 2500]⟩
abbrev S64 : Shape := ⟨1, ![64]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2064x2500 : Shape := ⟨3, ![8, 2064, 2500]⟩
abbrev S8x2064x64 : Shape := ⟨3, ![8, 2064, 64]⟩
abbrev S8x2064x512 : Shape := ⟨3, ![8, 2064, 512]⟩
abbrev S1x1x64 : Shape := ⟨3, ![1, 1, 64]⟩
abbrev S8x2064x4x2x64 : Shape := ⟨5, ![8, 2064, 4, 2, 64]⟩
abbrev S8x2064x4x128 : Shape := ⟨4, ![8, 2064, 4, 128]⟩
abbrev S1x8x2064x64 : Shape := ⟨4, ![1, 8, 2064, 64]⟩
abbrev S1x8x2064x4x2x64 : Shape := ⟨6, ![1, 8, 2064, 4, 2, 64]⟩
abbrev S1x8x2064x4x128 : Shape := ⟨5, ![1, 8, 2064, 4, 128]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1x1024, .f32⟩
  | .hbm, ⟨3, _⟩ => ⟨S1x1024x2500, .f32⟩
  | .hbm, ⟨4, _⟩ => ⟨S1x64, .f32⟩
  | .hbm, ⟨5, _⟩ => ⟨S1x64, .f32⟩
  | .hbm, ⟨6, _⟩ => ⟨S1x16x1024, .f32⟩
  | .hbm, ⟨7, _⟩ => ⟨S8x16x1024, .f32⟩
  | .hbm, ⟨8, _⟩ => ⟨S8x2064x1024, .f32⟩
  | .hbm, ⟨9, _⟩ => ⟨S1024, .f32⟩
  | .hbm, ⟨10, _⟩ => ⟨S1024x2500, .f32⟩
  | .hbm, ⟨11, _⟩ => ⟨S64, .f32⟩
  | .hbm, ⟨12, _⟩ => ⟨S64, .f32⟩
  | .hbm, ⟨13, _⟩ => ⟨S8x2064x1024, .f32⟩
  | .hbm, ⟨14, _⟩ => ⟨S_, .f32⟩
  | .hbm, ⟨15, _⟩ => ⟨S8x2064, .f32⟩
  | .hbm, ⟨16, _⟩ => ⟨S8x2064x1, .f32⟩
  | .hbm, ⟨17, _⟩ => ⟨S_, .f32⟩
  | .hbm, ⟨18, _⟩ => ⟨S8x2064x1, .f32⟩
  | .hbm, ⟨19, _⟩ => ⟨S8x2064x1, .f32⟩
  | .hbm, ⟨20, _⟩ => ⟨S_, .f32⟩
  | .hbm, ⟨21, _⟩ => ⟨S8x2064x1, .f32⟩
  | .hbm, ⟨22, _⟩ => ⟨S8x2064x1, .f32⟩
  | .hbm, ⟨23, _⟩ => ⟨S8x2064x1, .f32⟩
  | .hbm, ⟨24, _⟩ => ⟨S8x2064x1024, .f32⟩
  | .hbm, ⟨25, _⟩ => ⟨S8x2064x1024, .f32⟩
  | .hbm, ⟨26, _⟩ => ⟨S1x1x1024, .f32⟩
  | .hbm, ⟨27, _⟩ => ⟨S8x2064x1024, .f32⟩
  | .hbm, ⟨28, _⟩ => ⟨S8x2064x1024, .f32⟩
  | .hbm, ⟨29, _⟩ => ⟨S8x2064x2500, .f32⟩
  | .hbm, ⟨30, _⟩ => ⟨S8x2064x64, .f32⟩
  | .hbm, ⟨31, _⟩ => ⟨S8x2064x64, .f32⟩
  | .hbm, ⟨32, _⟩ => ⟨S8x2064x64, .f32⟩
  | .hbm, ⟨33, _⟩ => ⟨S8x2064x512, .f32⟩
  | .hbm, ⟨34, _⟩ => ⟨S8x2064x512, .f32⟩
  | .hbm, ⟨35, _⟩ => ⟨S_, .f32⟩
  | .hbm, ⟨36, _⟩ => ⟨S8x2064, .f32⟩
  | .hbm, ⟨37, _⟩ => ⟨S8x2064x1, .f32⟩
  | .hbm, ⟨38, _⟩ => ⟨S_, .f32⟩
  | .hbm, ⟨39, _⟩ => ⟨S8x2064x1, .f32⟩
  | .hbm, ⟨40, _⟩ => ⟨S8x2064x1, .f32⟩
  | .hbm, ⟨41, _⟩ => ⟨S8x2064x64, .f32⟩
  | .hbm, ⟨42, _⟩ => ⟨S8x2064x64, .f32⟩
  | .hbm, ⟨43, _⟩ => ⟨S8x2064x64, .f32⟩
  | .hbm, ⟨44, _⟩ => ⟨S_, .f32⟩
  | .hbm, ⟨45, _⟩ => ⟨S8x2064, .f32⟩
  | .hbm, ⟨46, _⟩ => ⟨S8x2064x1, .f32⟩
  | .hbm, ⟨47, _⟩ => ⟨S_, .f32⟩
  | .hbm, ⟨48, _⟩ => ⟨S8x2064x1, .f32⟩
  | .hbm, ⟨49, _⟩ => ⟨S8x2064x1, .f32⟩
  | .hbm, ⟨50, _⟩ => ⟨S_, .f32⟩
  | .hbm, ⟨51, _⟩ => ⟨S8x2064x1, .f32⟩
  | .hbm, ⟨52, _⟩ => ⟨S8x2064x1, .f32⟩
  | .hbm, ⟨53, _⟩ => ⟨S8x2064x1, .f32⟩
  | .hbm, ⟨54, _⟩ => ⟨S8x2064x64, .f32⟩
  | .hbm, ⟨55, _⟩ => ⟨S8x2064x64, .f32⟩
  | .hbm, ⟨56, _⟩ => ⟨S1x1x64, .f32⟩
  | .hbm, ⟨57, _⟩ => ⟨S8x2064x64, .f32⟩
  | .hbm, ⟨58, _⟩ => ⟨S8x2064x64, .f32⟩
  | .hbm, ⟨59, _⟩ => ⟨S1x1x64, .f32⟩
  | .hbm, ⟨60, _⟩ => ⟨S8x2064x64, .f32⟩
  | .hbm, ⟨61, _⟩ => ⟨S8x2064x64, .f32⟩
  | .hbm, ⟨62, _⟩ => ⟨S8x2064x4x2x64, .f32⟩
  | .hbm, ⟨63, _⟩ => ⟨S8x2064x4x128, .f32⟩
  | .hbm, ⟨64, _⟩ => ⟨S1x8x2064x64, .f32⟩
  | .hbm, ⟨65, _⟩ => ⟨S1x8x2064x64, .f32⟩
  | .hbm, ⟨66, _⟩ => ⟨S1x8x2064x64, .f32⟩
  | .hbm, ⟨67, _⟩ => ⟨S1x8x2064x4x2x64, .f32⟩
  | .hbm, ⟨68, _⟩ => ⟨S1x8x2064x4x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== FinishSample.lean ====
abbrev S8x16x1024 : Shape := ⟨3, ![8, 16, 1024]⟩
abbrev S128x512 : Shape := ⟨2, ![128, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S128x1024 : Shape := ⟨2, ![128, 1024]⟩
abbrev S128 : Shape := ⟨1, ![128]⟩
abbrev S128x1 : Shape := ⟨2, ![128, 1]⟩

abbrev nBuf : Space → Nat
  | .hbm => 19
  | .vmem => 9
  | .smem => 0
  | _ => 0

abbrev bufTy : (tb : Table) → Fin (tcTables nBuf tb) → BufTy
  | .hbm, ⟨0, _⟩ => ⟨S8x16x1024, .f32⟩
  | .hbm, ⟨1, _⟩ => ⟨S128x512, .bf16⟩
  | .hbm, ⟨2, _⟩ => ⟨S128x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024x4096, .f32⟩
  | .hbm, ⟨11, _⟩ => ⟨S1024x4096, .bf16⟩
  | .hbm, ⟨12, _⟩ => ⟨S4096x1024, .f32⟩
  | .hbm, ⟨13, _⟩ => ⟨S4096x1024, .bf16⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S128x1024, .f32⟩
  | .hbm, ⟨18, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1024x1024, .bf16⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S128x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishSampleReferenceIdeal.lean ====
abbrev S8x16x1024 : Shape := ⟨3, ![8, 16, 1024]⟩
abbrev S128x512 : Shape := ⟨2, ![128, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S128x1024 : Shape := ⟨2, ![128, 1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1024x4096 : Shape := ⟨2, ![1024, 4096]⟩
abbrev S128x4096 : Shape := ⟨2, ![128, 4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S128x512, .bf16⟩
  | .hbm, ⟨2, _⟩ => ⟨S128x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S128x1024, .f32⟩
  | .hbm, ⟨9, _⟩ => ⟨S128x1024, .bf16⟩
  | .hbm, ⟨10, _⟩ => ⟨S128x1024, .f32⟩
  | .hbm, ⟨11, _⟩ => ⟨S1024x1024, .f32⟩
  | .hbm, ⟨12, _⟩ => ⟨S128x1024, .f32⟩
  | .hbm, ⟨13, _⟩ => ⟨S128x1024, .f32⟩
  | .hbm, ⟨14, _⟩ => ⟨S1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x1024, .f32⟩
  | .hbm, ⟨27, _⟩ => ⟨S128x1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S1024x4096, .f32⟩
  | .hbm, ⟨32, _⟩ => ⟨S128x4096, .f32⟩
  | .hbm, ⟨33, _⟩ => ⟨S_, .f32⟩
  | .hbm, ⟨34, _⟩ => ⟨S128x4096, .f32⟩
  | .hbm, ⟨35, _⟩ => ⟨S128x4096, .f32⟩
  | .hbm, ⟨36, _⟩ => ⟨S128x4096, .f32⟩
  | .hbm, ⟨37, _⟩ => ⟨S4096x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x1024, .f32⟩
  | .hbm, ⟨52, _⟩ => ⟨S128x1024, .f32⟩
  | .hbm, ⟨53, _⟩ => ⟨S1x1024, .f32⟩
  | .hbm, ⟨54, _⟩ => ⟨S128x1024, .f32⟩
  | .hbm, ⟨55, _⟩ => ⟨S128x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.RowSpec.lean ====
/-
  The mathematics of the finishing layer, one row at a time, over the extended reals: the residual sum with the output
  projection, the normalisation of a row by its root mean square, and the squared-ReLU layer of 4096 units. Both the
  kernel's block and the reference are shown to be these functions of a row.
-/
module

public import Idealize.ShloMosaic.Lib.Pointwise
public import Idealize.ShloMosaic.Lib.Pipeline.ValueKit

@[expose] public section

noncomputable section

open Idealize.ShloMosaic

namespace Cert.Rows

/-- The mean of a row's squares over 1024 entries, plus the small constant that the normalisation adds. -/
def meanSq (x : Fin 1024 → EReal) : EReal :=
  Ideal.div (∑ k, x k * x k) (Ideal.ofBits FTy.f32 0x44800000#32) + Ideal.ofBits FTy.f32 0x358637BD#32

/-- A row divided by its root mean square and scaled entry by entry. -/
def rms (x g : Fin 1024 → EReal) (l : Fin 1024) : EReal := x l * Ideal.rsqrt (meanSq x) * g l

/-- Two half rows side by side, times the output projection, added to the input row. -/
def residual (x : Fin 1024 → EReal) (a b : Fin 512 → EReal) (w : Fin 1024 → Fin 1024 → EReal) (l : Fin 1024) : EReal :=
  x l + (∑ k : Fin 512, a k * w ⟨k, by omega⟩ l + ∑ k : Fin 512, b k * w ⟨512 + k, by omega⟩ l)

/-- One hidden unit: the squared positive part of the row's product with a column. -/
def unit (n u : Fin 1024 → EReal) : EReal := max (∑ k, n k * u k) 0 * max (∑ k, n k * u k) 0

/-- The hidden layer of 4096 units, projected back and added to the row. -/
def mlp (h n : Fin 1024 → EReal) (wu : Fin 1024 → Fin 4096 → EReal) (wd : Fin 4096 → Fin 1024 → EReal) (l : Fin 1024) :
    EReal :=
  h l + ∑ f : Fin 4096, unit n (fun k => wu k f) * wd f l

/-- The whole finishing layer of one row. -/
def layer (x : Fin 1024 → EReal) (a b : Fin 512 → EReal) (wo : Fin 1024 → Fin 1024 → EReal) (gm : Fin 1024 → EReal)
    (wu : Fin 1024 → Fin 4096 → EReal) (wd : Fin 4096 → Fin 1024 → EReal) (gf : Fin 1024 → EReal) : Fin 1024 → EReal :=
  rms (mlp (residual x a b wo) (rms (residual x a b wo) gm) wu wd) gf

/-- A sum over 4096 hidden units is the sum of its four quarters, added one after the other. -/
theorem sum_quarters {M : Type*} [AddCommMonoid M] (f : Fin 4096 → M) :
    ∑ i, f i = ∑ k : Fin 1024, f ⟨k, by omega⟩ + ∑ k : Fin 1024, f ⟨1024 + k, by omega⟩
      + ∑ k : Fin 1024, f ⟨2048 + k, by omega⟩ + ∑ k : Fin 1024, f ⟨3072 + k, by omega⟩ := by
  rw [Fin.sum_univ_tiles 4 1024 (by norm_num) f, Fin.sum_univ_four]
  simp only [Fin.val_zero, Fin.val_one, Fin.val_two, Nat.mul_zero, Nat.zero_mul, Nat.zero_add, Nat.one_mul]
  rfl

/-- The hidden layer taken a quarter of its units at a time, as the kernel adds it up. -/
theorem mlp_quarters (h n : Fin 1024 → EReal) (wu : Fin 1024 → Fin 4096 → EReal) (wd : Fin 4096 → Fin 1024 → EReal)
    (l : Fin 1024) :
    mlp h n wu wd l
      = h l + ∑ k : Fin 1024, unit n (fun i => wu i ⟨k, by omega⟩) * wd ⟨k, by omega⟩ l
        + ∑ k : Fin 1024, unit n (fun i => wu i ⟨1024 + k, by omega⟩) * wd ⟨1024 + k, by omega⟩ l
        + ∑ k : Fin 1024, unit n (fun i => wu i ⟨2048 + k, by omega⟩) * wd ⟨2048 + k, by omega⟩ l
        + ∑ k : Fin 1024, unit n (fun i => wu i ⟨3072 + k, by omega⟩) * wd ⟨3072 + k, by omega⟩ l := by
  unfold mlp
  rw [sum_quarters]
  simp only [add_assoc]

/-- A row's product with the projection, the row being two half rows, is the two halves' products added. -/
theorem residual_eq (x : Fin 1024 → EReal) (a b : Fin 512 → EReal) (w : Fin 1024 → Fin 1024 → EReal) (l : Fin 1024) :
    x l + ∑ k : Fin 1024, (if h : (k : ℕ) < 512 then a ⟨k, h⟩ else b ⟨k - 512, by omega⟩) * w k l = residual x a b w l := by
  unfold residual
  rw [Fin.sum_univ_two_halves 512 512 (by norm_num)]
  simp

end Cert.Rows

end
-- ==== Proof.FinishBlock.lean ====
/-
  What one grid point of the finishing kernel leaves in its block of 512 rows: row by row, the finishing layer
  (`Rows.layer`) of the block's rows.
-/
module

public import proofs.«01_k».proof.Proof.Gen.FinishKernelIdeal.Value
public import proofs.«01_k».proof.Proof.RowSpec

@[expose] public section

set_option maxRecDepth 16384

noncomputable section

open Idealize.ShloMosaic Idealize.ShloMosaic.TcCoe Idealize.SL.Sem
open Cert.Rows

namespace Cert.FinishKernelIdeal.Block

open Cert.FinishKernelIdeal Cert.FinishKernelIdeal.Gen

/-- Row `p` of a matrix. -/
abbrev row {R C : ℕ} (v : (⟨2, ![R, C]⟩ : Shape).Idx → EReal) (p : Fin R) (k : Fin C) : EReal := v (ix2 p k)

/-- The residual sum at an index of the block. -/
theorem pay2_apply (v0 v1 : Vec Ideal S512x512 .bf16) (v3 : Vec Ideal S512x1024 .f32) (v5 : Vec Ideal S1024x1024 .bf16)
    (p : Fin 512) (l : Fin 1024) :
    k0_pay2 v0 v1 v3 v5 (ix2 p l) = residual (row v3 p) (row v0 p) (row v1 p) (row v5) l := by
  pointwise [k0_pay2]
  rfl

/-- The normalised residual row at an index of the block. -/
theorem pay3_apply (v0 v1 : Vec Ideal S512x512 .bf16) (v3 : Vec Ideal S512x1024 .f32) (v5 : Vec Ideal S1024x1024 .bf16)
    (v9 : Vec Ideal S1x1024 .f32) (p : Fin 512) (l : Fin 1024) :
    k0_pay3 v0 v1 v3 v5 v9 (ix2 p l) = rms (residual (row v3 p) (row v0 p) (row v1 p) (row v5)) (row v9 0) l := by
  pointwise [k0_pay3]
  simp only [pay2_apply]
  rfl

/-- The residual row with the first quarter of the hidden layer added. -/
theorem pay4_apply (v0 v1 : Vec Ideal S512x512 .bf16) (v3 : Vec Ideal S512x1024 .f32) (v5 : Vec Ideal S1024x1024 .bf16)
    (v9 : Vec Ideal S1x1024 .f32) (u d : Vec Ideal S1024x1024 .bf16) (p : Fin 512) (l : Fin 1024) :
    k0_pay4 v0 v1 v3 v5 v9 u d (ix2 p l)
      = residual (row v3 p) (row v0 p) (row v1 p) (row v5) l
        + ∑ k : Fin 1024, unit (rms (residual (row v3 p) (row v0 p) (row v1 p) (row v5)) (row v9 0)) (fun i => u (ix2 i k))
          * d (ix2 k l) := by
  pointwise [k0_pay4]
  simp only [pay2_apply, pay3_apply]
  rfl

/-- The other three quarters of the hidden layer added one after the other. -/
theorem pay5_apply (n : FVec Ideal S512x1024 .bf16) (h : FVec Ideal S512x1024 .f32)
    (u1 d1 u2 d2 u3 d3 : Vec Ideal S1024x1024 .bf16) (p : Fin 512) (l : Fin 1024) :
    k0_pay5 n h u1 d1 u2 d2 u3 d3 (ix2 p l)
      = h (ix2 p l) + ∑ k : Fin 1024, unit (row n p) (fun i => u1 (ix2 i k)) * d1 (ix2 k l)
        + ∑ k : Fin 1024, unit (row n p) (fun i => u2 (ix2 i k)) * d2 (ix2 k l)
        + ∑ k : Fin 1024, unit (row n p) (fun i => u3 (ix2 i k)) * d3 (ix2 k l) := by
  pointwise [k0_pay5]
  rfl

/-- The last normalisation of the block. -/
theorem pay1_apply (n : FVec Ideal S512x1024 .bf16) (h : FVec Ideal S512x1024 .f32)
    (u1 d1 u2 d2 u3 d3 : Vec Ideal S1024x1024 .bf16) (g : Vec Ideal S1x1024 .f32) (p : Fin 512) (l : Fin 1024) :
    k0_pay1 (k0_pay5 n h u1 d1 u2 d2 u3 d3) (k0_pay6 g) (k0_pay7 n h u1 d1 u2 d2 u3 d3) (Scalar.ofBits .f32 0x44800000#32)
        (ix2 p l)
      = rms (fun k => k0_pay5 n h u1 d1 u2 d2 u3 d3 (ix2 p k)) (row g 0) l := by
  pointwise [k0_pay1, k0_pay6, k0_pay7]
  rfl

/-- A load of 1024 columns of the up projection, from column `o`. -/
theorem ld_up (x : Vec Ideal S1024x4096 .bf16) (o : ℕ) (ho : o + 1024 ≤ 4096)
    (inb : ∀ a, (![0, o] : Fin 2 → ℕ) a + S1024x1024.size a ≤ S1024x4096.size a) (i k : Fin 1024) :
    View.ld x (Rect.unit (s := S1024x4096) ![0, o] S1024x1024.size inb) (ix2 i k) = x (ix2 i ⟨o + k, by omega⟩) := by
  refine View.ld_unit_apply_of _ _ _ inb _ _ fun a => ?_
  match a with
  | ⟨0, _⟩ => simp
  | ⟨1, _⟩ => simp

/-- A load of 1024 rows of the down projection, from row `o`. -/
theorem ld_down (x : Vec Ideal S4096x1024 .bf16) (o : ℕ) (ho : o + 1024 ≤ 4096)
    (inb : ∀ a, (![o, 0] : Fin 2 → ℕ) a + S1024x1024.size a ≤ S4096x1024.size a) (k l : Fin 1024) :
    View.ld x (Rect.unit (s := S4096x1024) ![o, 0] S1024x1024.size inb) (ix2 k l) = x (ix2 ⟨o + k, by omega⟩ l) := by
  refine View.ld_unit_apply_of _ _ _ inb _ _ fun a => ?_
  match a with
  | ⟨0, _⟩ => simp
  | ⟨1, _⟩ => simp

/-- The load of the first 1024 columns. -/
theorem ld_up0 (x : Vec Ideal S1024x4096 .bf16)
    (inb : ∀ a, (![0, 0] : Fin 2 → ℕ) a + S1024x1024.size a ≤ S1024x4096.size a) (i k : Fin 1024) :
    View.ld x (Rect.unit (s := S1024x4096) ![0, 0] S1024x1024.size inb) (ix2 i k) = x (ix2 i ⟨k, by omega⟩) := by
  rw [ld_up x 0 (by norm_num)]
  simp only [Nat.zero_add]

/-- The load of the first 1024 rows. -/
theorem ld_down0 (x : Vec Ideal S4096x1024 .bf16)
    (inb : ∀ a, (![0, 0] : Fin 2 → ℕ) a + S1024x1024.size a ≤ S4096x1024.size a) (k l : Fin 1024) :
    View.ld x (Rect.unit (s := S4096x1024) ![0, 0] S1024x1024.size inb) (ix2 k l) = x (ix2 ⟨k, by omega⟩ l) := by
  rw [ld_down x 0 (by norm_num)]
  simp only [Nat.zero_add]

/-- A load at no offset of a whole matrix reads it. -/
theorem hz : (![0, 0] : Fin 2 → ℕ) = fun _ => 0 := by funext a; match a with | 0 => rfl | 1 => rfl

/-- The block that the body leaves, row by row. -/
theorem out_apply (x0 : Vec Ideal S512x1024 .f32) (x1 x2 : Vec Ideal S512x512 .bf16) (x3 : Vec Ideal S1024x1024 .bf16)
    (x4 : Vec Ideal S1x1024 .f32) (x5 : Vec Ideal S1024x4096 .bf16) (x6 : Vec Ideal S4096x1024 .bf16)
    (x7 : Vec Ideal S1x1024 .f32) (p : Fin 512) (l : Fin 1024) :
    out0_8 x0 x1 x2 x3 x4 x5 x6 x7 (ix2 p l)
      = layer (row x0 p) (row x1 p) (row x2 p) (row x3) (row x4 0) (row x5) (row x6) (row x7 0) l := by
  unfold_out out0_8
  rw [View.canon_unit_zero hz, pay1_apply, View.ld_unit_zero hz _ x7]
  unfold layer
  congr 1
  funext k
  rw [mlp_quarters, pay5_apply, pay4_apply]
  have hn : row (k0_pay3 x1 x2 x0 x3 x4) p
      = rms (residual (row x0 p) (row x1 p) (row x2 p) (row x3)) (row x4 0) :=
    funext fun k => pay3_apply x1 x2 x0 x3 x4 p k
  simp only [View.ld_unit_zero hz _ x0, View.ld_unit_zero hz _ x1, View.ld_unit_zero hz _ x2, View.ld_unit_zero hz _ x3,
    View.ld_unit_zero hz _ x4, hn, ld_up0 x5, ld_down0 x6, ld_up x5 1024 (by norm_num), ld_up x5 2048 (by norm_num),
    ld_up x5 3072 (by norm_num),
    ld_down x6 1024 (by norm_num), ld_down x6 2048 (by norm_num), ld_down x6 3072 (by norm_num)]

end Cert.FinishKernelIdeal.Block

end
-- ==== Proof.FinishArray.lean ====
/-
  The finishing kernel's result array: every row of it is the finishing layer of the arguments' rows.
-/
module

public import proofs.«01_k».proof.Proof.FinishBlock

@[expose] public section

set_option maxRecDepth 16384

noncomputable section

open Idealize.ShloMosaic Idealize.ShloMosaic.TcCoe Idealize.SL.Sem
open Idealize.ShloMosaic.Pipeline (Dat)
open Cert.Rows

namespace Cert.FinishKernelIdeal.Array

open Cert.FinishKernelIdeal Cert.FinishKernelIdeal.Gen Cert.FinishKernelIdeal.Block

variable (m : (ℓ : Loc nD τ sig) → Buf (Elt Ideal) ℓ)

/-- The finishing layer of row `r` of eight argument arrays. -/
def rowOf (x : (⟨3, ![8, 2048, 1024]⟩ : Shape).Idx → EReal) (a b : (⟨2, ![16384, 512]⟩ : Shape).Idx → EReal)
    (wo : (⟨3, ![1, 1024, 1024]⟩ : Shape).Idx → EReal) (gm : (⟨2, ![1, 1024]⟩ : Shape).Idx → EReal)
    (wu : (⟨3, ![1, 1024, 4096]⟩ : Shape).Idx → EReal) (wd : (⟨3, ![1, 4096, 1024]⟩ : Shape).Idx → EReal)
    (gf : (⟨1, ![1024]⟩ : Shape).Idx → EReal) (r : Fin 16384) : Fin 1024 → EReal :=
  layer (fun k => x (ix3 ⟨r / 2048, by omega⟩ ⟨r % 2048, by omega⟩ k)) (row a r) (row b r) (fun k l => wo (ix3 0 k l))
    (fun k => gm (ix2 0 k)) (fun k f => wu (ix3 0 k f)) (fun f l => wd (ix3 0 f l)) (fun k => gf (ix1 k))

/-- The result array of device `c`. -/
def result (c : Dev nD) : Buf (Elt Ideal) ((c : Thread nD τ).loc main_v10) := fun i =>
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- Where each window's block lies at a point: the row windows move by the point, the others stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by decide +kernel

/-- The row of the array that row `p` of point `t`'s block is. -/
theorem point_row (t : Fin grid0.N) (p : Fin 512) : t.val * 512 + p.val < 16384 := by
  have : t.val < 32 := t.isLt
  omega

/-- The finishing layers of two rows are equal when what they read is. -/
theorem layer_congr {x x' : Fin 1024 → EReal} {a a' b b' : Fin 512 → EReal} {wo wo' : Fin 1024 → Fin 1024 → EReal}
    {gm gm' : Fin 1024 → EReal} {wu wu' : Fin 1024 → Fin 4096 → EReal} {wd wd' : Fin 4096 → Fin 1024 → EReal}
    {gf gf' : Fin 1024 → EReal} (hx : ∀ k, x k = x' k) (ha : ∀ k, a k = a' k) (hb : ∀ k, b k = b' k)
    (ho : ∀ k l, wo k l = wo' k l) (hm : ∀ k, gm k = gm' k) (hu : ∀ k f, wu k f = wu' k f)
    (hd : ∀ f l, wd f l = wd' f l) (hf : ∀ k, gf k = gf' k) {l l' : Fin 1024} (hl : l = l') :
    layer x a b wo gm wu wd gf l = layer x' a' b' wo' gm' wu' wd' gf' l' := by
  obtain rfl : x = x' := funext hx
  obtain rfl : a = a' := funext ha
  obtain rfl : b = b' := funext hb
  obtain rfl : wo = wo' := funext₂ ho
  obtain rfl : gm = gm' := funext hm
  obtain rfl : wu = wu' := funext₂ hu
  obtain rfl : wd = wd' := funext₂ hd
  obtain rfl : gf = gf' := funext hf
  rw [hl]

set_option maxHeartbeats 2000000 in
/-- What a point writes back is its block of the result array. -/
theorem point (c : Dev nD) (t : Fin cfg0.N) (p : Fin 512) (l : Fin 1024) :
    out0_8 (iblk m c 0 t) (iblk m c 1 t) (iblk m c 2 t) (iblk m c 3 t) (iblk m c 4 t) (iblk m c 5 t) (iblk m c 6 t)
        (iblk m c 7 t) (ix2 p l)
      = result m c (ix2 ⟨t.val * 512 + p.val, point_row t p⟩ l) := by
  rw [out_apply]
  unfold result rowOf
  refine layer_congr (fun k => ?_) (fun k => ?_) (fun k => ?_) (fun k l => ?_) (fun k => ?_) (fun k f => ?_)
    (fun f l => ?_) (fun k => ?_) rfl
  all_goals simp only [row]
  all_goals blk_ext! [iblk, V, idx t]

/-- The result array after the run. -/
theorem final (c : Dev nD) : (dats m 0 c).arrAt 8 cfg0.N = result m c := by
  refine (dats m 0 c).arrAt_eq_of_covers 8 _ (by decide +kernel) fun t hf y => ?_
  blk_simp
  rw [after0_8]
  obtain ⟨p, l, rfl⟩ : ∃ (p : Fin 512) (l : Fin 1024), y = ix2 p l :=
    ⟨y 0, y 1, by funext a; match a with | ⟨0, _⟩ => rfl | ⟨1, _⟩ => rfl⟩
  refine (point m c t p l).trans (congrArg (result m c) ?_)
  blk_ext [idx t]

end Cert.FinishKernelIdeal.Array

end
-- ==== Proof.FinishRef.lean ====
/-
  The finishing reference: every row of what it computes is the finishing layer of the arguments' rows.
-/
module

public import proofs.«01_k».proof.Proof.Gen.FinishReferenceIdeal.Read
public import proofs.«01_k».proof.Proof.FinishArray

@[expose] public section

set_option maxRecDepth 16384

noncomputable section

open Idealize.ShloMosaic Idealize.ShloMosaic.TcCoe Idealize.SL.Sem
open Cert.Rows Cert.FinishKernelIdeal.Block Cert.FinishKernelIdeal.Array

namespace Cert.FinishReferenceIdeal.RefRows

open Cert.FinishReferenceIdeal Cert.FinishReferenceIdeal.Read

variable (x0 : (⟨S8x2048x1024, .f32⟩ : BufTy).Contents (Elt Ideal)) (x1 x2 : (⟨S16384x512, .bf16⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal))
  (x7 : (⟨S1024, .f32⟩ : BufTy).Contents (Elt Ideal))

/-- The input row of a reshaped batch. -/
abbrev inRow (r : Fin 16384) (k : Fin 1024) : EReal := x0 (ix3 ⟨r / 2048, by omega⟩ ⟨r % 2048, by omega⟩ k)

/-- The reference's residual sum. -/
theorem v5_apply (r : Fin 16384) (l : Fin 1024) :
    val_main_v5 (F := Ideal) x0 x1 x2 x3 (ix2 r l)
      = residual (inRow x0 r) (row x1 r) (row x2 r) (fun k l => x3 (ix3 0 k l)) l := by
  rw [← residual_eq]
  pointwise [val_main_v5, val_main_v0, val_main_v4, val_main_v2, val_main_v1, val_main_v3]
  try rfl

/-- The reference's normalised row. -/
theorem v19_apply (r : Fin 16384) (l : Fin 1024) :
    val_main_v19 (F := Ideal) x0 x1 x2 x3 x4 (ix2 r l)
      = rms (residual (inRow x0 r) (row x1 r) (row x2 r) (fun k l => x3 (ix3 0 k l))) (row x4 0) l := by
  pointwise [val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [v5_apply]
  try rfl

/-- The reference's row with the hidden layer added. -/
theorem v26_apply (r : Fin 16384) (l : Fin 1024) :
    val_main_v26 (F := Ideal) x0 x1 x2 x3 x4 x5 x6 (ix2 r l)
      = mlp (residual (inRow x0 r) (row x1 r) (row x2 r) (fun k l => x3 (ix3 0 k l)))
          (rms (residual (inRow x0 r) (row x1 r) (row x2 r) (fun k l => x3 (ix3 0 k l))) (row x4 0))
          (fun k f => x5 (ix3 0 k f)) (fun f l => x6 (ix3 0 f l)) l := by
  pointwise [val_main_v26, val_main_v25, val_main_v24, val_main_v23, val_main_v22, val_main_v21, val_main_v20,
    val_main_call0_v0, val_main_call0_cst]
  simp only [v5_apply, v19_apply]
  try rfl

/-- The reference's result. -/
theorem v39_apply (r : Fin 16384) (l : Fin 1024) :
    val_main_v39 (F := Ideal) x0 x1 x2 x3 x4 x5 x6 x7 (ix2 r l) = rowOf x0 x1 x2 x3 x4 x5 x6 x7 r l := by
  pointwise [val_main_v39, val_main_v38, val_main_v37, val_main_v36, val_main_v35, val_main_v34, val_main_v33, val_main_v32,
    val_main_v31, val_main_v30, val_main_v29, val_main_v28, val_main_v27, val_main_cst_2, val_main_cst_3, val_main_cst_4]
  simp only [v26_apply]
  try rfl

end Cert.FinishReferenceIdeal.RefRows

end
-- ==== Proof.FinishClaims.lean ====
/-
  The finishing call's claims: the frames of the kernel, of its ideal reading and of the reference, and that at the ideal
  instance kernel and reference end with one array.
-/
module

public import proofs.«01_k».proof.Defs
public import proofs.«01_k».proof.Proof.Gen.FinishKernel.Frame
public import proofs.«01_k».proof.Proof.FinishRef
public import Idealize.ShloMosaic.Lib.Quiescent

@[expose] public section

set_option maxRecDepth 16384

noncomputable section

open Idealize.ShloMosaic Idealize.ShloMosaic.TcCoe Idealize.SL.Sem

namespace Cert.Proof.Finish

/-- The finishing kernel's frame. -/
theorem frame_k : Cert.quiescent_FinishKernel := fun m ρ _ => Cert.FinishKernel.Gen.frame m ρ

/-- The frame of its ideal reading. -/
theorem frame_ki : Cert.quiescent_FinishKernelIdeal := fun m ρ _ => Cert.FinishKernelIdeal.Gen.frame m ρ

/-- The reference's frame: its run read at the arguments; it has no semaphore. -/
theorem frame_ri : Cert.quiescent_FinishReferenceIdeal := fun m ρ _ =>
  (θ_run Cert.FinishReferenceIdeal.defs _ _).mono
    (fun _ h => ⟨fun c => (h c).2, sem_eq_zero_of_no_sems (by decide) _⟩)
    (Cert.FinishReferenceIdeal.Value.run (F := Ideal) m ρ)

/-- The reading at the extended reals changed no operation. -/
theorem preserves : Cert.preserves_FinishKernel_FinishKernelIdeal := trivial

/-- Kernel and reference end with one array: row by row, the finishing layer of the arguments. -/
theorem algebraic : Cert.algebraic_FinishKernelIdeal_FinishReferenceIdeal := by
  intro m ρ m' ρ' _ hag
  refine ⟨fun c => Cert.FinishKernelIdeal.Array.result m c, ?_, ?_⟩
  · exact (θ_run Cert.FinishKernelIdeal.defs _ _).mono
      (fun _ h c => ⟨(h c).1.trans (Cert.FinishKernelIdeal.Array.final m c), (h c).2⟩)
      (Cert.FinishKernelIdeal.Value.run_blocks m ρ)
  refine (θ_run Cert.FinishReferenceIdeal.defs _ _).mono (fun _ h c => ⟨(h c).1.trans ?_, (h c).2⟩)
    (Cert.FinishReferenceIdeal.Value.run (F := Ideal) m' ρ')
  rw [Cert.FinishReferenceIdeal.Read.val_main_v39_eq]
  funext i
  obtain ⟨r, l, rfl⟩ : ∃ (r : Fin 16384) (l : Fin 1024), i = ix2 r l :=
    ⟨i 0, i 1, by funext a; match a with | ⟨0, _⟩ => rfl | ⟨1, _⟩ => rfl⟩
  refine (Cert.FinishReferenceIdeal.RefRows.v39_apply _ _ _ _ _ _ _ _ r l).trans ?_
  obtain ⟨h0, h1, h2, h3, h4, h5, h6, h7⟩ := hag c
  rw [h0, h1, h2, h3, h4, h5, h6, h7]
  rfl

end Cert.Proof.Finish

end
-- ==== Proof.SampleCachesIdealBody.lean ====
module

public import proofs.«01_k».proof.Proof.Gen.SampleCachesIdeal.Frame
public import proofs.«01_k».proof.Proof.Gen.SampleCachesIdeal.Skeleton

@[expose] public section

set_option maxRecDepth 16384

noncomputable section

namespace Cert.SampleCachesIdeal.Hand

open Cert.SampleCachesIdeal Cert.SampleCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores into each of its result buffers: the pieces, last first. -/
structure Left (F : FTy → Type) [FloatOps F] where
  w6 : List (View.Piece (Elt F) S8x128x128 .bf16)
  w7 : List (View.Piece (Elt F) S4x128x64 .bf16)
  w8 : List (View.Piece (Elt F) S8x128x128 .bf16)
  w9 : List (View.Piece (Elt F) S8x128x128 .bf16)
  w10 : List (View.Piece (Elt F) S512x128 .f32)
  w11 : List (View.Piece (Elt F) S128x128 .bf16)
  w12 : List (View.Piece (Elt F) S128x64 .bf16)
  w13 : List (View.Piece (Elt F) S128x512 .f32)
  w14 : List (View.Piece (Elt F) S128x512 .bf16)
  w15 : List (View.Piece (Elt F) S128x256 .f32)
  w16 : List (View.Piece (Elt F) S128x128 .bf16)

/-- A rectangle of whole rows, every fourth one from row `q` on. -/
def FromRow (r : Rect S512x128) (q : ℕ) : Prop :=
  ∀ a, r.off a = (![q, 0] : Fin 2 → ℕ) a ∧ r.size a = 128 ∧ r.stride a = (![4, 1] : Fin 2 → ℕ) a

/-- Four row-interleaved pieces, one from each of the first four rows on at every fourth row, cover the buffer. -/
theorem cover_rows (r3 r2 r1 r0 : Rect S512x128) (h3 : FromRow r3 3) (h2 : FromRow r2 2) (h1 : FromRow r1 1) (h0 : FromRow r0 0)
    (p3 : r3.shape.Idx → Elt F .f32) (p2 : r2.shape.Idx → Elt F .f32) (p1 : r1.shape.Idx → Elt F .f32) (p0 : r0.shape.Idx → Elt F .f32)
    (y : S512x128.Idx) :
    ∃ pc ∈ ([⟨r3, p3⟩, ⟨r2, p2⟩, ⟨r1, p1⟩, ⟨r0, p0⟩] : List (View.Piece (Elt F) S512x128 .f32)), y ∈ pc.1.set := by
  have hy0 : (y 0).val < 512 := (y 0).isLt
  have hy1 : (y 1).val < 128 := (y 1).isLt
  have key : ∀ (r : Rect S512x128) (q : ℕ), FromRow r q → (y 0).val % 4 = q → y ∈ r.set := by
    intro r q hr hq
    rw [show r.set = r.toLoadRect.set from rfl, LoadRect.mem_set]
    intro a
    rw [(hr a).1, (hr a).2.1, (hr a).2.2]
    match a with
    | 0 => exact ⟨(y 0).val / 4, by omega, by show (y 0).val = q + 4 * ((y 0).val / 4); omega⟩
    | 1 => exact ⟨(y 1).val, hy1, by show (y 1).val = 0 + 1 * (y 1).val; omega⟩
  have hm : (y 0).val % 4 = 0 ∨ (y 0).val % 4 = 1 ∨ (y 0).val % 4 = 2 ∨ (y 0).val % 4 = 3 := by omega
  rcases hm with h | h | h | h
  · exact ⟨_, List.mem_cons_of_mem _ (List.mem_cons_of_mem _ (List.mem_cons_of_mem _ (List.mem_cons_self ..))), key r0 0 h0 h⟩
  · exact ⟨_, List.mem_cons_of_mem _ (List.mem_cons_of_mem _ (List.mem_cons_self ..)), key r1 1 h1 h⟩
  · exact ⟨_, List.mem_cons_of_mem _ (List.mem_cons_self ..), key r2 2 h2 h⟩
  · exact ⟨_, List.mem_cons_self .., key r3 3 h3 h⟩

set_option maxHeartbeats 4000000 in
/-- The projection's body run on whole buffers: the inputs are left as they were, and each result buffer holds the
    pieces stored into it, whatever it held before. -/
noncomputable def run (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x128x128 .bf16) (harg7 : arg7.IsWhole) (arg8 : Memref sig .tc .vmem S4x128x64 .bf16) (harg8 : arg8.IsWhole) (arg9 : Memref sig .tc .vmem S8x128x128 .bf16) (harg9 : arg9.IsWhole) (arg10 : Memref sig .tc .vmem S8x128x128 .bf16) (harg10 : arg10.IsWhole) (arg11 : Memref sig .tc .vmem S512x128 .f32) (harg11 : arg11.IsWhole) (arg12 : Memref sig .tc .vmem S128x128 .bf16) (harg12 : arg12.IsWhole) (arg13 : Memref sig .tc .vmem S128x64 .bf16) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x256 .f32) (harg16 : arg16.IsWhole) (arg17 : Memref sig .tc .vmem S128x128 .bf16) (harg17 : arg17.IsWhole)
    (x0 : Vec F S128x1024 .f32) (x1 : Vec F S1x1024 .f32) (x2 : Vec F S1024x2560 .bf16) (x3 : Vec F S1024x1024 .bf16) (x4 : Vec F S1x64 .f32) (x5 : Vec F S1x64 .f32) :
    { L : Left F // ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon L.w6) ∗ owns (c : Thread nD τ) arg8 fullShare (View.canon L.w7) ∗ owns (c : Thread nD τ) arg9 fullShare (View.canon L.w8) ∗ owns (c : Thread nD τ) arg10 fullShare (View.canon L.w9) ∗ owns (c : Thread nD τ) arg11 fullShare (View.canon L.w10) ∗ owns (c : Thread nD τ) arg12 fullShare (View.canon L.w11) ∗ owns (c : Thread nD τ) arg13 fullShare (View.canon L.w12) ∗ owns (c : Thread nD τ) arg14 fullShare (View.canon L.w13) ∗ owns (c : Thread nD τ) arg15 fullShare (View.canon L.w14) ∗ owns (c : Thread nD τ) arg16 fullShare (View.canon L.w15) ∗ owns (c : Thread nD τ) arg17 fullShare (View.canon L.w16)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_, ?_, ?_, ?_⟩, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine View.read_writes_eq_canon (Val := Elt F) _ _ _ ?_
      exact fun y => View.cover_of_tiled _ ![1, 128, 128] (by sl_kernel_rfl) y
    isplitl [H7]
    · iexists _; isplitr
      swap; · iexact H7
      ipureintro
      refine View.read_writes_eq_canon (Val := Elt F) _ _ _ ?_
      exact fun y => View.cover_of_tiled _ ![1, 128, 64] (by sl_kernel_rfl) y
    isplitl [H8]
    · iexists _; isplitr
      swap; · iexact H8
      ipureintro
      refine View.read_writes_eq_canon (Val := Elt F) _ _ _ ?_
      exact fun y => View.cover_of_tiled _ ![1, 128, 128] (by sl_kernel_rfl) y
    isplitl [H9]
    · iexists _; isplitr
      swap; · iexact H9
      ipureintro
      refine View.read_writes_eq_canon (Val := Elt F) _ _ _ ?_
      exact fun y => View.cover_of_tiled _ ![1, 128, 128] (by sl_kernel_rfl) y
    isplitl [H10]
    · iexists _; isplitr
      swap; · iexact H10
      ipureintro
      refine View.read_writes_eq_canon (Val := Elt F) _ _ _ ?_
      exact fun y => cover_rows _ _ _ _ (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) _ _ _ _ y
    isplitl [H11]
    · iexists _; isplitr
      swap; · iexact H11
      ipureintro
      refine View.read_writes_eq_canon (Val := Elt F) _ _ _ ?_
      exact fun y => View.cover_of_tiled _ S128x128.size (by sl_kernel_rfl) y
    isplitl [H12]
    · iexists _; isplitr
      swap; · iexact H12
      ipureintro
      refine View.read_writes_eq_canon (Val := Elt F) _ _ _ ?_
      exact fun y => View.cover_of_tiled _ S128x64.size (by sl_kernel_rfl) y
    isplitl [H13]
    · iexists _; isplitr
      swap; · iexact H13
      ipureintro
      refine View.read_writes_eq_canon (Val := Elt F) _ _ _ ?_
      exact fun y => View.cover_of_tiled _ S128x512.size (by sl_kernel_rfl) y
    isplitl [H14]
    · iexists _; isplitr
      swap; · iexact H14
      ipureintro
      refine View.read_writes_eq_canon (Val := Elt F) _ _ _ ?_
      exact fun y => View.cover_of_tiled _ S128x512.size (by sl_kernel_rfl) y
    isplitl [H15]
    · iexists _; isplitr
      swap; · iexact H15
      ipureintro
      refine View.read_writes_eq_canon (Val := Elt F) _ _ _ ?_
      exact fun y => View.cover_of_tiledBy _ ![128, 64] (by sl_kernel_rfl) y
    iexists _; isplitr
    swap; · iexact H16
    ipureintro
    refine View.read_writes_eq_canon (Val := Elt F) _ _ _ ?_
    exact fun y => View.cover_of_tiled _ S128x128.size (by sl_kernel_rfl) y

end Cert.SampleCachesIdeal.Hand

end
-- ==== Proof.ProjSpec.lean ====
/-
  The mathematics of the projection, one row at a time, over the extended reals: a normalised row times a column of the
  input weights, and the layer normalisation of 64 projected entries.
-/
module

public import proofs.«01_k».proof.Proof.RowSpec

@[expose] public section

noncomputable section

open Idealize.ShloMosaic

namespace Cert.Rows

/-- A row times one column of a matrix. -/
def col (n u : Fin 1024 → EReal) : EReal := ∑ k, n k * u k

/-- The mean of 64 entries. -/
def mean64 (z : Fin 64 → EReal) : EReal := Ideal.div (∑ j, z j) (Ideal.ofBits FTy.f32 0x42800000#32)

/-- 64 entries with their mean taken off. -/
def centred (z : Fin 64 → EReal) (j : Fin 64) : EReal := z j - mean64 z

/-- The layer normalisation of 64 entries, scaled and shifted entry by entry. -/
def layerNorm (z g b : Fin 64 → EReal) (j : Fin 64) : EReal :=
  centred z j
      * Ideal.rsqrt (Ideal.div (∑ i, centred z i * centred z i) (Ideal.ofBits FTy.f32 0x42800000#32)
        + Ideal.ofBits FTy.f32 0x358637BD#32)
      * g j
    + b j

end Cert.Rows

end
-- ==== Proof.SampleBlock.lean ====
/-
  What the projection of the decoded tokens leaves in the three result buffers that the caches are read from: row by
  row, columns of the normalised row's product with the weights.
-/
module

public import proofs.«01_k».proof.Proof.SampleCachesIdealBody
public import proofs.«01_k».proof.Proof.ProjSpec
public import Idealize.ShloMosaic.Lib.Pipeline.ValueKit
public import Idealize.ShloMosaic.Lib.WholeRead
public import Idealize.ShloMosaic.Lib.UnfoldOut

@[expose] public section

set_option maxRecDepth 16384

noncomputable section

open Idealize.ShloMosaic Idealize.ShloMosaic.TcCoe Idealize.SL.Sem
open Cert.Rows

namespace Cert.SampleCachesIdeal.Hand

open Cert.SampleCachesIdeal Cert.SampleCachesIdeal.Gen

/-- Row `p` of a matrix. -/
abbrev row {R C : ℕ} (v : (⟨2, ![R, C]⟩ : Shape).Idx → EReal) (p : Fin R) (k : Fin C) : EReal := v (ix2 p k)

/-- Column `c` of a matrix of 1024 rows. -/
abbrev column {C : ℕ} (v : (⟨2, ![1024, C]⟩ : Shape).Idx → EReal) (c : Fin C) (k : Fin 1024) : EReal := v (ix2 k c)

/-- The normalised block, entry by entry. -/
theorem pay2_apply (v2 : Vec Ideal S128x1024 .f32) (v4 : Vec Ideal S1x1024 .f32) (p : Fin 128) (k : Fin 1024) :
    k0_pay2 v2 v4 (ix2 p k) = rms (row v2 p) (row v4 0) k := by
  pointwise [k0_pay2]
  rfl

/-- A product with 512 columns, entry by entry. -/
theorem pay135_apply (n : FVec Ideal S128x1024 .bf16) (w : Vec Ideal S1024x512 .bf16) (p : Fin 128) (l : Fin 512) :
    k0_pay135 n w (ix2 p l) = col (row n p) (column w l) := by
  pointwise [k0_pay135]
  rfl

/-- The four quarters of a product with 512 columns. -/
theorem pay147_apply (n : FVec Ideal S128x1024 .bf16) (w : Vec Ideal S1024x512 .bf16) (p : Fin 128) (l : Fin 128) :
    k0_pay147 n w (ix2 p l) = col (row n p) (column w ⟨l, by omega⟩) := by
  pointwise [k0_pay147, k0_pay146]
  rfl
theorem pay148_apply (n : FVec Ideal S128x1024 .bf16) (w : Vec Ideal S1024x512 .bf16) (p : Fin 128) (l : Fin 128) :
    k0_pay148 n w (ix2 p l) = col (row n p) (column w ⟨128 + l, by omega⟩) := by
  pointwise [k0_pay148, k0_pay146]
  rfl
theorem pay149_apply (n : FVec Ideal S128x1024 .bf16) (w : Vec Ideal S1024x512 .bf16) (p : Fin 128) (l : Fin 128) :
    k0_pay149 n w (ix2 p l) = col (row n p) (column w ⟨256 + l, by omega⟩) := by
  pointwise [k0_pay149, k0_pay146]
  rfl
theorem pay150_apply (n : FVec Ideal S128x1024 .bf16) (w : Vec Ideal S1024x512 .bf16) (p : Fin 128) (l : Fin 128) :
    k0_pay150 n w (ix2 p l) = col (row n p) (column w ⟨384 + l, by omega⟩) := by
  pointwise [k0_pay150, k0_pay146]
  rfl

/-- The first 128 of a product with 256 columns. -/
theorem pay163_apply (n : FVec Ideal S128x1024 .bf16) (w : Vec Ideal S1024x256 .bf16) (p : Fin 128) (l : Fin 128) :
    k0_pay163 n w (ix2 p l) = col (row n p) (column w ⟨l, by omega⟩) := by
  pointwise [k0_pay163, k0_pay158]
  rfl

/-- The next 64 of it, layer-normalised. -/
theorem pay160_apply (n : FVec Ideal S128x1024 .bf16) (w : Vec Ideal S1024x256 .bf16) (g b : Vec Ideal S1x64 .f32)
    (p : Fin 128) (l : Fin 64) :
    k0_pay160 n w g b (ix2 p l)
      = layerNorm (fun j => col (row n p) (column w ⟨128 + j, by omega⟩)) (row g 0) (row b 0) l := by
  pointwise [k0_pay160, k0_pay158]
  rfl

/-- A load at no offset of a whole matrix reads it. -/
theorem hz : (![0, 0] : Fin 2 → ℕ) = fun _ => 0 := by funext a; match a with | 0 => rfl | 1 => rfl

/-- A load of 512 columns of the weights, from column `o`. -/
theorem ld_512 (x : Vec Ideal S1024x2560 .bf16) (o : ℕ) (ho : o + 512 ≤ 2560)
    (inb : ∀ a, (![0, o] : Fin 2 → ℕ) a + S1024x512.size a ≤ S1024x2560.size a) (k : Fin 1024) (l : Fin 512) :
    View.ld x (Rect.unit (s := S1024x2560) ![0, o] S1024x512.size inb) (ix2 k l) = x (ix2 k ⟨o + l, by omega⟩) := by
  refine View.ld_unit_apply_of _ _ _ inb _ _ fun a => ?_
  match a with
  | ⟨0, _⟩ => simp
  | ⟨1, _⟩ => simp

/-- A load of 256 columns of the weights, from column `o`. -/
theorem ld_256 (x : Vec Ideal S1024x2560 .bf16) (o : ℕ) (ho : o + 256 ≤ 2560)
    (inb : ∀ a, (![0, o] : Fin 2 → ℕ) a + S1024x256.size a ≤ S1024x2560.size a) (k : Fin 1024) (l : Fin 256) :
    View.ld x (Rect.unit (s := S1024x2560) ![0, o] S1024x256.size inb) (ix2 k l) = x (ix2 k ⟨o + l, by omega⟩) := by
  refine View.ld_unit_apply_of _ _ _ inb _ _ fun a => ?_
  match a with
  | ⟨0, _⟩ => simp
  | ⟨1, _⟩ => simp

/-- An index of a matrix is named by its two coordinates. -/
theorem ix2_of_vals {R C : ℕ} (x : (⟨2, ![R, C]⟩ : Shape).Idx) (p : Fin R) (l : Fin C) (h0 : p.val = (x 0).val)
    (h1 : l.val = (x 1).val) : x = ix2 p l := by
  funext a
  match a with
  | 0 => exact Fin.ext h0.symm
  | 1 => exact Fin.ext h1.symm

/-- A piece of every fourth row from `q` on, where it holds row `4 p + h`: its own row `p`, and `q` is `h`. -/
theorem rowAt (p : Fin 128) (h : Fin 4) (l : Fin 128) (r : Rect S512x128) (q : ℕ) (hr : FromRow r q)
    (w : r.shape.Idx → EReal) (v : EReal)
    (hw : ∀ x : r.shape.Idx, q = h.val → (x 0).val = p.val → (x 1).val = l.val → w x = v) (hq4 : q < 4 := by norm_num) :
    View.RectAt (Val := Elt Ideal) (e := .f32) (ix2 (⟨4 * p + h, by omega⟩ : Fin 512) l : S512x128.Idx) r w v := by
  intro x hx
  have e0 := congrArg (fun z : S512x128.Idx => (z 0).val) hx
  have e1 := congrArg (fun z : S512x128.Idx => (z 1).val) hx
  simp only [Rect.emb_apply, (hr 0).1, (hr 1).1, (hr 0).2.2, (hr 1).2.2] at e0 e1
  change q + 4 * (x 0).val = 4 * p.val + h.val at e0
  change 0 + 1 * (x 1).val = l.val at e1
  exact hw x (by omega) (by omega) (by omega)

section
variable (c : Dev nD) (i : grid0.Coords) (arg1 : Memref sig .tc .vmem S128x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x128x128 .bf16) (harg7 : arg7.IsWhole) (arg8 : Memref sig .tc .vmem S4x128x64 .bf16) (harg8 : arg8.IsWhole) (arg9 : Memref sig .tc .vmem S8x128x128 .bf16) (harg9 : arg9.IsWhole) (arg10 : Memref sig .tc .vmem S8x128x128 .bf16) (harg10 : arg10.IsWhole) (arg11 : Memref sig .tc .vmem S512x128 .f32) (harg11 : arg11.IsWhole) (arg12 : Memref sig .tc .vmem S128x128 .bf16) (harg12 : arg12.IsWhole) (arg13 : Memref sig .tc .vmem S128x64 .bf16) (harg13 : arg13.IsWhole) (arg14 : Memref sig .tc .vmem S128x512 .f32) (harg14 : arg14.IsWhole) (arg15 : Memref sig .tc .vmem S128x512 .bf16) (harg15 : arg15.IsWhole) (arg16 : Memref sig .tc .vmem S128x256 .f32) (harg16 : arg16.IsWhole) (arg17 : Memref sig .tc .vmem S128x128 .bf16) (harg17 : arg17.IsWhole)
  (x0 : Vec Ideal S128x1024 .f32) (x1 : Vec Ideal S1x1024 .f32) (x2 : Vec Ideal S1024x2560 .bf16)
  (x3 : Vec Ideal S1024x1024 .bf16) (x4 : Vec Ideal S1x64 .f32) (x5 : Vec Ideal S1x64 .f32)

/-- What the run leaves. -/
abbrev leaves : Left Ideal :=
  (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).1

/-- The normalised row of the block. -/
abbrev nrow (p : Fin 128) : Fin 1024 → EReal := rms (row x0 p) (row x1 0)

/-- The normalised block's row, read through the loads. -/
theorem row_norm (p : Fin 128) (inb0 : ∀ a, (![0, 0] : Fin 2 → ℕ) a + S128x1024.size a ≤ S128x1024.size a)
    (inb1 : ∀ a, (![0, 0] : Fin 2 → ℕ) a + S1x1024.size a ≤ S1x1024.size a) :
    row (k0_pay2 (View.ld x0 (Rect.unit (s := S128x1024) ![0, 0] S128x1024.size inb0))
      (View.ld x1 (Rect.unit (s := S1x1024) ![0, 0] S1x1024.size inb1))) p = nrow x0 x1 p := by
  funext k
  rw [View.ld_unit_zero hz _ x0, View.ld_unit_zero hz _ x1]
  exact pay2_apply x0 x1 p k

/-- A loaded column is the weights' column. -/
theorem column_512 (o : ℕ) (ho : o + 512 ≤ 2560)
    (inb : ∀ a, (![0, o] : Fin 2 → ℕ) a + S1024x512.size a ≤ S1024x2560.size a) (l : Fin 512) :
    column (View.ld x2 (Rect.unit (s := S1024x2560) ![0, o] S1024x512.size inb)) l = column x2 ⟨o + l, by omega⟩ :=
  funext fun k => ld_512 x2 o ho inb k l
theorem column_256 (o : ℕ) (ho : o + 256 ≤ 2560)
    (inb : ∀ a, (![0, o] : Fin 2 → ℕ) a + S1024x256.size a ≤ S1024x2560.size a) (l : Fin 256) :
    column (View.ld x2 (Rect.unit (s := S1024x2560) ![0, o] S1024x256.size inb)) l = column x2 ⟨o + l, by omega⟩ :=
  funext fun k => ld_256 x2 o ho inb k l

/-- The keys of the second attention, as the run leaves them. -/
theorem w13_apply (p : Fin 128) (l : Fin 512) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w13 (ix2 p l)
      = col (nrow x0 x1 p) (column x2 ⟨1024 + l, by omega⟩) := by
  unfold leaves run
  dsimp only [run.sl.r]
  rw [View.canon_unit_zero hz, pay135_apply]
  simp only [View.readAt_eq_ld, Memref.IsWhole.read_unread]
  rw [row_norm, column_512 x2 1024 (by norm_num)]

/-- The small columns of the projection, as the run leaves them. -/
theorem w15_apply (p : Fin 128) (l : Fin 128) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w15 (ix2 p ⟨l, by omega⟩)
      = col (nrow x0 x1 p) (column x2 ⟨2304 + l, by omega⟩) := by
  unfold leaves run
  dsimp only [run.sl.r, run.sl.r_46]
  refine View.canon_eq_of_allAt _ _ _ ?_ ?_
  · refine ⟨_, List.mem_cons_of_mem _ (List.mem_cons_of_mem _ (List.mem_cons_self ..)), ?_⟩
    rw [Rect.mem_set_unit]
    intro a; match a with | 0 => simp | 1 => simp
  · refine View.allAt_cons_unit _ _ _ _ _ (fun x hx => absurd (hx 1) ?_)
      (View.allAt_cons_unit _ _ _ _ _ (fun x hx => absurd (hx 1) ?_)
        (View.allAt_cons_unit _ _ _ _ _ (fun x hx => ?_) (View.allAt_nil _ _)))
    · show ¬ (l.val = 192 + (x 1).val); omega
    · show ¬ (l.val = 128 + (x 1).val); omega
    · obtain rfl : x = ix2 p l := ix2_of_vals x p l (by have := hx 0; change p.val = 0 + (x 0).val at this; omega)
        (by have := hx 1; change l.val = 0 + (x 1).val at this; omega)
      rw [pay163_apply]
      simp only [View.readAt_eq_ld, Memref.IsWhole.read_unread]
      rw [row_norm, column_256 x2 2304 (by norm_num)]

/-- The layer-normalised index keys, as the run leaves them. -/
theorem w15_norm_apply (p : Fin 128) (l : Fin 64) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w15 (ix2 p ⟨128 + l, by omega⟩)
      = layerNorm (fun j => col (nrow x0 x1 p) (column x2 ⟨2432 + j, by omega⟩)) (row x4 0) (row x5 0) l := by
  unfold leaves run
  dsimp only [run.sl.r, run.sl.r_45]
  refine View.canon_eq_of_allAt _ _ _ ?_ ?_
  · refine ⟨_, List.mem_cons_of_mem _ (List.mem_cons_self ..), ?_⟩
    rw [Rect.mem_set_unit]
    intro a; match a with | 0 => simp | 1 => exact ⟨by simp, by show 128 + l.val < 128 + 64; omega⟩
  · refine View.allAt_cons_unit _ _ _ _ _ (fun x hx => absurd (hx 1) ?_)
      (View.allAt_cons_unit _ _ _ _ _ (fun x hx => ?_)
        (View.allAt_cons_unit _ _ _ _ _ (fun x hx => absurd (hx 1) ?_) (View.allAt_nil _ _)))
    · show ¬ (128 + l.val = 192 + (x 1).val); omega
    · obtain rfl : x = ix2 p l := ix2_of_vals x p l (by have := hx 0; change p.val = 0 + (x 0).val at this; omega)
        (by have := hx 1; change 128 + l.val = 128 + (x 1).val at this; omega)
      rw [pay160_apply]
      simp only [View.readAt_eq_ld, Memref.IsWhole.read_unread]
      simp only [row_norm, column_256 x2 2304 (by norm_num), View.ld_unit_zero hz _ x4, View.ld_unit_zero hz _ x5,
        ← Nat.add_assoc]
    · have := (x 1).isLt
      change (x 1).val < 128 at this
      show ¬ (128 + l.val = 0 + (x 1).val); omega

/-- The values of the second attention, as the run leaves them: every fourth row from row `h` on is head `h`'s. -/
theorem w10_apply (p : Fin 128) (h : Fin 4) (l : Fin 128) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w10 (ix2 ⟨4 * p + h, by omega⟩ l)
      = col (nrow x0 x1 p) (column x2 ⟨1536 + 128 * h + l, by omega⟩) := by
  unfold leaves run
  dsimp only [run.sl.r]
  refine View.canon_eq_of_allAt _ _ _ (cover_rows (F := Ideal) _ _ _ _ (by intro a; fin_cases a <;> exact ⟨rfl, rfl, rfl⟩)
    (by intro a; fin_cases a <;> exact ⟨rfl, rfl, rfl⟩) (by intro a; fin_cases a <;> exact ⟨rfl, rfl, rfl⟩)
    (by intro a; fin_cases a <;> exact ⟨rfl, rfl, rfl⟩) _ _ _ _ _) ?_
  refine View.allAt_cons _ _ _ (rowAt p h l _ 3 (by intro a; fin_cases a <;> exact ⟨rfl, rfl, rfl⟩) _ _ fun x hq h0 h1 => ?_)
    (View.allAt_cons _ _ _ (rowAt p h l _ 2 (by intro a; fin_cases a <;> exact ⟨rfl, rfl, rfl⟩) _ _ fun x hq h0 h1 => ?_)
    (View.allAt_cons _ _ _ (rowAt p h l _ 1 (by intro a; fin_cases a <;> exact ⟨rfl, rfl, rfl⟩) _ _ fun x hq h0 h1 => ?_)
    (View.allAt_cons _ _ _ (rowAt p h l _ 0 (by intro a; fin_cases a <;> exact ⟨rfl, rfl, rfl⟩) _ _ fun x hq h0 h1 => ?_)
      (View.allAt_nil _ _))))
  all_goals
    obtain rfl : x = ix2 p l := ix2_of_vals (R := 128) (C := 128) x p l h0.symm h1.symm
    first | rw [pay147_apply] | rw [pay148_apply] | rw [pay149_apply] | rw [pay150_apply]
    simp only [View.readAt_eq_ld, Memref.IsWhole.read_unread]
    rw [row_norm, column_512 x2 1536 (by norm_num)]
    congr 2
    refine Fin.ext ?_
    show 1536 + _ = 1536 + 128 * h.val + l.val
    rw [← hq, Nat.add_assoc]
    try (show 1536 + l.val = _; omega)

end

end Cert.SampleCachesIdeal.Hand

end
-- ==== Proof.SampleCachesIdealRun.lean ====
module

public import proofs.«01_k».proof.Proof.SampleCachesIdealBody
public import Idealize.ShloMosaic.Lib.Claim

@[expose] public section

set_option maxRecDepth 16384

noncomputable section

namespace Cert.SampleCachesIdeal.Hand

open Cert.SampleCachesIdeal Cert.SampleCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves at point `t`: the pieces found by running it on the point's blocks. -/
def left (c : Dev nD) (t : Fin cfg0.N) : Left F :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (iblk m c 0 t) (iblk m c 1 t) (iblk m c 2 t) (iblk m c 3 t) (iblk m c 4 t) (iblk m c 5 t)).1

/-- The body at point `t`, from its blocks to the pieces it leaves. -/
theorem left_sound (c : Dev nD) (t : Fin cfg0.N) (E : Set ℕ) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (View.canon (left m c t).w6) ∗ owns (c : Thread nD τ) (st0_7 t) fullShare (View.canon (left m c t).w7) ∗ owns (c : Thread nD τ) (st0_8 t) fullShare (View.canon (left m c t).w8) ∗ owns (c : Thread nD τ) (st0_9 t) fullShare (View.canon (left m c t).w9) ∗ owns (c : Thread nD τ) (st0_10 t) fullShare (View.canon (left m c t).w10) ∗ owns (c : Thread nD τ) (st0_11 t) fullShare (View.canon (left m c t).w11) ∗ owns (c : Thread nD τ) (st0_12 t) fullShare (View.canon (left m c t).w12) ∗ owns (c : Thread nD τ) (st0_13 t) fullShare (View.canon (left m c t).w13) ∗ owns (c : Thread nD τ) (st0_14 t) fullShare (View.canon (left m c t).w14) ∗ owns (c : Thread nD τ) (st0_15 t) fullShare (View.canon (left m c t).w15) ∗ owns (c : Thread nD τ) (st0_16 t) fullShare (View.canon (left m c t).w16)) -∗ K ⟨⟩))
      ⊢ wp frame (wpE (defs₀ (F := F)) Variants.none c none) E (bodyAt0 t) K :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (iblk m c 0 t) (iblk m c 1 t) (iblk m c 2 t) (iblk m c 3 t) (iblk m c 4 t) (iblk m c 5 t)).2 E K

/-- The pipeline's contents: the arrays as the region finds them; after a point each input buffer still its block, each
    result buffer what the body's pieces leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (left m c t).w6
    | ⟨7, _⟩ => View.canon (left m c t).w7
    | ⟨8, _⟩ => View.canon (left m c t).w8
    | ⟨9, _⟩ => View.canon (left m c t).w9
    | ⟨10, _⟩ => View.canon (left m c t).w10
    | ⟨11, _⟩ => View.canon (left m c t).w11
    | ⟨12, _⟩ => View.canon (left m c t).w12
    | ⟨13, _⟩ => View.canon (left m c t).w13
    | ⟨14, _⟩ => View.canon (left m c t).w14
    | ⟨15, _⟩ => View.canon (left m c t).w15
    | ⟨16, _⟩ => View.canon (left m c t).w16
    | ⟨n + 17, h⟩ => absurd h (Nat.not_lt.mpr (Nat.le_add_left 17 n))
  Φ _ := Pipeline.ΦA spec0 c
  q _ := fullShare
  owed _ := 0

/-- The arrays are the contents at the region's entry. -/
theorem A_eq (c : Dev nD) (w : Fin cfg0.W) : (dats m 0 c).A w = V m c (Pipeline.arrRef spec0 w) := by
  dsimp only [dats]

/-! What each staging buffer holds after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = View.canon (left m c t).w6 := by dsimp only [dats]
theorem after0_7 (c : Dev nD) (t : Fin cfg0.N) : (dats m 0 c).after 7 t = View.canon (left m c t).w7 := by dsimp only [dats]
theorem after0_8 (c : Dev nD) (t : Fin cfg0.N) : (dats m 0 c).after 8 t = View.canon (left m c t).w8 := by dsimp only [dats]
theorem after0_9 (c : Dev nD) (t : Fin cfg0.N) : (dats m 0 c).after 9 t = View.canon (left m c t).w9 := by dsimp only [dats]
theorem after0_10 (c : Dev nD) (t : Fin cfg0.N) : (dats m 0 c).after 10 t = View.canon (left m c t).w10 := by dsimp only [dats]
theorem after0_11 (c : Dev nD) (t : Fin cfg0.N) : (dats m 0 c).after 11 t = View.canon (left m c t).w11 := by dsimp only [dats]
theorem after0_12 (c : Dev nD) (t : Fin cfg0.N) : (dats m 0 c).after 12 t = View.canon (left m c t).w12 := by dsimp only [dats]
theorem after0_13 (c : Dev nD) (t : Fin cfg0.N) : (dats m 0 c).after 13 t = View.canon (left m c t).w13 := by dsimp only [dats]
theorem after0_14 (c : Dev nD) (t : Fin cfg0.N) : (dats m 0 c).after 14 t = View.canon (left m c t).w14 := by dsimp only [dats]
theorem after0_15 (c : Dev nD) (t : Fin cfg0.N) : (dats m 0 c).after 15 t = View.canon (left m c t).w15 := by dsimp only [dats]
theorem after0_16 (c : Dev nD) (t : Fin cfg0.N) : (dats m 0 c).after 16 t = View.canon (left m c t).w16 := by dsimp only [dats]

/-! What each input buffer holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at any point, the invariant and the owed signals passed through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (left_sound m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The table's row for the region's body is the body. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The launch: every run ends with the arrays as the pipeline computes them, every other buffer as the later host
    lines leave it, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.SampleCachesIdeal.Hand

end
-- ==== Proof.SampleArray.lean ====
/-
  The arrays of the projection of the decoded tokens after the run: what the host prepares in front of the call, the
  call's result arrays, and the five cache entries read off them behind it.
-/
module

public import proofs.«01_k».proof.Proof.SampleBlock
public import proofs.«01_k».proof.Proof.SampleCachesIdealRun

@[expose] public section

set_option maxRecDepth 16384

noncomputable section

namespace Cert.SampleCachesIdeal.Hand

open Idealize.ShloMosaic Idealize.ShloMosaic.TcCoe Idealize.SL.Sem
open Cert.SampleCachesIdeal.Gen Cert.Rows

variable [Cert.SampleCachesIdeal.Facts]
variable (m : (ℓ : Loc nD τ sig) → Buf (Elt Ideal) ℓ)

/-- The weights as the host hands them to the call: transposed, their rows reordered, padded and transposed back. -/
def hostW (x : S1x1024x2500.Idx → EReal) : S1024x2560.Idx → EReal :=
  let wt : S2500x1024.Idx → EReal := transpose S2500x1024 [1, 0] (shapeCast S1024x2500 x shapeCasts_S1x1024x2500_S1024x2500) transposes_S1024x2500_S2500x1024_1_0
  transpose S1024x2560 [1, 0] (pad S2560x1024 ![0, 0] ![60, 0] ![0, 0]
    (concatenate S2500x1024 0 [⟨S512x1024, extractStridedSlice S512x1024 ![0, 0] wt slices_S2500x1024_S512x1024_0_0⟩,
      ⟨S512x1024, extractStridedSlice S512x1024 ![964, 0] wt slices_S2500x1024_S512x1024_964_0⟩,
      ⟨S512x1024, extractStridedSlice S512x1024 ![1476, 0] wt slices_S2500x1024_S512x1024_1476_0⟩,
      ⟨S512x1024, extractStridedSlice S512x1024 ![1988, 0] wt slices_S2500x1024_S512x1024_1988_0⟩,
      ⟨S256x1024, extractStridedSlice S256x1024 ![640, 0] wt slices_S2500x1024_S256x1024_640_0⟩,
      ⟨S128x1024, extractStridedSlice S128x1024 ![512, 0] wt slices_S2500x1024_S128x1024_512_0⟩,
      ⟨S68x1024, extractStridedSlice S68x1024 ![896, 0] wt slices_S2500x1024_S68x1024_896_0⟩]
      concatenates_S512x1024_S512x1024_S512x1024_S512x1024_S256x1024_S128x1024_S68x1024_S2500x1024_d0)
    (sitofp (F := Ideal) .bf16 (constantI S_ 32 0#32)) pads_S2500x1024_S2560x1024_0600_000 h_S_) transposes_S2560x1024_S1024x2560_1_0

/-- What stands in the call's weight operand when the call is reached. -/
theorem V_w (c : Dev nD) : V m c main_v12 = hostW (m ((c : Thread nD τ).loc main_arg2)) := by
  show V0 m c (Proc.devRef .tc main_v12) = _
  simp only [V0, hostOps0, hostOps0_1, hostOps0_2, List.flatten_cons, List.flatten_nil, List.append_nil, List.cons_append, List.nil_append]
  after_results <;> rfl

set_option maxHeartbeats 1000000 in
/-- The key and value columns of the second attention in the reordered weights. -/
theorem hostW_b (x : S1x1024x2500.Idx → EReal) (k : Fin 1024) (u : Fin 1024) :
    hostW x (ix2 k ⟨1024 + u, by omega⟩) = x (ix3 0 k ⟨1476 + u, by omega⟩) := by
  unfold hostW
  pointwise
  split_ifs <;> first | omega | (refine congrArg (fun j => x (ix3 0 k j)) (Fin.ext ?_); simp only []; omega)

set_option maxHeartbeats 1000000 in
/-- The key and value columns of the first attention in the reordered weights. -/
theorem hostW_a (x : S1x1024x2500.Idx → EReal) (k : Fin 1024) (u : Fin 128) :
    hostW x (ix2 k ⟨2304 + u, by omega⟩) = x (ix3 0 k ⟨512 + u, by omega⟩) := by
  unfold hostW
  pointwise
  split_ifs <;> first | omega | (refine congrArg (fun j => x (ix3 0 k j)) (Fin.ext ?_); simp only []; omega)

set_option maxHeartbeats 1000000 in
/-- The index key columns in the reordered weights. -/
theorem hostW_i (x : S1x1024x2500.Idx → EReal) (k : Fin 1024) (u : Fin 64) :
    hostW x (ix2 k ⟨2432 + u, by omega⟩) = x (ix3 0 k ⟨896 + u, by omega⟩) := by
  unfold hostW
  pointwise
  split_ifs <;> first | omega | (refine congrArg (fun j => x (ix3 0 k j)) (Fin.ext ?_); simp only []; omega)

/-- The normalised row of decoded token `r`. -/
def token (c : Dev nD) (r : Fin 128) : Fin 1024 → EReal :=
  rms (fun k => (m ((c : Thread nD τ).loc main_arg0) : S8x16x1024.Idx → EReal) (ix3 ⟨r / 16, by omega⟩ ⟨r % 16, by omega⟩ k))
    (fun k => (m ((c : Thread nD τ).loc main_arg1) : S1x1024.Idx → EReal) (ix2 0 k))

/-- Column `j` of the input weights. -/
def weight (c : Dev nD) (j : Fin 2500) : Fin 1024 → EReal :=
  fun k => (m ((c : Thread nD τ).loc main_arg2) : S1x1024x2500.Idx → EReal) (ix3 0 k j)

/-- The only grid point. -/
abbrev t0 : Fin cfg0.N := ⟨0, Nat.one_pos⟩

/-- Every window's only block lies at the origin of its array. -/
theorem idx : ∀ t : Fin grid0.N, win0_0.index t = ![0, 0] ∧ win0_1.index t = ![0, 0] ∧ win0_2.index t = ![0, 0]
    ∧ win0_4.index t = ![0, 0] ∧ win0_5.index t = ![0, 0] ∧ win0_10.index t = ![0, 0] ∧ win0_13.index t = ![0, 0]
    ∧ win0_15.index t = ![0, 0] := by decide +kernel

set_option maxHeartbeats 1000000 in
/-- The input rows, flattened. -/
theorem V_x (c : Dev nD) : V m c main_v20 = (shapeCast S128x1024 (m ((c : Thread nD τ).loc main_arg0) : S8x16x1024.Idx → EReal) shapeCasts_S8x16x1024_S128x1024 : S128x1024.Idx → EReal) := by
  show V0 m c (Proc.devRef .tc main_v20) = _
  simp only [V0, hostOps0, hostOps0_1, hostOps0_2, List.flatten_cons, List.flatten_nil, List.append_nil, List.cons_append, List.nil_append]
  after_results <;> rfl

set_option maxHeartbeats 1000000 in
/-- The scale of the normalisation, as one row. -/
theorem V_g (c : Dev nD) : V m c main_v15 = (broadcastInDim S1x1024 ![1] bcast_S1024_S1x1024_1 (shapeCast S1024 (m ((c : Thread nD τ).loc main_arg1) : S1x1024.Idx → EReal) shapeCasts_S1x1024_S1024) : S1x1024.Idx → EReal) := by
  show V0 m c (Proc.devRef .tc main_v15) = _
  simp only [V0, hostOps0, hostOps0_1, hostOps0_2, List.flatten_cons, List.flatten_nil, List.append_nil, List.cons_append, List.nil_append]
  after_results <;> rfl

set_option maxHeartbeats 1000000 in
/-- The scale of the layer normalisation, as one row. -/
theorem V_kg (c : Dev nD) : V m c main_v17 = (broadcastInDim S1x64 ![1] bcast_S64_S1x64_1 (shapeCast S64 (m ((c : Thread nD τ).loc main_arg3) : S1x64.Idx → EReal) shapeCasts_S1x64_S64) : S1x64.Idx → EReal) := by
  show V0 m c (Proc.devRef .tc main_v17) = _
  simp only [V0, hostOps0, hostOps0_1, hostOps0_2, List.flatten_cons, List.flatten_nil, List.append_nil, List.cons_append, List.nil_append]
  after_results <;> rfl

set_option maxHeartbeats 1000000 in
/-- The shift of the layer normalisation, as one row. -/
theorem V_kb (c : Dev nD) : V m c main_v19 = (broadcastInDim S1x64 ![1] bcast_S64_S1x64_1 (shapeCast S64 (m ((c : Thread nD τ).loc main_arg4) : S1x64.Idx → EReal) shapeCasts_S1x64_S64) : S1x64.Idx → EReal) := by
  show V0 m c (Proc.devRef .tc main_v19) = _
  simp only [V0, hostOps0, hostOps0_1, hostOps0_2, List.flatten_cons, List.flatten_nil, List.append_nil, List.cons_append, List.nil_append]
  after_results <;> rfl

/-- A token's entry after the two token axes are made one. -/
theorem flat_apply (x : S8x16x1024.Idx → EReal) (p : Fin 128) (k : Fin 1024) :
    shapeCast S128x1024 x shapeCasts_S8x16x1024_S128x1024 (ix2 p k) = x (ix3 ⟨p / 16, by omega⟩ ⟨p % 16, by omega⟩ k) := by
  pointwise
  try rfl

/-- An input row read off its block. -/
theorem x_eq (c : Dev nD) (t : Fin cfg0.N) (p : Fin 128) (k : Fin 1024) : iblk m c 0 t (ix2 p k)
    = (m ((c : Thread nD τ).loc main_arg0) : S8x16x1024.Idx → EReal) (ix3 ⟨p / 16, by omega⟩ ⟨p % 16, by omega⟩ k) := by
  have h : iblk m c 0 t (ix2 p k) = (V m c main_v20 : S128x1024.Idx → EReal) (ix2 p k) := by blk_ext! [iblk, idx t]
  rw [h, V_x]
  exact flat_apply _ p k

set_option maxHeartbeats 1000000 in
/-- The scale of the normalisation read off its block. -/
theorem n_eq (c : Dev nD) (t : Fin cfg0.N) (k : Fin 1024) : iblk m c 1 t (ix2 0 k)
    = (m ((c : Thread nD τ).loc main_arg1) : S1x1024.Idx → EReal) (ix2 0 k) := by
  have h : iblk m c 1 t (ix2 0 k) = (V m c main_v15 : S1x1024.Idx → EReal) (ix2 0 k) := by blk_ext! [iblk, idx t]
  rw [h, V_g]
  pointwise
  try rfl

set_option maxHeartbeats 1000000 in
/-- The scale of the layer normalisation read off its block. -/
theorem g_eq (c : Dev nD) (t : Fin cfg0.N) (j : Fin 64) :
    iblk m c 4 t (ix2 0 j) = (m ((c : Thread nD τ).loc main_arg3) : S1x64.Idx → EReal) (ix2 0 j) := by
  have h : iblk m c 4 t (ix2 0 j) = (V m c main_v17 : S1x64.Idx → EReal) (ix2 0 j) := by blk_ext! [iblk, idx t]
  rw [h, V_kg]
  pointwise
  try rfl

set_option maxHeartbeats 1000000 in
/-- The shift of the layer normalisation read off its block. -/
theorem b_eq (c : Dev nD) (t : Fin cfg0.N) (j : Fin 64) :
    iblk m c 5 t (ix2 0 j) = (m ((c : Thread nD τ).loc main_arg4) : S1x64.Idx → EReal) (ix2 0 j) := by
  have h : iblk m c 5 t (ix2 0 j) = (V m c main_v19 : S1x64.Idx → EReal) (ix2 0 j) := by blk_ext! [iblk, idx t]
  rw [h, V_kb]
  pointwise
  try rfl

/-- The normalised row read off the two blocks. -/
theorem nrow_eq (c : Dev nD) (t : Fin cfg0.N) (p : Fin 128) : nrow (iblk m c 0 t) (iblk m c 1 t) p = token m c p := by
  unfold nrow token
  congr 1
  · funext k
    exact x_eq m c t p k
  · funext k
    exact n_eq m c t k

set_option maxHeartbeats 1000000 in
/-- The weight block is what the host prepared. -/
theorem w_eq (c : Dev nD) (t : Fin cfg0.N) (k : Fin 1024) (u : Fin 2560) :
    iblk m c 2 t (ix2 k u) = hostW (m ((c : Thread nD τ).loc main_arg2)) (ix2 k u) := by
  rw [← V_w]
  blk_ext! [iblk, idx t]

/-- A column of the weight block that lies among the second attention's keys and values. -/
theorem column_b (c : Dev nD) (t : Fin cfg0.N) (u : Fin 1024) :
    column (iblk m c 2 t) ⟨1024 + u, by omega⟩ = weight m c ⟨1476 + u, by omega⟩ :=
  funext fun k => (w_eq m c t k _).trans (hostW_b _ k u)

/-- A column of the weight block that lies among the first attention's keys and values. -/
theorem column_a (c : Dev nD) (t : Fin cfg0.N) (u : Fin 128) :
    column (iblk m c 2 t) ⟨2304 + u, by omega⟩ = weight m c ⟨512 + u, by omega⟩ :=
  funext fun k => (w_eq m c t k _).trans (hostW_a _ k u)

/-- A column of the weight block that lies among the index keys. -/
theorem column_i (c : Dev nD) (t : Fin cfg0.N) (u : Fin 64) :
    column (iblk m c 2 t) ⟨2432 + u, by omega⟩ = weight m c ⟨896 + u, by omega⟩ :=
  funext fun k => (w_eq m c t k _).trans (hostW_i _ k u)

/-- The grid has one point. -/
theorem t0_only (t : Fin cfg0.N) : t = t0 := Fin.ext (Nat.lt_one_iff.mp t.isLt)

/-- An array that starts at the origin of its only block is the block. -/
theorem arr13 (c : Dev nD) : (dats m 0 c).arrAt 13 cfg0.N = View.canon (left m c t0).w13 := by
  refine (dats m 0 c).arrAt_eq_of_covers 13 _ (by decide +kernel) fun t hf y => ?_
  obtain rfl : t = t0 := t0_only t
  blk_simp
  rw [after0_13]
  refine congrArg (View.canon (left m c t0).w13) ?_
  blk_ext [idx t0]

/-- The same for the values of the second attention. -/
theorem arr10 (c : Dev nD) : (dats m 0 c).arrAt 10 cfg0.N = View.canon (left m c t0).w10 := by
  refine (dats m 0 c).arrAt_eq_of_covers 10 _ (by decide +kernel) fun t hf y => ?_
  obtain rfl : t = t0 := t0_only t
  blk_simp
  rw [after0_10]
  refine congrArg (View.canon (left m c t0).w10) ?_
  blk_ext [idx t0]

/-- The same for the first attention's keys, values and index keys. -/
theorem arr15 (c : Dev nD) : (dats m 0 c).arrAt 15 cfg0.N = View.canon (left m c t0).w15 := by
  refine (dats m 0 c).arrAt_eq_of_covers 15 _ (by decide +kernel) fun t hf y => ?_
  obtain rfl : t = t0 := t0_only t
  blk_simp
  rw [after0_15]
  refine congrArg (View.canon (left m c t0).w15) ?_
  blk_ext [idx t0]

end Cert.SampleCachesIdeal.Hand

end
-- ==== Proof.SampleTail.lean ====
/-
  The cache entries of the decoded tokens: the arrays after the call and what the host reads off them.
-/
module

public import proofs.«01_k».proof.Proof.SampleArray

@[expose] public section

set_option maxRecDepth 16384

noncomputable section

namespace Cert.SampleCachesIdeal.Hand

open Idealize.ShloMosaic Idealize.ShloMosaic.TcCoe Idealize.SL.Sem
open Cert.SampleCachesIdeal.Gen Cert.Rows

variable [Cert.SampleCachesIdeal.Facts]
variable (m : (ℓ : Loc nD τ sig) → Buf (Elt Ideal) ℓ)

/-- The keys of the second attention after the run. -/
theorem final13 (c : Dev nD) (p : Fin 128) (l : Fin 512) :
    (dats m 0 c).arrAt 13 cfg0.N (ix2 p l) = col (token m c p) (weight m c ⟨1476 + l, by omega⟩) := by
  rw [arr13]
  refine (w13_apply ..).trans ?_
  rw [nrow_eq, column_b m c t0 ⟨l, by omega⟩]

/-- The values of the second attention after the run: row `4 p + h` is head `h` of token `p`. -/
theorem final10 (c : Dev nD) (p : Fin 128) (h : Fin 4) (l : Fin 128) :
    (dats m 0 c).arrAt 10 cfg0.N (ix2 ⟨4 * p + h, by omega⟩ l)
      = col (token m c p) (weight m c ⟨1988 + 128 * h + l, by omega⟩) := by
  rw [arr10]
  refine (w10_apply ..).trans ?_
  rw [nrow_eq, show (⟨1536 + 128 * h + l, by omega⟩ : Fin 2560) = ⟨1024 + (512 + 128 * h + l), by omega⟩ from Fin.ext (by simp only []; omega),
    column_b m c t0 ⟨512 + 128 * h + l, by omega⟩]
  congr 2
  refine Fin.ext ?_
  simp only []
  omega

/-- The first attention's keys and values after the run. -/
theorem final15 (c : Dev nD) (p l : Fin 128) :
    (dats m 0 c).arrAt 15 cfg0.N (ix2 p ⟨l, by omega⟩) = col (token m c p) (weight m c ⟨512 + l, by omega⟩) := by
  rw [arr15]
  refine (w15_apply ..).trans ?_
  rw [nrow_eq, column_a m c t0 l]

/-- The first attention's index keys after the run. -/
theorem final15_norm (c : Dev nD) (p : Fin 128) (l : Fin 64) :
    (dats m 0 c).arrAt 15 cfg0.N (ix2 p ⟨128 + l, by omega⟩)
      = layerNorm (fun j => col (token m c p) (weight m c ⟨896 + j, by omega⟩))
          (fun j => (m ((c : Thread nD τ).loc main_arg3) : S1x64.Idx → EReal) (ix2 0 j))
          (fun j => (m ((c : Thread nD τ).loc main_arg4) : S1x64.Idx → EReal) (ix2 0 j)) l := by
  rw [arr15]
  refine (w15_norm_apply ..).trans ?_
  simp only [nrow_eq, column_i m c t0]
  congr 1
  · exact funext fun j => g_eq m c t0 j
  · exact funext fun j => b_eq m c t0 j

/-! The five cache entries. -/

/-- The contents that the operations behind the call start from. -/
abbrev exitV (c : Dev nD) : Valuation τ sig (Elt Ideal) :=
  Pipeline.withArrays spec0 c (V0 m c) fun w => (dats m 0 c).arrAt w cfg0.N

/-- The array of small columns, after the region. -/
theorem exit_sm (c : Dev nD) : exitV m c (Proc.devRef .tc main_v21_9) = (dats m 0 c).arrAt 15 cfg0.N :=
  Pipeline.withArrays_arr spec0 launch0.win.arr_inj c (V0 m c) _ 15
/-- The keys' array, after the region. -/
theorem exit_kb (c : Dev nD) : exitV m c (Proc.devRef .tc main_v21_7) = (dats m 0 c).arrAt 13 cfg0.N :=
  Pipeline.withArrays_arr spec0 launch0.win.arr_inj c (V0 m c) _ 13
/-- The values' array, after the region. -/
theorem exit_vb (c : Dev nD) : exitV m c (Proc.devRef .tc main_v21_4) = (dats m 0 c).arrAt 10 cfg0.N :=
  Pipeline.withArrays_arr spec0 launch0.win.arr_inj c (V0 m c) _ 10

/-- The entry of the first attention's keys, read off the call's array. -/
theorem tail_v23 (c : Dev nD) : Pipeline.afterTail₀ cfgs (dats m) 0 (V0 m) [hostOps1] c main_v23 = (shapeCast S1x8x16x64 (extractStridedSlice S128x64 ![0, 0] ((dats m 0 c).arrAt 15 cfg0.N : S128x256.Idx → EReal) slices_S128x256_S128x64_0_0) shapeCasts_S128x64_S1x8x16x64 : S1x8x16x64.Idx → EReal) := by
  show StableHlo.after (List.flatten [hostOps1]) (exitV m c) (Proc.devRef .tc main_v23) = _
  simp only [hostOps1, List.flatten_cons, List.flatten_nil, List.append_nil, List.cons_append, List.nil_append]
  after_results
  all_goals (try rw [exit_sm])
  all_goals rfl

/-- The entry of the first attention's values, read off the call's array. -/
theorem tail_v25 (c : Dev nD) : Pipeline.afterTail₀ cfgs (dats m) 0 (V0 m) [hostOps1] c main_v25 = (shapeCast S1x8x16x64 (extractStridedSlice S128x64 ![0, 64] ((dats m 0 c).arrAt 15 cfg0.N : S128x256.Idx → EReal) slices_S128x256_S128x64_0_64) shapeCasts_S128x64_S1x8x16x64 : S1x8x16x64.Idx → EReal) := by
  show StableHlo.after (List.flatten [hostOps1]) (exitV m c) (Proc.devRef .tc main_v25) = _
  simp only [hostOps1, List.flatten_cons, List.flatten_nil, List.append_nil, List.cons_append, List.nil_append]
  after_results
  all_goals (try rw [exit_sm])
  all_goals rfl

/-- The entry of the index keys, read off the call's array. -/
theorem tail_v27 (c : Dev nD) : Pipeline.afterTail₀ cfgs (dats m) 0 (V0 m) [hostOps1] c main_v27 = (shapeCast S1x8x16x64 (extractStridedSlice S128x64 ![0, 128] ((dats m 0 c).arrAt 15 cfg0.N : S128x256.Idx → EReal) slices_S128x256_S128x64_0_128) shapeCasts_S128x64_S1x8x16x64 : S1x8x16x64.Idx → EReal) := by
  show StableHlo.after (List.flatten [hostOps1]) (exitV m c) (Proc.devRef .tc main_v27) = _
  simp only [hostOps1, List.flatten_cons, List.flatten_nil, List.append_nil, List.cons_append, List.nil_append]
  after_results
  all_goals (try rw [exit_sm])
  all_goals rfl

/-- The entry of the second attention's keys, read off the call's array. -/
theorem tail_v28 (c : Dev nD) : Pipeline.afterTail₀ cfgs (dats m) 0 (V0 m) [hostOps1] c main_v28 = (shapeCast S1x8x16x4x2x64 ((dats m 0 c).arrAt 13 cfg0.N : S128x512.Idx → EReal) shapeCasts_S128x512_S1x8x16x4x2x64 : S1x8x16x4x2x64.Idx → EReal) := by
  show StableHlo.after (List.flatten [hostOps1]) (exitV m c) (Proc.devRef .tc main_v28) = _
  simp only [hostOps1, List.flatten_cons, List.flatten_nil, List.append_nil, List.cons_append, List.nil_append]
  after_results
  all_goals (try rw [exit_kb])
  all_goals rfl

/-- The entry of the second attention's values, read off the call's array. -/
theorem tail_v29 (c : Dev nD) : Pipeline.afterTail₀ cfgs (dats m) 0 (V0 m) [hostOps1] c main_v29 = (shapeCast S1x8x16x4x128 ((dats m 0 c).arrAt 10 cfg0.N : S512x128.Idx → EReal) shapeCasts_S512x128_S1x8x16x4x128 : S1x8x16x4x128.Idx → EReal) := by
  show StableHlo.after (List.flatten [hostOps1]) (exitV m c) (Proc.devRef .tc main_v29) = _
  simp only [hostOps1, List.flatten_cons, List.flatten_nil, List.append_nil, List.cons_append, List.nil_append]
  after_results
  all_goals (try rw [exit_vb])
  all_goals rfl

/-- Token `16 b + s` is token `s` of batch `b`. -/
theorem token_at (c : Dev nD) (b : Fin 8) (s : Fin 16) : token m c ⟨16 * b + s, by omega⟩
    = rms (fun k => (m ((c : Thread nD τ).loc main_arg0) : S8x16x1024.Idx → EReal) (ix3 b s k))
        (fun k => (m ((c : Thread nD τ).loc main_arg1) : S1x1024.Idx → EReal) (ix2 0 k)) := by
  unfold token
  congr 1
  funext k
  congr 2 <;> exact Fin.ext (by simp only []; omega)

/-- Equal positions, equal entries. -/
theorem at_congr {R C : ℕ} (x : (⟨2, ![R, C]⟩ : Shape).Idx → EReal) {p p' : Fin R} {l l' : Fin C} (hp : p.val = p'.val)
    (hl : l.val = l'.val) : x (ix2 p l) = x (ix2 p' l') := by
  rw [Fin.ext hp, Fin.ext hl]

/-- Sixty-four columns, cut out and laid out by tokens. -/
theorem cut0_apply (x : S128x256.Idx → EReal) (b : Fin 8) (s : Fin 16) (l : Fin 64) :
    shapeCast S1x8x16x64 (extractStridedSlice S128x64 ![0, 0] x slices_S128x256_S128x64_0_0) shapeCasts_S128x64_S1x8x16x64 (ix4 0 b s l)
      = x (ix2 ⟨16 * b + s, by omega⟩ ⟨l, by omega⟩) := by
  pointwise
  refine at_congr x ?_ ?_ <;> first | rfl | omega | (simp only []; omega)

/-- The same from column 64 on. -/
theorem cut64_apply (x : S128x256.Idx → EReal) (b : Fin 8) (s : Fin 16) (l : Fin 64) :
    shapeCast S1x8x16x64 (extractStridedSlice S128x64 ![0, 64] x slices_S128x256_S128x64_0_64) shapeCasts_S128x64_S1x8x16x64 (ix4 0 b s l)
      = x (ix2 ⟨16 * b + s, by omega⟩ ⟨64 + l, by omega⟩) := by
  pointwise
  refine at_congr x ?_ ?_ <;> first | rfl | omega | (simp only []; omega)

/-- The same from column 128 on. -/
theorem cut128_apply (x : S128x256.Idx → EReal) (b : Fin 8) (s : Fin 16) (l : Fin 64) :
    shapeCast S1x8x16x64 (extractStridedSlice S128x64 ![0, 128] x slices_S128x256_S128x64_0_128) shapeCasts_S128x64_S1x8x16x64 (ix4 0 b s l)
      = x (ix2 ⟨16 * b + s, by omega⟩ ⟨128 + l, by omega⟩) := by
  pointwise
  refine at_congr x ?_ ?_ <;> first | rfl | omega | (simp only []; omega)

/-- The keys laid out by tokens, heads and halves. -/
theorem heads_apply (x : S128x512.Idx → EReal) (b : Fin 8) (s : Fin 16) (h : Fin 4) (e : Fin 2) (l : Fin 64) :
    shapeCast S1x8x16x4x2x64 x shapeCasts_S128x512_S1x8x16x4x2x64 (ix6 0 b s h e l)
      = x (ix2 ⟨16 * b + s, by omega⟩ ⟨128 * h + 64 * e + l, by omega⟩) := by
  pointwise
  refine at_congr x ?_ ?_ <;> first | rfl | omega | (simp only []; omega)

/-- The values laid out by tokens and heads. -/
theorem rows_apply (x : S512x128.Idx → EReal) (b : Fin 8) (s : Fin 16) (h : Fin 4) (l : Fin 128) :
    shapeCast S1x8x16x4x128 x shapeCasts_S512x128_S1x8x16x4x128 (ix5 0 b s h l)
      = x (ix2 ⟨4 * (16 * b + s) + h, by omega⟩ l) := by
  pointwise
  refine at_congr x ?_ ?_ <;> first | rfl | omega | (simp only []; omega)

/-- The first attention's keys: token by token, 64 columns of the product. -/
theorem entry_v23 (c : Dev nD) (b : Fin 8) (s : Fin 16) (l : Fin 64) :
    (Pipeline.afterTail₀ cfgs (dats m) 0 (V0 m) [hostOps1] c main_v23 : S1x8x16x64.Idx → EReal) (ix4 0 b s l)
      = col (token m c ⟨16 * b + s, by omega⟩) (weight m c ⟨512 + l, by omega⟩) := by
  rw [tail_v23, cut0_apply]
  exact final15 m c ⟨16 * b + s, by omega⟩ ⟨l, by omega⟩

/-- The first attention's values. -/
theorem entry_v25 (c : Dev nD) (b : Fin 8) (s : Fin 16) (l : Fin 64) :
    (Pipeline.afterTail₀ cfgs (dats m) 0 (V0 m) [hostOps1] c main_v25 : S1x8x16x64.Idx → EReal) (ix4 0 b s l)
      = col (token m c ⟨16 * b + s, by omega⟩) (weight m c ⟨512 + (64 + l), by omega⟩) := by
  rw [tail_v25, cut64_apply]
  exact final15 m c ⟨16 * b + s, by omega⟩ ⟨64 + l, by omega⟩

/-- The index keys. -/
theorem entry_v27 (c : Dev nD) (b : Fin 8) (s : Fin 16) (l : Fin 64) :
    (Pipeline.afterTail₀ cfgs (dats m) 0 (V0 m) [hostOps1] c main_v27 : S1x8x16x64.Idx → EReal) (ix4 0 b s l)
      = layerNorm (fun j => col (token m c ⟨16 * b + s, by omega⟩) (weight m c ⟨896 + j, by omega⟩))
          (fun j => (m ((c : Thread nD τ).loc main_arg3) : S1x64.Idx → EReal) (ix2 0 j))
          (fun j => (m ((c : Thread nD τ).loc main_arg4) : S1x64.Idx → EReal) (ix2 0 j)) l := by
  rw [tail_v27, cut128_apply]
  exact final15_norm m c ⟨16 * b + s, by omega⟩ l

/-- The second attention's keys. -/
theorem entry_v28 (c : Dev nD) (b : Fin 8) (s : Fin 16) (h : Fin 4) (e : Fin 2) (l : Fin 64) :
    (Pipeline.afterTail₀ cfgs (dats m) 0 (V0 m) [hostOps1] c main_v28 : S1x8x16x4x2x64.Idx → EReal) (ix6 0 b s h e l)
      = col (token m c ⟨16 * b + s, by omega⟩) (weight m c ⟨1476 + (128 * h + 64 * e + l), by omega⟩) := by
  rw [tail_v28, heads_apply]
  exact final13 m c ⟨16 * b + s, by omega⟩ ⟨128 * h + 64 * e + l, by omega⟩

/-- The second attention's values. -/
theorem entry_v29 (c : Dev nD) (b : Fin 8) (s : Fin 16) (h : Fin 4) (l : Fin 128) :
    (Pipeline.afterTail₀ cfgs (dats m) 0 (V0 m) [hostOps1] c main_v29 : S1x8x16x4x128.Idx → EReal) (ix5 0 b s h l)
      = col (token m c ⟨16 * b + s, by omega⟩) (weight m c ⟨1988 + 128 * h + l, by omega⟩) := by
  rw [tail_v29, rows_apply]
  exact final10 m c ⟨16 * b + s, by omega⟩ h l

end Cert.SampleCachesIdeal.Hand

end
-- ==== Proof.SampleRef.lean ====
/-
  The reference of the decoded tokens' cache entries: each entry is a column of the normalised row's product with the
  weights, or the layer normalisation of 64 such columns.
-/
module

public import proofs.«01_k».proof.Proof.Gen.SampleCachesReferenceIdeal.Read
public import proofs.«01_k».proof.Proof.Gen.SampleCachesReferenceIdeal.Run
public import proofs.«01_k».proof.Proof.ProjSpec
public import Idealize.ShloMosaic.Lib.Pointwise

@[expose] public section

set_option maxRecDepth 16384

noncomputable section

open Idealize.ShloMosaic Idealize.ShloMosaic.TcCoe Idealize.SL.Sem
open Cert.Rows

namespace Cert.SampleCachesReferenceIdeal.Entries

open Cert.SampleCachesReferenceIdeal Cert.SampleCachesReferenceIdeal.Read

variable (x0 : (⟨S8x16x1024, .f32⟩ : BufTy).Contents (Elt Ideal)) (x1 : (⟨S1x1024, .f32⟩ : BufTy).Contents (Elt Ideal))
  (x2 : (⟨S1x1024x2500, .f32⟩ : BufTy).Contents (Elt Ideal)) (x3 x4 : (⟨S1x64, .f32⟩ : BufTy).Contents (Elt Ideal))

/-- The normalised row of a token. -/
abbrev tok (b : Fin 8) (s : Fin 16) : Fin 1024 → EReal := rms (fun k => x0 (ix3 b s k)) (fun k => x1 (ix2 0 k))

/-- A column of the weights. -/
abbrev wcol (j : Fin 2500) : Fin 1024 → EReal := fun k => x2 (ix3 0 k j)

/-- The normalised rows. -/
theorem v16_apply (b : Fin 8) (s : Fin 16) (k : Fin 1024) :
    val_main_v16 (F := Ideal) x0 x1 (ix3 b s k) = tok x0 x1 b s k := by
  pointwise [val_main_v16, val_main_v15, val_main_v14, val_main_v13, val_main_v12, val_main_v11, val_main_v10, val_main_v9,
    val_main_v8, val_main_v7, val_main_v6, val_main_v5, val_main_v4, val_main_v0, val_main_cst, val_main_cst_0, val_main_cst_1]
  try rfl

/-- The projected rows. -/
theorem v17_apply (b : Fin 8) (s : Fin 16) (j : Fin 2500) :
    val_main_v17 (F := Ideal) x0 x1 x2 (ix3 b s j) = col (tok x0 x1 b s) (wcol x2 j) := by
  pointwise [val_main_v17, val_main_v1]
  simp only [v16_apply]
  try rfl

/-- The layer-normalised index keys. -/
theorem v44_apply (b : Fin 8) (s : Fin 16) (l : Fin 64) :
    val_main_v44 (F := Ideal) x0 x1 x2 x3 x4 (ix3 b s l)
      = layerNorm (fun j => col (tok x0 x1 b s) (wcol x2 ⟨896 + j, by omega⟩)) (fun j => x3 (ix2 0 j)) (fun j => x4 (ix2 0 j)) l := by
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v20, val_main_v3, val_main_v2,
    val_main_cst_2, val_main_cst_3, val_main_cst_4, val_main_cst_5, val_main_cst_6]
  simp only [v17_apply]
  try rfl

/-- The first attention's keys. -/
theorem v47_apply (b : Fin 8) (s : Fin 16) (l : Fin 64) :
    val_main_v47 (F := Ideal) x0 x1 x2 (ix4 0 b s l) = col (tok x0 x1 b s) (wcol x2 ⟨512 + l, by omega⟩) := by
  pointwise [val_main_v47, val_main_v18]
  simp only [v17_apply]
  try rfl

/-- The first attention's values. -/
theorem v48_apply (b : Fin 8) (s : Fin 16) (l : Fin 64) :
    val_main_v48 (F := Ideal) x0 x1 x2 (ix4 0 b s l) = col (tok x0 x1 b s) (wcol x2 ⟨576 + l, by omega⟩) := by
  pointwise [val_main_v48, val_main_v19]
  simp only [v17_apply]
  try rfl

/-- The index keys. -/
theorem v49_apply (b : Fin 8) (s : Fin 16) (l : Fin 64) :
    val_main_v49 (F := Ideal) x0 x1 x2 x3 x4 (ix4 0 b s l)
      = layerNorm (fun j => col (tok x0 x1 b s) (wcol x2 ⟨896 + j, by omega⟩)) (fun j => x3 (ix2 0 j)) (fun j => x4 (ix2 0 j)) l := by
  pointwise [val_main_v49]
  simp only [v44_apply]
  try rfl

/-- The second attention's keys. -/
theorem v50_apply (b : Fin 8) (s : Fin 16) (h : Fin 4) (e : Fin 2) (l : Fin 64) :
    val_main_v50 (F := Ideal) x0 x1 x2 (ix6 0 b s h e l)
      = col (tok x0 x1 b s) (wcol x2 ⟨1476 + 128 * h + 64 * e + l, by omega⟩) := by
  pointwise [val_main_v50, val_main_v45, val_main_v21]
  simp only [v17_apply]
  congr 2
  refine Fin.ext ?_
  simp only []
  omega

/-- The second attention's values. -/
theorem v51_apply (b : Fin 8) (s : Fin 16) (h : Fin 4) (l : Fin 128) :
    val_main_v51 (F := Ideal) x0 x1 x2 (ix5 0 b s h l)
      = col (tok x0 x1 b s) (wcol x2 ⟨1988 + 128 * h + l, by omega⟩) := by
  pointwise [val_main_v51, val_main_v46, val_main_v22]
  simp only [v17_apply]
  congr 2
  refine Fin.ext ?_
  simp only []
  omega

end Cert.SampleCachesReferenceIdeal.Entries

end
-- ==== Proof.SampleClaims.lean ====
/-
  The claims about the cache entries of the decoded tokens: frames of the call, of its ideal reading and of the reference,
  and the equality of the five entries.
-/
module

public import proofs.«01_k».proof.Proof.SampleTail
public import proofs.«01_k».proof.Proof.SampleRef
public import proofs.«01_k».proof.Proof.SampleCachesRun
public import proofs.«01_k».proof.Defs

@[expose] public section

set_option maxRecDepth 16384

noncomputable section

open Idealize.ShloMosaic Idealize.ShloMosaic.TcCoe Idealize.SL.Sem
open Cert.SampleCachesIdeal.Hand Cert.SampleCachesIdeal.Gen

namespace Cert.Proof.Sample

variable [Cert.SampleCaches.Facts] [Cert.SampleCachesIdeal.Facts] [Cert.SampleCachesReferenceIdeal.Facts]

/-- The frame of the projection of the decoded tokens. -/
theorem frame_k : Cert.quiescent_SampleCaches := fun m ρ _ => Cert.SampleCaches.Hand.frame m ρ

/-- The frame of its ideal reading. -/
theorem frame_ki : Cert.quiescent_SampleCachesIdeal := fun m ρ _ => Cert.SampleCachesIdeal.Hand.frame m ρ

/-- The reference's frame: its run read at the arguments; it has no semaphore. -/
theorem frame_ri : Cert.quiescent_SampleCachesReferenceIdeal := fun m ρ _ =>
  (θ_run Cert.SampleCachesReferenceIdeal.defs _ _).mono
    (fun _ h => ⟨fun c => (h c).2.2.2.2.2, sem_eq_zero_of_no_sems (by decide) _⟩)
    (Cert.SampleCachesReferenceIdeal.Value.run (F := Ideal) m ρ)

/-- The reading at the extended reals changed no operation. -/
theorem preserves : Cert.preserves_SampleCaches_SampleCachesIdeal := trivial

/-- An entry of the caches after the kernel. -/
abbrev entry (m : (ℓ : Loc Cert.SampleCachesIdeal.nD Cert.SampleCachesIdeal.τ Cert.SampleCachesIdeal.sig) → Buf (Elt Ideal) ℓ)
    (c : Dev Cert.SampleCachesIdeal.nD) (b : Ref Cert.SampleCachesIdeal.sig .tc) :=
  Pipeline.afterTail₀ Cert.SampleCachesIdeal.cfgs (dats m) 0 (V0 m) [hostOps1] c b

/-- Kernel and reference end with the same five entries. -/
theorem algebraic : Cert.algebraic_SampleCachesIdeal_SampleCachesReferenceIdeal := by
  intro m ρ m' ρ' _ hag
  refine ⟨fun c => entry m c Cert.SampleCachesIdeal.main_v23, fun c => entry m c Cert.SampleCachesIdeal.main_v25,
    fun c => entry m c Cert.SampleCachesIdeal.main_v27, fun c => entry m c Cert.SampleCachesIdeal.main_v28,
    fun c => entry m c Cert.SampleCachesIdeal.main_v29, ?_, ?_⟩
  · refine (θ_run Cert.SampleCachesIdeal.defs _ _).mono (fun r h c => ?_)
      (θ_run_and (run_main m ρ) (Cert.SampleCachesIdeal.Hand.frame m ρ))
    exact ⟨(h.1 c).2 _ (Pipeline.mem_restRefs_of _ (by decide) (by decide)),
      (h.1 c).2 _ (Pipeline.mem_restRefs_of _ (by decide) (by decide)),
      (h.1 c).2 _ (Pipeline.mem_restRefs_of _ (by decide) (by decide)),
      (h.1 c).2 _ (Pipeline.mem_restRefs_of _ (by decide) (by decide)),
      (h.1 c).2 _ (Pipeline.mem_restRefs_of _ (by decide) (by decide)), h.2.1 c⟩
  refine (θ_run Cert.SampleCachesReferenceIdeal.defs _ _).mono (fun _ h c => ?_)
    (Cert.SampleCachesReferenceIdeal.Value.run (F := Ideal) m' ρ')
  obtain ⟨h0, h1, h2, h3, h4⟩ := hag c
  obtain ⟨k0, k1, k2, k3, k4, k5⟩ := h c
  refine ⟨k0.trans ?_, k1.trans ?_, k2.trans ?_, k3.trans ?_, k4.trans ?_, k5⟩
  · rw [Cert.SampleCachesReferenceIdeal.Read.val_main_v47_eq]
    funext i
    obtain ⟨b, s, l, rfl⟩ : ∃ (b : Fin 8) (s : Fin 16) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.SampleCachesReferenceIdeal.Entries.v47_apply _ _ _ b s l).trans (Eq.trans ?_ (entry_v23 m c b s l).symm)
    rw [token_at, h0, h1, h2]
    rfl
  · rw [Cert.SampleCachesReferenceIdeal.Read.val_main_v48_eq]
    funext i
    obtain ⟨b, s, l, rfl⟩ : ∃ (b : Fin 8) (s : Fin 16) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.SampleCachesReferenceIdeal.Entries.v48_apply _ _ _ b s l).trans (Eq.trans ?_ (entry_v25 m c b s l).symm)
    rw [token_at, h0, h1, h2]
    congr 1
    funext k
    refine congrArg (fun j => (m ((c.tc : Thread Cert.SampleCachesIdeal.nD Cert.SampleCachesIdeal.τ).loc Cert.SampleCachesIdeal.main_arg2) : Cert.SampleCachesIdeal.S1x1024x2500.Idx → EReal) (ix3 0 k j)) (Fin.ext ?_)
    show 576 + l.val = 512 + (64 + l.val)
    omega
  · rw [Cert.SampleCachesReferenceIdeal.Read.val_main_v49_eq]
    funext i
    obtain ⟨b, s, l, rfl⟩ : ∃ (b : Fin 8) (s : Fin 16) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.SampleCachesReferenceIdeal.Entries.v49_apply _ _ _ _ _ b s l).trans (Eq.trans ?_ (entry_v27 m c b s l).symm)
    rw [token_at, h0, h1, h2, h3, h4]
    rfl
  · rw [Cert.SampleCachesReferenceIdeal.Read.val_main_v50_eq]
    funext i
    obtain ⟨b, s, g, e, l, rfl⟩ : ∃ (b : Fin 8) (s : Fin 16) (g : Fin 4) (e : Fin 2) (l : Fin 64), i = ix6 0 b s g e l :=
      ⟨i 1, i 2, i 3, i 4, i 5, by funext a; match a with
        | ⟨0, _⟩ => exact Subsingleton.elim (α := Fin 1) _ _ | ⟨1, _⟩ => rfl | ⟨2, _⟩ => rfl | ⟨3, _⟩ => rfl | ⟨4, _⟩ => rfl | ⟨5, _⟩ => rfl⟩
    refine (Cert.SampleCachesReferenceIdeal.Entries.v50_apply _ _ _ b s g e l).trans (Eq.trans ?_ (entry_v28 m c b s g e l).symm)
    rw [token_at, h0, h1, h2]
    congr 1
    funext k
    refine congrArg (fun j => (m ((c.tc : Thread Cert.SampleCachesIdeal.nD Cert.SampleCachesIdeal.τ).loc Cert.SampleCachesIdeal.main_arg2) : Cert.SampleCachesIdeal.S1x1024x2500.Idx → EReal) (ix3 0 k j)) (Fin.ext ?_)
    show 1476 + 128 * g.val + 64 * e.val + l.val = 1476 + (128 * g.val + 64 * e.val + l.val)
    omega
  · rw [Cert.SampleCachesReferenceIdeal.Read.val_main_v51_eq]
    funext i
    obtain ⟨b, s, g, l, rfl⟩ : ∃ (b : Fin 8) (s : Fin 16) (g : Fin 4) (l : Fin 128), i = ix5 0 b s g l :=
      ⟨i 1, i 2, i 3, i 4, by funext a; match a with
        | ⟨0, _⟩ => exact Subsingleton.elim (α := Fin 1) _ _ | ⟨1, _⟩ => rfl | ⟨2, _⟩ => rfl | ⟨3, _⟩ => rfl | ⟨4, _⟩ => rfl⟩
    refine (Cert.SampleCachesReferenceIdeal.Entries.v51_apply _ _ _ b s g l).trans (Eq.trans ?_ (entry_v29 m c b s g l).symm)
    rw [token_at, h0, h1, h2]
    rfl

end Cert.Proof.Sample

end
-- ==== Proof.PromptCachesIdealBody0.lean ====
module

public import proofs.«01_k».proof.Proof.Gen.PromptCachesIdeal.Regions
public import proofs.«01_k».proof.Proof.Gen.PromptCachesIdeal.Skeleton
public import proofs.«01_k».proof.Proof.Gen.PromptCachesIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PromptCachesIdeal.Hand0

open Cert.PromptCachesIdeal Cert.PromptCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores into each of its result buffers: the pieces, last first. -/
structure Left (F : FTy → Type) [FloatOps F] where
  w6 : List (View.Piece (Elt F) S8x512x128 .bf16)
  w7 : List (View.Piece (Elt F) S4x512x64 .bf16)
  w8 : List (View.Piece (Elt F) S8x512x128 .bf16)
  w9 : List (View.Piece (Elt F) S8x512x128 .bf16)
  w10 : List (View.Piece (Elt F) S2048x128 .f32)
  w11 : List (View.Piece (Elt F) S512x128 .bf16)
  w12 : List (View.Piece (Elt F) S512x64 .bf16)
  w13 : List (View.Piece (Elt F) S2x80x256 .bf16)
  w14 : List (View.Piece (Elt F) S8x512 .f32)
  w15 : List (View.Piece (Elt F) S2x4x144x256 .bf16)
  w16 : List (View.Piece (Elt F) S1x192x512 .f32)
  w17 : List (View.Piece (Elt F) S1x512x512 .f32)

/-- A rectangle of 256 whole rows, every fourth one from row `q` on. -/
def FromRow (r : Rect S2048x128) (q : ℕ) : Prop :=
  ∀ a, r.off a = (![q, 0] : Fin 2 → ℕ) a ∧ r.size a = (![256, 128] : Fin 2 → ℕ) a ∧ r.stride a = (![4, 1] : Fin 2 → ℕ) a

/-- Such a rectangle holds the positions of its rows. -/
theorem FromRow.mem {r : Rect S2048x128} {q : ℕ} (hr : FromRow r q) (y : S2048x128.Idx) (k : ℕ) (hk : k < 256) (hq : (y 0).val = q + 4 * k) : y ∈ r.set := by
  rw [show r.set = r.toLoadRect.set from rfl, LoadRect.mem_set]
  have hy1 : (y 1).val < 128 := (y 1).isLt
  intro a
  rw [(hr a).1, (hr a).2.1, (hr a).2.2]
  match a with
  | 0 => exact ⟨k, hk, hq⟩
  | 1 => exact ⟨(y 1).val, hy1, by show (y 1).val = 0 + 1 * (y 1).val; omega⟩

/-- The row-interleaved pieces cover the buffer. -/
theorem cover_rows (r13 r12 r11 r10 r03 r02 r01 r00 : Rect S2048x128) (h13 : FromRow r13 1027) (h12 : FromRow r12 1026) (h11 : FromRow r11 1025) (h10 : FromRow r10 1024) (h03 : FromRow r03 3) (h02 : FromRow r02 2) (h01 : FromRow r01 1) (h00 : FromRow r00 0)
    (p13 : r13.shape.Idx → Elt F .f32) (p12 : r12.shape.Idx → Elt F .f32) (p11 : r11.shape.Idx → Elt F .f32) (p10 : r10.shape.Idx → Elt F .f32) (p03 : r03.shape.Idx → Elt F .f32) (p02 : r02.shape.Idx → Elt F .f32) (p01 : r01.shape.Idx → Elt F .f32) (p00 : r00.shape.Idx → Elt F .f32) (y : S2048x128.Idx) :
    ∃ pc ∈ ([⟨r13, p13⟩, ⟨r12, p12⟩, ⟨r11, p11⟩, ⟨r10, p10⟩, ⟨r03, p03⟩, ⟨r02, p02⟩, ⟨r01, p01⟩, ⟨r00, p00⟩] : List (View.Piece (Elt F) S2048x128 .f32)), y ∈ pc.1.set := by
  have hy0 : (y 0).val < 2048 := (y 0).isLt
  have hm : (1024 ≤ (y 0).val ∧ (y 0).val < 2048 ∧ (y 0).val % 4 = 3) ∨ (1024 ≤ (y 0).val ∧ (y 0).val < 2048 ∧ (y 0).val % 4 = 2) ∨ (1024 ≤ (y 0).val ∧ (y 0).val < 2048 ∧ (y 0).val % 4 = 1) ∨ (1024 ≤ (y 0).val ∧ (y 0).val < 2048 ∧ (y 0).val % 4 = 0) ∨ (0 ≤ (y 0).val ∧ (y 0).val < 1024 ∧ (y 0).val % 4 = 3) ∨ (0 ≤ (y 0).val ∧ (y 0).val < 1024 ∧ (y 0).val % 4 = 2) ∨ (0 ≤ (y 0).val ∧ (y 0).val < 1024 ∧ (y 0).val % 4 = 1) ∨ (0 ≤ (y 0).val ∧ (y 0).val < 1024 ∧ (y 0).val % 4 = 0) := by omega
  rcases hm with h | h | h | h | h | h | h | h
  · exact ⟨_, List.mem_cons_self .., h13.mem y (((y 0).val - 1027) / 4) (by omega) (by omega)⟩
  · exact ⟨_, List.mem_cons_of_mem _ (List.mem_cons_self ..), h12.mem y (((y 0).val - 1026) / 4) (by omega) (by omega)⟩
  · exact ⟨_, List.mem_cons_of_mem _ (List.mem_cons_of_mem _ (List.mem_cons_self ..)), h11.mem y (((y 0).val - 1025) / 4) (by omega) (by omega)⟩
  · exact ⟨_, List.mem_cons_of_mem _ (List.mem_cons_of_mem _ (List.mem_cons_of_mem _ (List.mem_cons_self ..))), h10.mem y (((y 0).val - 1024) / 4) (by omega) (by omega)⟩
  · exact ⟨_, List.mem_cons_of_mem _ (List.mem_cons_of_mem _ (List.mem_cons_of_mem _ (List.mem_cons_of_mem _ (List.mem_cons_self ..)))), h03.mem y (((y 0).val - 3) / 4) (by omega) (by omega)⟩
  · exact ⟨_, List.mem_cons_of_mem _ (List.mem_cons_of_mem _ (List.mem_cons_of_mem _ (List.mem_cons_of_mem _ (List.mem_cons_of_mem _ (List.mem_cons_self ..))))), h02.mem y (((y 0).val - 2) / 4) (by omega) (by omega)⟩
  · exact ⟨_, List.mem_cons_of_mem _ (List.mem_cons_of_mem _ (List.mem_cons_of_mem _ (List.mem_cons_of_mem _ (List.mem_cons_of_mem _ (List.mem_cons_of_mem _ (List.mem_cons_self ..)))))), h01.mem y (((y 0).val - 1) / 4) (by omega) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), h00.mem y (((y 0).val - 0) / 4) (by omega) (by omega)⟩

set_option maxHeartbeats 8000000 in
set_option sl_exec.squeezeSlice true in
/-- The projection's body run on whole buffers: the inputs are left as they were, and each result buffer holds the
    pieces stored into it, whatever it held before. -/
noncomputable def run (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x512x128 .bf16) (harg7 : arg7.IsWhole) (arg8 : Memref sig .tc .vmem S4x512x64 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S2048x128 .f32) (harg11 : arg11.IsWhole) (arg12 : Memref sig .tc .vmem S512x128 .bf16) (harg12 : arg12.IsWhole) (arg13 : Memref sig .tc .vmem S512x64 .bf16) (harg13 : arg13.IsWhole) (arg14 : Memref sig .tc .vmem S2x80x256 .bf16) (harg14 : arg14.IsWhole) (arg15 : Memref sig .tc .vmem S8x512 .f32) (harg15 : arg15.IsWhole) (arg16 : Memref sig .tc .vmem S2x4x144x256 .bf16) (harg16 : arg16.IsWhole) (arg17 : Memref sig .tc .vmem S1x192x512 .f32) (harg17 : arg17.IsWhole) (arg18 : Memref sig .tc .vmem S1x512x512 .f32) (harg18 : arg18.IsWhole)
    (x0 : Vec F S512x1024 .f32) (x1 : Vec F S1x1024 .f32) (x2 : Vec F S1024x2560 .bf16) (x3 : Vec F S1024x1024 .bf16) (x4 : Vec F S1x64 .f32) (x5 : Vec F S1x64 .f32) :
    { L : Left F // ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon L.w6) ∗ owns (c : Thread nD τ) arg8 fullShare (View.canon L.w7) ∗ owns (c : Thread nD τ) arg9 fullShare (View.canon L.w8) ∗ owns (c : Thread nD τ) arg10 fullShare (View.canon L.w9) ∗ owns (c : Thread nD τ) arg11 fullShare (View.canon L.w10) ∗ owns (c : Thread nD τ) arg12 fullShare (View.canon L.w11) ∗ owns (c : Thread nD τ) arg13 fullShare (View.canon L.w12) ∗ owns (c : Thread nD τ) arg14 fullShare (View.canon L.w13) ∗ owns (c : Thread nD τ) arg15 fullShare (View.canon L.w14) ∗ owns (c : Thread nD τ) arg16 fullShare (View.canon L.w15) ∗ owns (c : Thread nD τ) arg17 fullShare (View.canon L.w16) ∗ owns (c : Thread nD τ) arg18 fullShare (View.canon L.w17)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_, ?_, ?_, ?_, ?_, ?_, ?_, ?_⟩, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine View.read_writes_eq_canon (Val := Elt F) _ _ _ ?_
      exact fun y => View.cover_of_tiled _ ![1, 256, 128] (by sl_kernel_rfl) y
    isplitl [H7]
    · iexists _; isplitr
      swap; · iexact H7
      ipureintro
      refine View.read_writes_eq_canon (Val := Elt F) _ _ _ ?_
      exact fun y => View.cover_of_tiled _ ![1, 256, 64] (by sl_kernel_rfl) y
    isplitl [H8]
    · iexists _; isplitr
      swap; · iexact H8
      ipureintro
      refine View.read_writes_eq_canon (Val := Elt F) _ _ _ ?_
      exact fun y => View.cover_of_tiled _ ![1, 256, 128] (by sl_kernel_rfl) y
    isplitl [H9]
    · iexists _; isplitr
      swap; · iexact H9
      ipureintro
      refine View.read_writes_eq_canon (Val := Elt F) _ _ _ ?_
      exact fun y => View.cover_of_tiled _ ![1, 256, 128] (by sl_kernel_rfl) y
    isplitl [H10]
    · iexists _; isplitr
      swap; · iexact H10
      ipureintro
      refine View.read_writes_eq_canon (Val := Elt F) _ _ _ ?_
      exact fun y => cover_rows _ _ _ _ _ _ _ _ (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) _ _ _ _ _ _ _ _ y
    isplitl [H11]
    · iexists _; isplitr
      swap; · iexact H11
      ipureintro
      refine View.read_writes_eq_canon (Val := Elt F) _ _ _ ?_
      exact fun y => View.cover_of_tiled _ ![256, 128] (by sl_kernel_rfl) y
    isplitl [H12]
    · iexists _; isplitr
      swap; · iexact H12
      ipureintro
      refine View.read_writes_eq_canon (Val := Elt F) _ _ _ ?_
      exact fun y => View.cover_of_tiled _ ![256, 64] (by sl_kernel_rfl) y
    isplitl [H13]
    · iexists _; isplitr
      swap; · iexact H13
      ipureintro
      refine View.read_writes_eq_canon (Val := Elt F) _ _ _ ?_
      exact fun y => View.cover_of_tiled _ ![1, 80, 256] (by sl_kernel_rfl) y
    isplitl [H14]
    · iexists _; isplitr
      swap; · iexact H14
      ipureintro
      refine View.read_writes_eq_canon (Val := Elt F) _ _ _ ?_
      exact fun y => View.cover_of_tiled _ ![8, 256] (by sl_kernel_rfl) y
    isplitl [H15]
    · iexists _; isplitr
      swap; · iexact H15
      ipureintro
      refine View.read_writes_eq_canon (Val := Elt F) _ _ _ ?_
      exact fun y => View.cover_of_tiled _ ![1, 1, 144, 256] (by sl_kernel_rfl) y
    isplitl [H16]
    · iexists _; isplitr
      swap; · iexact H16
      ipureintro
      refine View.read_writes_eq_canon (Val := Elt F) _ _ _ ?_
      exact fun y => View.cover_of_tiledBy _ ![1, 64, 256] (by sl_kernel_rfl) y
    iexists _; isplitr
    swap; · iexact H17
    ipureintro
    refine View.read_writes_eq_canon (Val := Elt F) _ _ _ ?_
    exact fun y => View.cover_of_tiled _ ![1, 512, 256] (by sl_kernel_rfl) y

end Cert.PromptCachesIdeal.Hand0

end
-- ==== Proof.PromptCachesIdealBody1.lean ====
module

public import proofs.«01_k».proof.Proof.Gen.PromptCachesIdeal.Regions
public import proofs.«01_k».proof.Proof.Gen.PromptCachesIdeal.Skeleton
public import proofs.«01_k».proof.Proof.Gen.PromptCachesIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PromptCachesIdeal.Hand1

open Cert.PromptCachesIdeal Cert.PromptCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores into each of its result buffers: the pieces, last first. -/
structure Left (F : FTy → Type) [FloatOps F] where
  w6 : List (View.Piece (Elt F) S8x16x128 .bf16)
  w7 : List (View.Piece (Elt F) S4x16x64 .bf16)
  w8 : List (View.Piece (Elt F) S8x16x128 .bf16)
  w9 : List (View.Piece (Elt F) S8x16x128 .bf16)
  w10 : List (View.Piece (Elt F) S64x128 .f32)
  w11 : List (View.Piece (Elt F) S16x128 .bf16)
  w12 : List (View.Piece (Elt F) S16x64 .bf16)
  w13 : List (View.Piece (Elt F) S16x512 .f32)
  w14 : List (View.Piece (Elt F) S16x512 .bf16)
  w15 : List (View.Piece (Elt F) S16x256 .f32)
  w16 : List (View.Piece (Elt F) S16x128 .bf16)

/-- A rectangle of 16 whole rows, every fourth one from row `q` on. -/
def FromRow (r : Rect S64x128) (q : ℕ) : Prop :=
  ∀ a, r.off a = (![q, 0] : Fin 2 → ℕ) a ∧ r.size a = (![16, 128] : Fin 2 → ℕ) a ∧ r.stride a = (![4, 1] : Fin 2 → ℕ) a

/-- Such a rectangle holds the positions of its rows. -/
theorem FromRow.mem {r : Rect S64x128} {q : ℕ} (hr : FromRow r q) (y : S64x128.Idx) (k : ℕ) (hk : k < 16) (hq : (y 0).val = q + 4 * k) : y ∈ r.set := by
  rw [show r.set = r.toLoadRect.set from rfl, LoadRect.mem_set]
  have hy1 : (y 1).val < 128 := (y 1).isLt
  intro a
  rw [(hr a).1, (hr a).2.1, (hr a).2.2]
  match a with
  | 0 => exact ⟨k, hk, hq⟩
  | 1 => exact ⟨(y 1).val, hy1, by show (y 1).val = 0 + 1 * (y 1).val; omega⟩

/-- The row-interleaved pieces cover the buffer. -/
theorem cover_rows (r03 r02 r01 r00 : Rect S64x128) (h03 : FromRow r03 3) (h02 : FromRow r02 2) (h01 : FromRow r01 1) (h00 : FromRow r00 0)
    (p03 : r03.shape.Idx → Elt F .f32) (p02 : r02.shape.Idx → Elt F .f32) (p01 : r01.shape.Idx → Elt F .f32) (p00 : r00.shape.Idx → Elt F .f32) (y : S64x128.Idx) :
    ∃ pc ∈ ([⟨r03, p03⟩, ⟨r02, p02⟩, ⟨r01, p01⟩, ⟨r00, p00⟩] : List (View.Piece (Elt F) S64x128 .f32)), y ∈ pc.1.set := by
  have hy0 : (y 0).val < 64 := (y 0).isLt
  have hm : (0 ≤ (y 0).val ∧ (y 0).val < 64 ∧ (y 0).val % 4 = 3) ∨ (0 ≤ (y 0).val ∧ (y 0).val < 64 ∧ (y 0).val % 4 = 2) ∨ (0 ≤ (y 0).val ∧ (y 0).val < 64 ∧ (y 0).val % 4 = 1) ∨ (0 ≤ (y 0).val ∧ (y 0).val < 64 ∧ (y 0).val % 4 = 0) := by omega
  rcases hm with h | h | h | h
  · exact ⟨_, List.mem_cons_self .., h03.mem y (((y 0).val - 3) / 4) (by omega) (by omega)⟩
  · exact ⟨_, List.mem_cons_of_mem _ (List.mem_cons_self ..), h02.mem y (((y 0).val - 2) / 4) (by omega) (by omega)⟩
  · exact ⟨_, List.mem_cons_of_mem _ (List.mem_cons_of_mem _ (List.mem_cons_self ..)), h01.mem y (((y 0).val - 1) / 4) (by omega) (by omega)⟩
  · exact ⟨_, List.mem_cons_of_mem _ (List.mem_cons_of_mem _ (List.mem_cons_of_mem _ (List.mem_cons_self ..))), h00.mem y (((y 0).val - 0) / 4) (by omega) (by omega)⟩

set_option maxHeartbeats 8000000 in
/-- The projection's body run on whole buffers: the inputs are left as they were, and each result buffer holds the
    pieces stored into it, whatever it held before. -/
noncomputable def run (c : Dev nD) (i : grid1.Coords) (arg1 : Memref sig .tc .vmem S16x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x16x128 .bf16) (harg7 : arg7.IsWhole) (arg8 : Memref sig .tc .vmem S4x16x64 .bf16) (harg8 : arg8.IsWhole) (arg9 : Memref sig .tc .vmem S8x16x128 .bf16) (harg9 : arg9.IsWhole) (arg10 : Memref sig .tc .vmem S8x16x128 .bf16) (harg10 : arg10.IsWhole) (arg11 : Memref sig .tc .vmem S64x128 .f32) (harg11 : arg11.IsWhole) (arg12 : Memref sig .tc .vmem S16x128 .bf16) (harg12 : arg12.IsWhole) (arg13 : Memref sig .tc .vmem S16x64 .bf16) (harg13 : arg13.IsWhole) (arg14 : Memref sig .tc .vmem S16x512 .f32) (harg14 : arg14.IsWhole) (arg15 : Memref sig .tc .vmem S16x512 .bf16) (harg15 : arg15.IsWhole) (arg16 : Memref sig .tc .vmem S16x256 .f32) (harg16 : arg16.IsWhole) (arg17 : Memref sig .tc .vmem S16x128 .bf16) (harg17 : arg17.IsWhole)
    (x0 : Vec F S16x1024 .f32) (x1 : Vec F S1x1024 .f32) (x2 : Vec F S1024x2560 .bf16) (x3 : Vec F S1024x1024 .bf16) (x4 : Vec F S1x64 .f32) (x5 : Vec F S1x64 .f32) :
    { L : Left F // ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon L.w6) ∗ owns (c : Thread nD τ) arg8 fullShare (View.canon L.w7) ∗ owns (c : Thread nD τ) arg9 fullShare (View.canon L.w8) ∗ owns (c : Thread nD τ) arg10 fullShare (View.canon L.w9) ∗ owns (c : Thread nD τ) arg11 fullShare (View.canon L.w10) ∗ owns (c : Thread nD τ) arg12 fullShare (View.canon L.w11) ∗ owns (c : Thread nD τ) arg13 fullShare (View.canon L.w12) ∗ owns (c : Thread nD τ) arg14 fullShare (View.canon L.w13) ∗ owns (c : Thread nD τ) arg15 fullShare (View.canon L.w14) ∗ owns (c : Thread nD τ) arg16 fullShare (View.canon L.w15) ∗ owns (c : Thread nD τ) arg17 fullShare (View.canon L.w16)) -∗ K ⟨⟩))
      ⊢ wp frame (wpE (defs₀ (F := F)) Variants.none c none) E (cc1_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_, ?_, ?_, ?_⟩, fun E K => ?run⟩
  case run =>
    simp only [cc1_proj_eq_skeleton]; unfold cc1_proj_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr
      swap; · iexact H6
      ipureintro
      refine View.read_writes_eq_canon (Val := Elt F) _ _ _ ?_
      exact fun y => View.cover_of_tiled _ ![1, 16, 128] (by sl_kernel_rfl) y
    isplitl [H7]
    · iexists _; isplitr
      swap; · iexact H7
      ipureintro
      refine View.read_writes_eq_canon (Val := Elt F) _ _ _ ?_
      exact fun y => View.cover_of_tiled _ ![1, 16, 64] (by sl_kernel_rfl) y
    isplitl [H8]
    · iexists _; isplitr
      swap; · iexact H8
      ipureintro
      refine View.read_writes_eq_canon (Val := Elt F) _ _ _ ?_
      exact fun y => View.cover_of_tiled _ ![1, 16, 128] (by sl_kernel_rfl) y
    isplitl [H9]
    · iexists _; isplitr
      swap; · iexact H9
      ipureintro
      refine View.read_writes_eq_canon (Val := Elt F) _ _ _ ?_
      exact fun y => View.cover_of_tiled _ ![1, 16, 128] (by sl_kernel_rfl) y
    isplitl [H10]
    · iexists _; isplitr
      swap; · iexact H10
      ipureintro
      refine View.read_writes_eq_canon (Val := Elt F) _ _ _ ?_
      exact fun y => cover_rows _ _ _ _ (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) _ _ _ _ y
    isplitl [H11]
    · iexists _; isplitr
      swap; · iexact H11
      ipureintro
      refine View.read_writes_eq_canon (Val := Elt F) _ _ _ ?_
      exact fun y => View.cover_of_tiled _ S16x128.size (by sl_kernel_rfl) y
    isplitl [H12]
    · iexists _; isplitr
      swap; · iexact H12
      ipureintro
      refine View.read_writes_eq_canon (Val := Elt F) _ _ _ ?_
      exact fun y => View.cover_of_tiled _ S16x64.size (by sl_kernel_rfl) y
    isplitl [H13]
    · iexists _; isplitr
      swap; · iexact H13
      ipureintro
      refine View.read_writes_eq_canon (Val := Elt F) _ _ _ ?_
      exact fun y => View.cover_of_tiled _ S16x512.size (by sl_kernel_rfl) y
    isplitl [H14]
    · iexists _; isplitr
      swap; · iexact H14
      ipureintro
      refine View.read_writes_eq_canon (Val := Elt F) _ _ _ ?_
      exact fun y => View.cover_of_tiled _ S16x512.size (by sl_kernel_rfl) y
    isplitl [H15]
    · iexists _; isplitr
      swap; · iexact H15
      ipureintro
      refine View.read_writes_eq_canon (Val := Elt F) _ _ _ ?_
      exact fun y => View.cover_of_tiledBy _ ![16, 64] (by sl_kernel_rfl) y
    iexists _; isplitr
    swap; · iexact H16
    ipureintro
    refine View.read_writes_eq_canon (Val := Elt F) _ _ _ ?_
    exact fun y => View.cover_of_tiled _ S16x128.size (by sl_kernel_rfl) y

end Cert.PromptCachesIdeal.Hand1

end
-- ==== Proof.PromptBlock1.lean ====
/-
  What the projection of the 16 meta rows leaves in the three result buffers that the caches are read from: row by
  row, columns of the normalised row's product with the weights.
-/
module

public import proofs.«01_k».proof.Proof.PromptCachesIdealBody1
public import proofs.«01_k».proof.Proof.ProjSpec
public import Idealize.ShloMosaic.Lib.Pipeline.ValueKit
public import Idealize.ShloMosaic.Lib.WholeRead
public import Idealize.ShloMosaic.Lib.UnfoldOut

@[expose] public section

set_option maxRecDepth 16384

noncomputable section

open Idealize.ShloMosaic Idealize.ShloMosaic.TcCoe Idealize.SL.Sem
open Cert.Rows

namespace Cert.PromptCachesIdeal.Hand1

open Cert.PromptCachesIdeal Cert.PromptCachesIdeal.Gen

/-- Row `p` of a matrix. -/
abbrev row {R C : ℕ} (v : (⟨2, ![R, C]⟩ : Shape).Idx → EReal) (p : Fin R) (k : Fin C) : EReal := v (ix2 p k)

/-- Column `c` of a matrix of 1024 rows. -/
abbrev column {C : ℕ} (v : (⟨2, ![1024, C]⟩ : Shape).Idx → EReal) (c : Fin C) (k : Fin 1024) : EReal := v (ix2 k c)

/-- The normalised block, entry by entry. -/
theorem pay2_apply (v2 : Vec Ideal S16x1024 .f32) (v4 : Vec Ideal S1x1024 .f32) (p : Fin 16) (k : Fin 1024) :
    k1_pay1 v2 v4 (ix2 p k) = rms (row v2 p) (row v4 0) k := by
  pointwise [k1_pay1]
  rfl

/-- A product with 512 columns, entry by entry. -/
theorem pay135_apply (n : FVec Ideal S16x1024 .bf16) (w : Vec Ideal S1024x512 .bf16) (p : Fin 16) (l : Fin 512) :
    k1_pay133 n w (ix2 p l) = col (row n p) (column w l) := by
  pointwise [k1_pay133]
  rfl

/-- The four quarters of a product with 512 columns. -/
theorem pay147_apply (n : FVec Ideal S16x1024 .bf16) (w : Vec Ideal S1024x512 .bf16) (p : Fin 16) (l : Fin 128) :
    k1_pay145 n w (ix2 p l) = col (row n p) (column w ⟨l, by omega⟩) := by
  pointwise [k1_pay145, k1_pay144]
  rfl
theorem pay148_apply (n : FVec Ideal S16x1024 .bf16) (w : Vec Ideal S1024x512 .bf16) (p : Fin 16) (l : Fin 128) :
    k1_pay146 n w (ix2 p l) = col (row n p) (column w ⟨128 + l, by omega⟩) := by
  pointwise [k1_pay146, k1_pay144]
  rfl
theorem pay149_apply (n : FVec Ideal S16x1024 .bf16) (w : Vec Ideal S1024x512 .bf16) (p : Fin 16) (l : Fin 128) :
    k1_pay147 n w (ix2 p l) = col (row n p) (column w ⟨256 + l, by omega⟩) := by
  pointwise [k1_pay147, k1_pay144]
  rfl
theorem pay150_apply (n : FVec Ideal S16x1024 .bf16) (w : Vec Ideal S1024x512 .bf16) (p : Fin 16) (l : Fin 128) :
    k1_pay148 n w (ix2 p l) = col (row n p) (column w ⟨384 + l, by omega⟩) := by
  pointwise [k1_pay148, k1_pay144]
  rfl

/-- The first 128 of a product with 256 columns. -/
theorem pay163_apply (n : FVec Ideal S16x1024 .bf16) (w : Vec Ideal S1024x256 .bf16) (p : Fin 16) (l : Fin 128) :
    k1_pay161 n w (ix2 p l) = col (row n p) (column w ⟨l, by omega⟩) := by
  pointwise [k1_pay161, k1_pay156]
  rfl

/-- The next 64 of it, layer-normalised. -/
theorem pay160_apply (n : FVec Ideal S16x1024 .bf16) (w : Vec Ideal S1024x256 .bf16) (g b : Vec Ideal S1x64 .f32)
    (p : Fin 16) (l : Fin 64) :
    k1_pay158 n w g b (ix2 p l)
      = layerNorm (fun j => col (row n p) (column w ⟨128 + j, by omega⟩)) (row g 0) (row b 0) l := by
  pointwise [k1_pay158, k1_pay156]
  rfl

/-- A load at no offset of a whole matrix reads it. -/
theorem hz : (![0, 0] : Fin 2 → ℕ) = fun _ => 0 := by funext a; match a with | 0 => rfl | 1 => rfl

/-- A load of 512 columns of the weights, from column `o`. -/
theorem ld_512 (x : Vec Ideal S1024x2560 .bf16) (o : ℕ) (ho : o + 512 ≤ 2560)
    (inb : ∀ a, (![0, o] : Fin 2 → ℕ) a + S1024x512.size a ≤ S1024x2560.size a) (k : Fin 1024) (l : Fin 512) :
    View.ld x (Rect.unit (s := S1024x2560) ![0, o] S1024x512.size inb) (ix2 k l) = x (ix2 k ⟨o + l, by omega⟩) := by
  refine View.ld_unit_apply_of _ _ _ inb _ _ fun a => ?_
  match a with
  | ⟨0, _⟩ => simp
  | ⟨1, _⟩ => simp

/-- A load of 256 columns of the weights, from column `o`. -/
theorem ld_256 (x : Vec Ideal S1024x2560 .bf16) (o : ℕ) (ho : o + 256 ≤ 2560)
    (inb : ∀ a, (![0, o] : Fin 2 → ℕ) a + S1024x256.size a ≤ S1024x2560.size a) (k : Fin 1024) (l : Fin 256) :
    View.ld x (Rect.unit (s := S1024x2560) ![0, o] S1024x256.size inb) (ix2 k l) = x (ix2 k ⟨o + l, by omega⟩) := by
  refine View.ld_unit_apply_of _ _ _ inb _ _ fun a => ?_
  match a with
  | ⟨0, _⟩ => simp
  | ⟨1, _⟩ => simp

/-- An index of a matrix is named by its two coordinates. -/
theorem ix2_of_vals {R C : ℕ} (x : (⟨2, ![R, C]⟩ : Shape).Idx) (p : Fin R) (l : Fin C) (h0 : p.val = (x 0).val)
    (h1 : l.val = (x 1).val) : x = ix2 p l := by
  funext a
  match a with
  | 0 => exact Fin.ext h0.symm
  | 1 => exact Fin.ext h1.symm

/-- A piece of every fourth row from `q` on, where it holds row `4 p + h`: its own row `p`, and `q` is `h`. -/
theorem rowAt (p : Fin 16) (h : Fin 4) (l : Fin 128) (r : Rect S64x128) (q : ℕ) (hr : FromRow r q)
    (w : r.shape.Idx → EReal) (v : EReal)
    (hw : ∀ x : r.shape.Idx, q = h.val → (x 0).val = p.val → (x 1).val = l.val → w x = v) (hq4 : q < 4 := by norm_num) :
    View.RectAt (Val := Elt Ideal) (e := .f32) (ix2 (⟨4 * p + h, by omega⟩ : Fin 64) l : S64x128.Idx) r w v := by
  intro x hx
  have e0 := congrArg (fun z : S64x128.Idx => (z 0).val) hx
  have e1 := congrArg (fun z : S64x128.Idx => (z 1).val) hx
  simp only [Rect.emb_apply, (hr 0).1, (hr 1).1, (hr 0).2.2, (hr 1).2.2] at e0 e1
  change q + 4 * (x 0).val = 4 * p.val + h.val at e0
  change 0 + 1 * (x 1).val = l.val at e1
  exact hw x (by omega) (by omega) (by omega)

section
variable (c : Dev nD) (i : grid1.Coords) (arg1 : Memref sig .tc .vmem S16x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x16x128 .bf16) (harg7 : arg7.IsWhole) (arg8 : Memref sig .tc .vmem S4x16x64 .bf16) (harg8 : arg8.IsWhole) (arg9 : Memref sig .tc .vmem S8x16x128 .bf16) (harg9 : arg9.IsWhole) (arg10 : Memref sig .tc .vmem S8x16x128 .bf16) (harg10 : arg10.IsWhole) (arg11 : Memref sig .tc .vmem S64x128 .f32) (harg11 : arg11.IsWhole) (arg12 : Memref sig .tc .vmem S16x128 .bf16) (harg12 : arg12.IsWhole) (arg13 : Memref sig .tc .vmem S16x64 .bf16) (harg13 : arg13.IsWhole) (arg14 : Memref sig .tc .vmem S16x512 .f32) (harg14 : arg14.IsWhole) (arg15 : Memref sig .tc .vmem S16x512 .bf16) (harg15 : arg15.IsWhole) (arg16 : Memref sig .tc .vmem S16x256 .f32) (harg16 : arg16.IsWhole) (arg17 : Memref sig .tc .vmem S16x128 .bf16) (harg17 : arg17.IsWhole)
  (x0 : Vec Ideal S16x1024 .f32) (x1 : Vec Ideal S1x1024 .f32) (x2 : Vec Ideal S1024x2560 .bf16)
  (x3 : Vec Ideal S1024x1024 .bf16) (x4 : Vec Ideal S1x64 .f32) (x5 : Vec Ideal S1x64 .f32)

/-- What the run leaves. -/
abbrev leaves : Left Ideal :=
  (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).1

/-- The normalised row of the block. -/
abbrev nrow (p : Fin 16) : Fin 1024 → EReal := rms (row x0 p) (row x1 0)

/-- The normalised block's row, read through the loads. -/
theorem row_norm (p : Fin 16) (inb0 : ∀ a, (![0, 0] : Fin 2 → ℕ) a + S16x1024.size a ≤ S16x1024.size a)
    (inb1 : ∀ a, (![0, 0] : Fin 2 → ℕ) a + S1x1024.size a ≤ S1x1024.size a) :
    row (k1_pay1 (View.ld x0 (Rect.unit (s := S16x1024) ![0, 0] S16x1024.size inb0))
      (View.ld x1 (Rect.unit (s := S1x1024) ![0, 0] S1x1024.size inb1))) p = nrow x0 x1 p := by
  funext k
  rw [View.ld_unit_zero hz _ x0, View.ld_unit_zero hz _ x1]
  exact pay2_apply x0 x1 p k

/-- A loaded column is the weights' column. -/
theorem column_512 (o : ℕ) (ho : o + 512 ≤ 2560)
    (inb : ∀ a, (![0, o] : Fin 2 → ℕ) a + S1024x512.size a ≤ S1024x2560.size a) (l : Fin 512) :
    column (View.ld x2 (Rect.unit (s := S1024x2560) ![0, o] S1024x512.size inb)) l = column x2 ⟨o + l, by omega⟩ :=
  funext fun k => ld_512 x2 o ho inb k l
theorem column_256 (o : ℕ) (ho : o + 256 ≤ 2560)
    (inb : ∀ a, (![0, o] : Fin 2 → ℕ) a + S1024x256.size a ≤ S1024x2560.size a) (l : Fin 256) :
    column (View.ld x2 (Rect.unit (s := S1024x2560) ![0, o] S1024x256.size inb)) l = column x2 ⟨o + l, by omega⟩ :=
  funext fun k => ld_256 x2 o ho inb k l

/-- The keys of the second attention, as the run leaves them. -/
theorem w13_apply (p : Fin 16) (l : Fin 512) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w13 (ix2 p l)
      = col (nrow x0 x1 p) (column x2 ⟨1024 + l, by omega⟩) := by
  unfold leaves run
  dsimp only [run.sl.r]
  rw [View.canon_unit_zero hz, pay135_apply]
  simp only [View.readAt_eq_ld, Memref.IsWhole.read_unread]
  rw [row_norm, column_512 x2 1024 (by norm_num)]

/-- The small columns of the projection, as the run leaves them. -/
theorem w15_apply (p : Fin 16) (l : Fin 128) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w15 (ix2 p ⟨l, by omega⟩)
      = col (nrow x0 x1 p) (column x2 ⟨2304 + l, by omega⟩) := by
  unfold leaves run
  dsimp only [run.sl.r, run.sl.r_46]
  refine View.canon_eq_of_allAt _ _ _ ?_ ?_
  · refine ⟨_, List.mem_cons_of_mem _ (List.mem_cons_of_mem _ (List.mem_cons_self ..)), ?_⟩
    rw [Rect.mem_set_unit]
    intro a; match a with | 0 => simp | 1 => simp
  · refine View.allAt_cons_unit _ _ _ _ _ (fun x hx => absurd (hx 1) ?_)
      (View.allAt_cons_unit _ _ _ _ _ (fun x hx => absurd (hx 1) ?_)
        (View.allAt_cons_unit _ _ _ _ _ (fun x hx => ?_) (View.allAt_nil _ _)))
    · show ¬ (l.val = 192 + (x 1).val); omega
    · show ¬ (l.val = 128 + (x 1).val); omega
    · obtain rfl : x = ix2 p l := ix2_of_vals x p l (by have := hx 0; change p.val = 0 + (x 0).val at this; omega)
        (by have := hx 1; change l.val = 0 + (x 1).val at this; omega)
      rw [pay163_apply]
      simp only [View.readAt_eq_ld, Memref.IsWhole.read_unread]
      rw [row_norm, column_256 x2 2304 (by norm_num)]

/-- The layer-normalised index keys, as the run leaves them. -/
theorem w15_norm_apply (p : Fin 16) (l : Fin 64) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w15 (ix2 p ⟨128 + l, by omega⟩)
      = layerNorm (fun j => col (nrow x0 x1 p) (column x2 ⟨2432 + j, by omega⟩)) (row x4 0) (row x5 0) l := by
  unfold leaves run
  dsimp only [run.sl.r, run.sl.r_45]
  refine View.canon_eq_of_allAt _ _ _ ?_ ?_
  · refine ⟨_, List.mem_cons_of_mem _ (List.mem_cons_self ..), ?_⟩
    rw [Rect.mem_set_unit]
    intro a; match a with | 0 => simp | 1 => exact ⟨by simp, by show 128 + l.val < 128 + 64; omega⟩
  · refine View.allAt_cons_unit _ _ _ _ _ (fun x hx => absurd (hx 1) ?_)
      (View.allAt_cons_unit _ _ _ _ _ (fun x hx => ?_)
        (View.allAt_cons_unit _ _ _ _ _ (fun x hx => absurd (hx 1) ?_) (View.allAt_nil _ _)))
    · show ¬ (128 + l.val = 192 + (x 1).val); omega
    · obtain rfl : x = ix2 p l := ix2_of_vals x p l (by have := hx 0; change p.val = 0 + (x 0).val at this; omega)
        (by have := hx 1; change 128 + l.val = 128 + (x 1).val at this; omega)
      rw [pay160_apply]
      simp only [View.readAt_eq_ld, Memref.IsWhole.read_unread]
      simp only [row_norm, column_256 x2 2304 (by norm_num), View.ld_unit_zero hz _ x4, View.ld_unit_zero hz _ x5,
        ← Nat.add_assoc]
    · have := (x 1).isLt
      change (x 1).val < 128 at this
      show ¬ (128 + l.val = 0 + (x 1).val); omega

/-- The values of the second attention, as the run leaves them: every fourth row from row `h` on is head `h`'s. -/
theorem w10_apply (p : Fin 16) (h : Fin 4) (l : Fin 128) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).w10 (ix2 ⟨4 * p + h, by omega⟩ l)
      = col (nrow x0 x1 p) (column x2 ⟨1536 + 128 * h + l, by omega⟩) := by
  unfold leaves run
  dsimp only [run.sl.r]
  refine View.canon_eq_of_allAt _ _ _ (cover_rows (F := Ideal) _ _ _ _ (by intro a; fin_cases a <;> exact ⟨rfl, rfl, rfl⟩)
    (by intro a; fin_cases a <;> exact ⟨rfl, rfl, rfl⟩) (by intro a; fin_cases a <;> exact ⟨rfl, rfl, rfl⟩)
    (by intro a; fin_cases a <;> exact ⟨rfl, rfl, rfl⟩) _ _ _ _ _) ?_
  refine View.allAt_cons _ _ _ (rowAt p h l _ 3 (by intro a; fin_cases a <;> exact ⟨rfl, rfl, rfl⟩) _ _ fun x hq h0 h1 => ?_)
    (View.allAt_cons _ _ _ (rowAt p h l _ 2 (by intro a; fin_cases a <;> exact ⟨rfl, rfl, rfl⟩) _ _ fun x hq h0 h1 => ?_)
    (View.allAt_cons _ _ _ (rowAt p h l _ 1 (by intro a; fin_cases a <;> exact ⟨rfl, rfl, rfl⟩) _ _ fun x hq h0 h1 => ?_)
    (View.allAt_cons _ _ _ (rowAt p h l _ 0 (by intro a; fin_cases a <;> exact ⟨rfl, rfl, rfl⟩) _ _ fun x hq h0 h1 => ?_)
      (View.allAt_nil _ _))))
  all_goals
    obtain rfl : x = ix2 p l := ix2_of_vals (R := 16) (C := 128) x p l h0.symm h1.symm
    first | rw [pay147_apply] | rw [pay148_apply] | rw [pay149_apply] | rw [pay150_apply]
    simp only [View.readAt_eq_ld, Memref.IsWhole.read_unread]
    rw [row_norm, column_512 x2 1536 (by norm_num)]
    congr 2
    refine Fin.ext ?_
    show 1536 + _ = 1536 + 128 * h.val + l.val
    rw [← hq, Nat.add_assoc]
    try (show 1536 + l.val = _; omega)

end

end Cert.PromptCachesIdeal.Hand1

end
-- ==== Proof.PromptBlock0.lean ====
/-
  What one grid step of the projection of the prompt's rows leaves in the three result buffers that the caches are read
  from. The step works on 512 rows as two halves of 256, so each buffer is read half by half.
-/
module

public import proofs.«01_k».proof.Proof.PromptCachesIdealBody0
public import proofs.«01_k».proof.Proof.PromptBlock1

@[expose] public section

set_option maxRecDepth 16384

noncomputable section

open Idealize.ShloMosaic Idealize.ShloMosaic.TcCoe Idealize.SL.Sem
open Cert.Rows

namespace Cert.PromptCachesIdeal.Hand0

open Cert.PromptCachesIdeal Cert.PromptCachesIdeal.Gen
open Cert.PromptCachesIdeal.Hand1 (row column hz ix2_of_vals column_512 column_256)

/-! The payloads of the first half, entry by entry. -/
theorem pay3_apply (v2 : Vec Ideal S256x1024 .f32) (v4 : Vec Ideal S1x1024 .f32) (p : Fin 256) (k : Fin 1024) :
    k0_pay3 v2 v4 (ix2 p k) = rms (row v2 p) (row v4 0) k := by
  pointwise [k0_pay3]
  rfl
theorem pay146_apply (n : FVec Ideal S256x1024 .bf16) (w : Vec Ideal S1024x512 .bf16) (p : Fin 256) (l : Fin 128) :
    k0_pay146 n w (ix2 p l) = col (row n p) (column w ⟨l, by omega⟩) := by
  pointwise [k0_pay146, k0_pay145]
  rfl
theorem pay147_apply (n : FVec Ideal S256x1024 .bf16) (w : Vec Ideal S1024x512 .bf16) (p : Fin 256) (l : Fin 128) :
    k0_pay147 n w (ix2 p l) = col (row n p) (column w ⟨128 + l, by omega⟩) := by
  pointwise [k0_pay147, k0_pay145]
  rfl
theorem pay148_apply (n : FVec Ideal S256x1024 .bf16) (w : Vec Ideal S1024x512 .bf16) (p : Fin 256) (l : Fin 128) :
    k0_pay148 n w (ix2 p l) = col (row n p) (column w ⟨256 + l, by omega⟩) := by
  pointwise [k0_pay148, k0_pay145]
  rfl
theorem pay149_apply (n : FVec Ideal S256x1024 .bf16) (w : Vec Ideal S1024x512 .bf16) (p : Fin 256) (l : Fin 128) :
    k0_pay149 n w (ix2 p l) = col (row n p) (column w ⟨384 + l, by omega⟩) := by
  pointwise [k0_pay149, k0_pay145]
  rfl
theorem pay166_apply (n : FVec Ideal S256x1024 .bf16) (w : Vec Ideal S512x1024 .bf16) (u : Fin 512) (p : Fin 256) :
    k0_pay166 n w (ix3 0 u p) = col (row w u) (row n p) := by
  pointwise [k0_pay166]
  rfl
theorem pay155_eq (w : Vec Ideal S1024x256 .bf16) : k0_pay155 w = w := by
  funext x
  obtain ⟨a, b, rfl⟩ : ∃ a b, x = ix2 a b := ⟨x 0, x 1, ix2_of_vals (R := 1024) (C := 256) x _ _ rfl rfl⟩
  pointwise [k0_pay155]
theorem pay160_apply (n : FVec Ideal S256x1024 .bf16) (w : FVec Ideal S1024x256 .bf16) (l : Fin 128) (p : Fin 256) :
    k0_pay160 n w (ix2 l p) = col (row n p) (column w ⟨l, by omega⟩) := by
  pointwise [k0_pay160, k0_pay156]
  rfl
theorem pay165_apply (n : FVec Ideal S256x1024 .bf16) (w : FVec Ideal S1024x256 .bf16) (g b : Vec Ideal S1x64 .f32)
    (l : Fin 64) (p : Fin 256) :
    k0_pay165 (k0_pay156 n w) (k0_pay157 n w g b) (ix2 l p)
      = layerNorm (fun j => col (row n p) (column w ⟨128 + j, by omega⟩)) (row g 0) (row b 0) l := by
  pointwise [k0_pay165, k0_pay163, k0_pay157, k0_pay156]
  rfl

/-! The payloads of the second half, entry by entry. -/
theorem pay175_apply (v2 : Vec Ideal S256x1024 .f32) (v4 : Vec Ideal S1x1024 .f32) (p : Fin 256) (k : Fin 1024) :
    k0_pay175 v2 v4 (ix2 p k) = rms (row v2 p) (row v4 0) k := by
  pointwise [k0_pay175]
  rfl
theorem pay328_apply (n : FVec Ideal S256x1024 .bf16) (w : Vec Ideal S1024x512 .bf16) (p : Fin 256) (l : Fin 128) :
    k0_pay328 n w (ix2 p l) = col (row n p) (column w ⟨l, by omega⟩) := by
  pointwise [k0_pay328, k0_pay327]
  rfl
theorem pay329_apply (n : FVec Ideal S256x1024 .bf16) (w : Vec Ideal S1024x512 .bf16) (p : Fin 256) (l : Fin 128) :
    k0_pay329 n w (ix2 p l) = col (row n p) (column w ⟨128 + l, by omega⟩) := by
  pointwise [k0_pay329, k0_pay327]
  rfl
theorem pay330_apply (n : FVec Ideal S256x1024 .bf16) (w : Vec Ideal S1024x512 .bf16) (p : Fin 256) (l : Fin 128) :
    k0_pay330 n w (ix2 p l) = col (row n p) (column w ⟨256 + l, by omega⟩) := by
  pointwise [k0_pay330, k0_pay327]
  rfl
theorem pay331_apply (n : FVec Ideal S256x1024 .bf16) (w : Vec Ideal S1024x512 .bf16) (p : Fin 256) (l : Fin 128) :
    k0_pay331 n w (ix2 p l) = col (row n p) (column w ⟨384 + l, by omega⟩) := by
  pointwise [k0_pay331, k0_pay327]
  rfl
theorem pay348_apply (n : FVec Ideal S256x1024 .bf16) (w : Vec Ideal S512x1024 .bf16) (u : Fin 512) (p : Fin 256) :
    k0_pay348 n w (ix3 0 u p) = col (row w u) (row n p) := by
  pointwise [k0_pay348]
  rfl
theorem pay343_apply (n : FVec Ideal S256x1024 .bf16) (w : FVec Ideal S1024x256 .bf16) (l : Fin 128) (p : Fin 256) :
    k0_pay343 (k0_pay342 n w) (ix2 l p) = col (row n p) (column w ⟨l, by omega⟩) := by
  pointwise [k0_pay343, k0_pay342, k0_pay338]
  rfl
theorem pay347_apply (n : FVec Ideal S256x1024 .bf16) (w : FVec Ideal S1024x256 .bf16) (g b : Vec Ideal S1x64 .f32)
    (l : Fin 64) (p : Fin 256) :
    k0_pay347 (k0_pay338 n w) (k0_pay339 n w g b) (ix2 l p)
      = layerNorm (fun j => col (row n p) (column w ⟨128 + j, by omega⟩)) (row g 0) (row b 0) l := by
  pointwise [k0_pay347, k0_pay345, k0_pay339, k0_pay338]
  rfl

/-- A load of 256 rows, from row `o`. -/
theorem ld_rows (x : Vec Ideal S512x1024 .f32) (o : ℕ) (ho : o + 256 ≤ 512)
    (inb : ∀ a, (![o, 0] : Fin 2 → ℕ) a + S256x1024.size a ≤ S512x1024.size a) (p : Fin 256) (k : Fin 1024) :
    View.ld x (Rect.unit (s := S512x1024) ![o, 0] S256x1024.size inb) (ix2 p k) = x (ix2 ⟨o + p, by omega⟩ k) := by
  refine View.ld_unit_apply_of _ _ _ inb _ _ fun a => ?_
  match a with
  | ⟨0, _⟩ => simp
  | ⟨1, _⟩ => simp

/-- A load of the first 512 rows of the transposed weights. -/
theorem ld_wt (x : Vec Ideal S1024x1024 .bf16)
    (inb : ∀ a, (![0, 0] : Fin 2 → ℕ) a + S512x1024.size a ≤ S1024x1024.size a) (u : Fin 512) :
    row (View.ld x (Rect.unit (s := S1024x1024) ![0, 0] S512x1024.size inb)) u = row x ⟨u, by omega⟩ := by
  funext k
  refine View.ld_unit_apply_of _ _ _ inb _ _ fun a => ?_
  match a with
  | ⟨0, _⟩ => simp
  | ⟨1, _⟩ => simp

/-- A piece of every fourth row from `q` on, where it holds row `1024 o + 4 p + h`: its own row `p`, and `q` is `1024 o + h`. -/
theorem rowAt (o : Fin 2) (p : Fin 256) (h : Fin 4) (l : Fin 128) (r : Rect S2048x128) (q : ℕ) (hr : FromRow r q)
    (w : r.shape.Idx → EReal) (v : EReal)
    (hw : ∀ x : r.shape.Idx, q = 1024 * o.val + h.val → (x 0).val = p.val → (x 1).val = l.val → w x = v)
    (hq4 : q % 1024 < 4 := by norm_num) :
    View.RectAt (Val := Elt Ideal) (e := .f32) (ix2 (⟨1024 * o + 4 * p + h, by omega⟩ : Fin 2048) l : S2048x128.Idx) r w v := by
  intro x hx
  have e0 := congrArg (fun z : S2048x128.Idx => (z 0).val) hx
  have e1 := congrArg (fun z : S2048x128.Idx => (z 1).val) hx
  have hx0 : (x 0).val < 256 := lt_of_lt_of_eq (x 0).isLt (hr 0).2.1
  simp only [Rect.emb_apply, (hr 0).1, (hr 1).1, (hr 0).2.2, (hr 1).2.2] at e0 e1
  change q + 4 * (x 0).val = 1024 * o.val + 4 * p.val + h.val at e0
  change 0 + 1 * (x 1).val = l.val at e1
  exact hw x (by omega) (by omega) (by omega)

/-- A piece stored through the slice of 256 columns from column `c` on, at its rows from `d` on, where it holds the entry
    at row `j` and column `s`. -/
theorem sliceAt (c d n : ℕ) (inb : ∀ a, (![0, 0, c] : Fin 3 → ℕ) a + (![1, 192, 256] : Fin 3 → ℕ) a ≤ S1x192x512.size a)
    (inb' : ∀ a, (![d, 0] : Fin 2 → ℕ) a + (![n, 256] : Fin 2 → ℕ) a ≤ S192x256.size a) (h0) (hs) (hst)
    (hR : ((Rect.unit (s := S192x256) ![d, 0] ![n, 256] inb').consLift ![1, 192, 256] h0 hs).shape.numel
      = (Rect.unit (s := S192x256) ![d, 0] ![n, 256] inb').shape.numel)
    (w : (Rect.unit (s := S192x256) ![d, 0] ![n, 256] inb').shape.Idx → EReal) (v : EReal) (j : Fin 192) (s : Fin 512)
    (hw : ∀ (a : Fin n) (p : Fin 256), j.val = d + a.val → s.val = c + p.val → w (ix2 a p) = v) :
    View.RectAt (Val := Elt Ideal) (e := .f32) (ix3 0 j s : S1x192x512.Idx)
      ((Rect.unit (s := S1x192x512) ![0, 0, c] ![1, 192, 256] inb).within
        ((Rect.unit (s := S192x256) ![d, 0] ![n, 256] inb').consLift ![1, 192, 256] h0 hs) hst)
      (Rect.payAlong hR w) v := by
  intro x hx
  have e1 := congrArg (fun z : S1x192x512.Idx => (z 1).val) hx
  have e2 := congrArg (fun z : S1x192x512.Idx => (z 2).val) hx
  simp only [Rect.emb_apply] at e1 e2
  change (0 + d) + 1 * (x 1).val = j.val at e1
  change (c + 0) + 1 * (x 2).val = s.val at e2
  refine Eq.trans ?_ (hw ⟨(x 1).val, (x 1).isLt⟩ ⟨(x 2).val, (x 2).isLt⟩ (by show j.val = d + (x 1).val; omega) (by show s.val = c + (x 2).val; omega))
  exact Rect.payAlong_consLift (Rect.unit (s := S192x256) ![d, 0] ![n, 256] inb') ![1, 192, 256] h0 hs w hR x _
    fun i => by match i with | 0 => rfl | 1 => rfl

/-- An index of three axes is named by its coordinates. -/
theorem ix3_of_vals {A B C : ℕ} (x : (⟨3, ![A, B, C]⟩ : Shape).Idx) (a : Fin A) (b : Fin B) (c : Fin C) (h0 : a.val = (x 0).val)
    (h1 : b.val = (x 1).val) (h2 : c.val = (x 2).val) : x = ix3 a b c := by
  funext i
  match i with
  | 0 => exact Fin.ext h0.symm
  | 1 => exact Fin.ext h1.symm
  | 2 => exact Fin.ext h2.symm

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S1024x1024 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S8x512x128 .bf16) (harg7 : arg7.IsWhole) (arg8 : Memref sig .tc .vmem S4x512x64 .bf16) (harg8 : arg8.IsWhole) (arg9 : Memref sig .tc .vmem S8x512x128 .bf16) (harg9 : arg9.IsWhole) (arg10 : Memref sig .tc .vmem S8x512x128 .bf16) (harg10 : arg10.IsWhole) (arg11 : Memref sig .tc .vmem S2048x128 .f32) (harg11 : arg11.IsWhole) (arg12 : Memref sig .tc .vmem S512x128 .bf16) (harg12 : arg12.IsWhole) (arg13 : Memref sig .tc .vmem S512x64 .bf16) (harg13 : arg13.IsWhole) (arg14 : Memref sig .tc .vmem S2x80x256 .bf16) (harg14 : arg14.IsWhole) (arg15 : Memref sig .tc .vmem S8x512 .f32) (harg15 : arg15.IsWhole) (arg16 : Memref sig .tc .vmem S2x4x144x256 .bf16) (harg16 : arg16.IsWhole) (arg17 : Memref sig .tc .vmem S1x192x512 .f32) (harg17 : arg17.IsWhole) (arg18 : Memref sig .tc .vmem S1x512x512 .f32) (harg18 : arg18.IsWhole)
  (x0 : Vec Ideal S512x1024 .f32) (x1 : Vec Ideal S1x1024 .f32) (x2 : Vec Ideal S1024x2560 .bf16) (x3 : Vec Ideal S1024x1024 .bf16) (x4 : Vec Ideal S1x64 .f32) (x5 : Vec Ideal S1x64 .f32)

/-- What the run leaves. -/
abbrev leaves : Left Ideal :=
  (run (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).1

/-- The normalised row of the block. -/
abbrev nrow (p : Fin 512) : Fin 1024 → EReal := rms (row x0 p) (row x1 0)

/-- A row of the first half's normalised block, read through the loads. -/
theorem row_a (p : Fin 256) (inb0 : ∀ a, (![0, 0] : Fin 2 → ℕ) a + S256x1024.size a ≤ S512x1024.size a)
    (inb1 : ∀ a, (![0, 0] : Fin 2 → ℕ) a + S1x1024.size a ≤ S1x1024.size a) :
    row (k0_pay3 (View.ld x0 (Rect.unit (s := S512x1024) ![0, 0] S256x1024.size inb0))
      (View.ld x1 (Rect.unit (s := S1x1024) ![0, 0] S1x1024.size inb1))) p = nrow x0 x1 ⟨0 + p, by omega⟩ := by
  funext k
  rw [View.ld_unit_zero hz _ x1]
  refine (pay3_apply _ x1 p k).trans ?_
  exact congrArg (fun r => rms r (row x1 0) k) (funext fun j => ld_rows x0 0 (by norm_num) inb0 p j)

/-- A row of the second half's. -/
theorem row_b (p : Fin 256) (inb0 : ∀ a, (![256, 0] : Fin 2 → ℕ) a + S256x1024.size a ≤ S512x1024.size a)
    (inb1 : ∀ a, (![0, 0] : Fin 2 → ℕ) a + S1x1024.size a ≤ S1x1024.size a) :
    row (k0_pay175 (View.ld x0 (Rect.unit (s := S512x1024) ![256, 0] S256x1024.size inb0))
      (View.ld x1 (Rect.unit (s := S1x1024) ![0, 0] S1x1024.size inb1))) p = nrow x0 x1 ⟨256 + p, by omega⟩ := by
  funext k
  rw [View.ld_unit_zero hz _ x1]
  refine (pay175_apply _ x1 p k).trans ?_
  exact congrArg (fun r => rms r (row x1 0) k) (funext fun j => ld_rows x0 256 (by norm_num) inb0 p j)

/-- The keys of the second attention, as the run leaves them. -/
theorem w17_apply (u : Fin 512) (o : Fin 2) (p : Fin 256) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).w17 (ix3 0 u ⟨256 * o + p, by omega⟩)
      = col (row x3 ⟨u, by omega⟩) (nrow x0 x1 ⟨256 * o + p, by omega⟩) := by
  unfold leaves run
  dsimp only [run.sl.r, run.sl.r_50, run.sl.r_99]
  refine View.canon_eq_of_allAt _ _ _ (View.cover_of_tiled _ ![1, 512, 256] (by sl_kernel_rfl) _) ?_
  refine View.allAt_cons_unit _ _ _ _ _ (fun x hx => ?_)
    (View.allAt_cons_unit _ _ _ _ _ (fun x hx => ?_) (View.allAt_nil _ _))
  all_goals
    have h1 := hx 1
    have h2 := hx 2
    have hp : (x 2).val < 256 := (x 2).isLt
    have hx0 : (x 0).val < 1 := (x 0).isLt
    change u.val = 0 + (x 1).val at h1
  · change 256 * o.val + p.val = 256 + (x 2).val at h2
    obtain rfl : o = 1 := Fin.ext (show o.val = 1 by omega)
    obtain rfl : x = ix3 0 u p := ix3_of_vals x 0 u p (show 0 = (x 0).val by omega) (by omega) (by change 256 * 1 + _ = _ at h2; omega)
    rw [pay348_apply]
    simp only [View.readAt_eq_ld, Memref.IsWhole.read_unread]
    rw [ld_wt, row_b]
    rfl
  · change 256 * o.val + p.val = 0 + (x 2).val at h2
    obtain rfl : o = 0 := Fin.ext (show o.val = 0 by omega)
    obtain rfl : x = ix3 0 u p := ix3_of_vals x 0 u p (show 0 = (x 0).val by omega) (by omega) (by change 256 * 0 + _ = _ at h2; omega)
    rw [pay166_apply]
    simp only [View.readAt_eq_ld, Memref.IsWhole.read_unread]
    rw [ld_wt, row_a]
    rfl

/-- The small columns, as the run leaves them. -/
theorem w16_apply (l : Fin 128) (o : Fin 2) (p : Fin 256) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).w16 (ix3 0 ⟨l, by omega⟩ ⟨256 * o + p, by omega⟩)
      = col (nrow x0 x1 ⟨256 * o + p, by omega⟩) (column x2 ⟨2304 + l, by omega⟩) := by
  unfold leaves run
  dsimp only [run.sl.r, run.sl.r_50, run.sl.r_98, run.sl.r_45, run.sl.r_42]
  refine View.canon_eq_of_allAt _ _ _ (View.cover_of_tiledBy _ ![1, 64, 256] (by sl_kernel_rfl) _) ?_
  refine View.allAt_cons _ _ _ (sliceAt 256 128 64 _ _ _ _ _ _ _ _ _ _ fun a q ha hq => ?_)
    (View.allAt_cons _ _ _ (sliceAt 256 0 128 _ _ _ _ _ _ _ _ _ _ fun a q ha hq => ?_)
    (View.allAt_cons _ _ _ (sliceAt 0 128 64 _ _ _ _ _ _ _ _ _ _ fun a q ha hq => ?_)
    (View.allAt_cons _ _ _ (sliceAt 0 0 128 _ _ _ _ _ _ _ _ _ _ fun a q ha hq => ?_) (View.allAt_nil _ _))))
  all_goals
    change l.val = _ at ha
    change 256 * o.val + p.val = _ at hq
  · omega
  · obtain rfl : o = 1 := Fin.ext (show o.val = 1 by omega)
    obtain rfl : a = l := Fin.ext (by omega)
    obtain rfl : q = p := Fin.ext (by change 256 * 1 + _ = _ at hq; omega)
    rw [pay343_apply]
    simp only [View.readAt_eq_ld, Memref.IsWhole.read_unread]
    rw [row_b, column_256 x2 2304 (by norm_num)]
    rfl
  · omega
  · obtain rfl : o = 0 := Fin.ext (show o.val = 0 by omega)
    obtain rfl : a = l := Fin.ext (by omega)
    obtain rfl : q = p := Fin.ext (by change 256 * 0 + _ = _ at hq; omega)
    rw [pay160_apply]
    simp only [View.readAt_eq_ld, Memref.IsWhole.read_unread, pay155_eq]
    rw [row_a, column_256 x2 2304 (by norm_num)]
    rfl

/-- The layer-normalised index keys, as the run leaves them. -/
theorem w16_norm_apply (l : Fin 64) (o : Fin 2) (p : Fin 256) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).w16 (ix3 0 ⟨128 + l, by omega⟩ ⟨256 * o + p, by omega⟩)
      = layerNorm (fun j => col (nrow x0 x1 ⟨256 * o + p, by omega⟩) (column x2 ⟨2432 + j, by omega⟩)) (row x4 0) (row x5 0) l := by
  unfold leaves run
  dsimp only [run.sl.r, run.sl.r_50, run.sl.r_96, run.sl.r_97, run.sl.r_43, run.sl.r_44, run.sl.r_42]
  refine View.canon_eq_of_allAt _ _ _ (View.cover_of_tiledBy _ ![1, 64, 256] (by sl_kernel_rfl) _) ?_
  refine View.allAt_cons _ _ _ (sliceAt 256 128 64 _ _ _ _ _ _ _ _ _ _ fun a q ha hq => ?_)
    (View.allAt_cons _ _ _ (sliceAt 256 0 128 _ _ _ _ _ _ _ _ _ _ fun a q ha hq => ?_)
    (View.allAt_cons _ _ _ (sliceAt 0 128 64 _ _ _ _ _ _ _ _ _ _ fun a q ha hq => ?_)
    (View.allAt_cons _ _ _ (sliceAt 0 0 128 _ _ _ _ _ _ _ _ _ _ fun a q ha hq => ?_) (View.allAt_nil _ _))))
  all_goals
    change 128 + l.val = _ at ha
    change 256 * o.val + p.val = _ at hq
  · obtain rfl : o = 1 := Fin.ext (show o.val = 1 by omega)
    obtain rfl : a = l := Fin.ext (by omega)
    obtain rfl : q = p := Fin.ext (by change 256 * 1 + _ = _ at hq; omega)
    rw [pay347_apply]
    simp only [View.readAt_eq_ld, Memref.IsWhole.read_unread]
    simp only [row_b, column_256 x2 2304 (by norm_num), View.ld_unit_zero hz _ x4, View.ld_unit_zero hz _ x5, ← Nat.add_assoc]
    rfl
  · omega
  · obtain rfl : o = 0 := Fin.ext (show o.val = 0 by omega)
    obtain rfl : a = l := Fin.ext (by omega)
    obtain rfl : q = p := Fin.ext (by change 256 * 0 + _ = _ at hq; omega)
    rw [pay165_apply]
    simp only [View.readAt_eq_ld, Memref.IsWhole.read_unread, pay155_eq]
    simp only [row_a, column_256 x2 2304 (by norm_num), View.ld_unit_zero hz _ x4, View.ld_unit_zero hz _ x5, ← Nat.add_assoc]
    rfl
  · omega

/-- The values of the second attention, as the run leaves them. -/
theorem w10_apply (o : Fin 2) (p : Fin 256) (h : Fin 4) (l : Fin 128) :
    View.canon (leaves c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).w10 (ix2 ⟨1024 * o + 4 * p + h, by omega⟩ l)
      = col (nrow x0 x1 ⟨256 * o + p, by omega⟩) (column x2 ⟨1536 + 128 * h + l, by omega⟩) := by
  unfold leaves run
  dsimp only [run.sl.r, run.sl.r_50, run.sl.r_94]
  refine View.canon_eq_of_allAt _ _ _ (cover_rows (F := Ideal) _ _ _ _ _ _ _ _ (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) (by intro a; fin_cases a <;> exact ⟨rfl, rfl, rfl⟩) _ _ _ _ _ _ _ _ _) ?_
  refine View.allAt_cons _ _ _ (rowAt o p h l _ 1027 (by intro a; fin_cases a <;> exact ⟨rfl, rfl, rfl⟩) _ _ fun x hq h0 h1 => ?_)
    (View.allAt_cons _ _ _ (rowAt o p h l _ 1026 (by intro a; fin_cases a <;> exact ⟨rfl, rfl, rfl⟩) _ _ fun x hq h0 h1 => ?_)
    (View.allAt_cons _ _ _ (rowAt o p h l _ 1025 (by intro a; fin_cases a <;> exact ⟨rfl, rfl, rfl⟩) _ _ fun x hq h0 h1 => ?_)
    (View.allAt_cons _ _ _ (rowAt o p h l _ 1024 (by intro a; fin_cases a <;> exact ⟨rfl, rfl, rfl⟩) _ _ fun x hq h0 h1 => ?_)
    (View.allAt_cons _ _ _ (rowAt o p h l _ 3 (by intro a; fin_cases a <;> exact ⟨rfl, rfl, rfl⟩) _ _ fun x hq h0 h1 => ?_)
    (View.allAt_cons _ _ _ (rowAt o p h l _ 2 (by intro a; fin_cases a <;> exact ⟨rfl, rfl, rfl⟩) _ _ fun x hq h0 h1 => ?_)
    (View.allAt_cons _ _ _ (rowAt o p h l _ 1 (by intro a; fin_cases a <;> exact ⟨rfl, rfl, rfl⟩) _ _ fun x hq h0 h1 => ?_)
    (View.allAt_cons _ _ _ (rowAt o p h l _ 0 (by intro a; fin_cases a <;> exact ⟨rfl, rfl, rfl⟩) _ _ fun x hq h0 h1 => ?_) (View.allAt_nil _ _))))))))
  case' refine_1 | refine_2 | refine_3 | refine_4 =>
    obtain rfl : o = 1 := Fin.ext (show o.val = 1 by omega)
    change _ = 1024 * 1 + h.val at hq
  case' refine_5 | refine_6 | refine_7 | refine_8 =>
    obtain rfl : o = 0 := Fin.ext (show o.val = 0 by omega)
    change _ = 1024 * 0 + h.val at hq
  all_goals
    obtain rfl : x = ix2 p l := ix2_of_vals (R := 256) (C := 128) x p l h0.symm h1.symm
    first | rw [pay146_apply] | rw [pay147_apply] | rw [pay148_apply] | rw [pay149_apply]
          | rw [pay328_apply] | rw [pay329_apply] | rw [pay330_apply] | rw [pay331_apply]
    simp only [View.readAt_eq_ld, Memref.IsWhole.read_unread]
    first | rw [row_a] | rw [row_b]
    rw [column_512 x2 1536 (by norm_num)]
    refine congrArg₂ col rfl (congrArg (column x2) (Fin.ext ?_))
    show 1536 + _ = 1536 + 128 * h.val + l.val
    rw [Nat.add_assoc]
    first
      | (show 1536 + (384 + l.val) = _; omega)
      | (show 1536 + (256 + l.val) = _; omega)
      | (show 1536 + (128 + l.val) = _; omega)
      | (show 1536 + l.val = _; omega)

end

end Cert.PromptCachesIdeal.Hand0

end
-- ==== Proof.PromptCachesIdealRegion0.lean ====
module

public import proofs.«01_k».proof.Proof.PromptCachesIdealBody0

@[expose] public section

set_option maxRecDepth 16384

noncomputable section

namespace Cert.PromptCachesIdeal.Hand0

open Cert.PromptCachesIdeal Cert.PromptCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the regions find them: after the host's first lines. -/
abbrev V (c : Dev nD) (b : Ref sig .tc) : Buf (Elt F) ((c : Thread nD τ).loc b) := V3 m c (Proc.devRef .tc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body leaves at point `t`: the pieces found by running it on the point's blocks. -/
def left (c : Dev nD) (t : Fin cfg0.N) : Left F :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (iblk m c 0 t) (iblk m c 1 t) (iblk m c 2 t) (iblk m c 3 t) (iblk m c 4 t) (iblk m c 5 t)).1

/-- The body at point `t`, from its blocks to the pieces it leaves. -/
theorem left_sound (c : Dev nD) (t : Fin cfg0.N) (E : Set ℕ) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d) ∗ (∃ d, owns (c : Thread nD τ) (st0_17 t) fullShare d)
        ∗ (iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (View.canon (left m c t).w6) ∗ owns (c : Thread nD τ) (st0_7 t) fullShare (View.canon (left m c t).w7) ∗ owns (c : Thread nD τ) (st0_8 t) fullShare (View.canon (left m c t).w8) ∗ owns (c : Thread nD τ) (st0_9 t) fullShare (View.canon (left m c t).w9) ∗ owns (c : Thread nD τ) (st0_10 t) fullShare (View.canon (left m c t).w10) ∗ owns (c : Thread nD τ) (st0_11 t) fullShare (View.canon (left m c t).w11) ∗ owns (c : Thread nD τ) (st0_12 t) fullShare (View.canon (left m c t).w12) ∗ owns (c : Thread nD τ) (st0_13 t) fullShare (View.canon (left m c t).w13) ∗ owns (c : Thread nD τ) (st0_14 t) fullShare (View.canon (left m c t).w14) ∗ owns (c : Thread nD τ) (st0_15 t) fullShare (View.canon (left m c t).w15) ∗ owns (c : Thread nD τ) (st0_16 t) fullShare (View.canon (left m c t).w16) ∗ owns (c : Thread nD τ) (st0_17 t) fullShare (View.canon (left m c t).w17)) -∗ K ⟨⟩))
      ⊢ wp frame (wpE (defs₀ (F := F)) Variants.none c none) E (bodyAt0 t) K :=
  (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (iblk m c 0 t) (iblk m c 1 t) (iblk m c 2 t) (iblk m c 3 t) (iblk m c 4 t) (iblk m c 5 t)).2 E K

/-- The pipeline's contents: the arrays as the region finds them; after a point each input buffer still its block, each
    result buffer what the body's pieces leave. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (left m c t).w6
    | ⟨7, _⟩ => View.canon (left m c t).w7
    | ⟨8, _⟩ => View.canon (left m c t).w8
    | ⟨9, _⟩ => View.canon (left m c t).w9
    | ⟨10, _⟩ => View.canon (left m c t).w10
    | ⟨11, _⟩ => View.canon (left m c t).w11
    | ⟨12, _⟩ => View.canon (left m c t).w12
    | ⟨13, _⟩ => View.canon (left m c t).w13
    | ⟨14, _⟩ => View.canon (left m c t).w14
    | ⟨15, _⟩ => View.canon (left m c t).w15
    | ⟨16, _⟩ => View.canon (left m c t).w16
    | ⟨17, _⟩ => View.canon (left m c t).w17
    | ⟨n + 18, h⟩ => absurd h (Nat.not_lt.mpr (Nat.le_add_left 18 n))
  Φ _ := Pipeline.ΦA spec0 c
  q _ := fullShare
  owed _ := 0

/-- The arrays are the contents at the region's entry. -/
theorem A_eq (c : Dev nD) (w : Fin cfg0.W) : (dat m c).A w = V m c (Pipeline.arrRef spec0 w) := by
  dsimp only [dat]

/-! What each staging buffer holds after the body, window by window. -/
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = View.canon (left m c t).w6 := by dsimp only [dat]
theorem after_7 (c : Dev nD) (t : Fin cfg0.N) : (dat m c).after 7 t = View.canon (left m c t).w7 := by dsimp only [dat]
theorem after_8 (c : Dev nD) (t : Fin cfg0.N) : (dat m c).after 8 t = View.canon (left m c t).w8 := by dsimp only [dat]
theorem after_9 (c : Dev nD) (t : Fin cfg0.N) : (dat m c).after 9 t = View.canon (left m c t).w9 := by dsimp only [dat]
theorem after_10 (c : Dev nD) (t : Fin cfg0.N) : (dat m c).after 10 t = View.canon (left m c t).w10 := by dsimp only [dat]
theorem after_11 (c : Dev nD) (t : Fin cfg0.N) : (dat m c).after 11 t = View.canon (left m c t).w11 := by dsimp only [dat]
theorem after_12 (c : Dev nD) (t : Fin cfg0.N) : (dat m c).after 12 t = View.canon (left m c t).w12 := by dsimp only [dat]
theorem after_13 (c : Dev nD) (t : Fin cfg0.N) : (dat m c).after 13 t = View.canon (left m c t).w13 := by dsimp only [dat]
theorem after_14 (c : Dev nD) (t : Fin cfg0.N) : (dat m c).after 14 t = View.canon (left m c t).w14 := by dsimp only [dat]
theorem after_15 (c : Dev nD) (t : Fin cfg0.N) : (dat m c).after 15 t = View.canon (left m c t).w15 := by dsimp only [dat]
theorem after_16 (c : Dev nD) (t : Fin cfg0.N) : (dat m c).after 16 t = View.canon (left m c t).w16 := by dsimp only [dat]
theorem after_17 (c : Dev nD) (t : Fin cfg0.N) : (dat m c).after 17 t = View.canon (left m c t).w17 := by dsimp only [dat]

/-! What each input buffer holds before the body: its block. -/
theorem before_0 (c : Dev nD) (t : Fin cfg0.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat m c).before 5 t d = iblk m c 5 t :=
  ((dat m c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is called with at point `t`. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d))
    ∗ (∃ d, owns (c : Thread nD τ) (st0_15 t) fullShare ((dat m c).before 15 t d))
    ∗ (∃ d, owns (c : Thread nD τ) (st0_16 t) fullShare ((dat m c).before 16 t d))
    ∗ (∃ d, owns (c : Thread nD τ) (st0_17 t) fullShare ((dat m c).before 17 t d)))

/-- What the body returns at point `t`. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t)
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ owns (c : Thread nD τ) (st0_13 t) fullShare ((dat m c).after 13 t)
    ∗ owns (c : Thread nD τ) (st0_14 t) fullShare ((dat m c).after 14 t)
    ∗ owns (c : Thread nD τ) (st0_15 t) fullShare ((dat m c).after 15 t)
    ∗ owns (c : Thread nD τ) (st0_16 t) fullShare ((dat m c).after 16 t)
    ∗ owns (c : Thread nD τ) (st0_17 t) fullShare ((dat m c).after 17 t))

/-- The body at any point, the invariant and the owed signals passed through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dat m c).Φ t.succ = (dat m c).Φ t.castSucc from rfl,
    show (dat m c).owesAt () t.succ = (dat m c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (left_sound m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The table's row for the region's body is the body. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

end Cert.PromptCachesIdeal.Hand0

end
-- ==== Proof.PromptCachesIdealRegion1.lean ====
module

public import proofs.«01_k».proof.Proof.PromptCachesIdealBody1

@[expose] public section

set_option maxRecDepth 16384

noncomputable section

namespace Cert.PromptCachesIdeal.Hand1

open Cert.PromptCachesIdeal Cert.PromptCachesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers as the regions find them: after the host's first lines. -/
abbrev V (c : Dev nD) (b : Ref sig .tc) : Buf (Elt F) ((c : Thread nD τ).loc b) := V3 m c (Proc.devRef .tc b)

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- What the body leaves at point `t`: the pieces found by running it on the point's blocks. -/
def left (c : Dev nD) (t : Fin cfg1.N) : Left F :=
  (run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (iblk m c 0 t) (iblk m c 1 t) (iblk m c 2 t) (iblk m c 3 t) (iblk m c 4 t) (iblk m c 5 t)).1

/-- The body at point `t`, from its blocks to the pieces it leaves. -/
theorem left_sound (c : Dev nD) (t : Fin cfg1.N) (E : Set ℕ) (K : PUnit → sProp 𝕄) :
    iprop(owns (c : Thread nD τ) (st1_0 t) fullShare (iblk m c 0 t) ∗ owns (c : Thread nD τ) (st1_1 t) fullShare (iblk m c 1 t) ∗ owns (c : Thread nD τ) (st1_2 t) fullShare (iblk m c 2 t) ∗ owns (c : Thread nD τ) (st1_3 t) fullShare (iblk m c 3 t) ∗ owns (c : Thread nD τ) (st1_4 t) fullShare (iblk m c 4 t) ∗ owns (c : Thread nD τ) (st1_5 t) fullShare (iblk m c 5 t) ∗ (∃ d, owns (c : Thread nD τ) (st1_6 t) fullShare d) ∗ (∃ d, owns (c : Thread nD τ) (st1_7 t) fullShare d) ∗ (∃ d, owns (c : Thread nD τ) (st1_8 t) fullShare d) ∗ (∃ d, owns (c : Thread nD τ) (st1_9 t) fullShare d) ∗ (∃ d, owns (c : Thread nD τ) (st1_10 t) fullShare d) ∗ (∃ d, owns (c : Thread nD τ) (st1_11 t) fullShare d) ∗ (∃ d, owns (c : Thread nD τ) (st1_12 t) fullShare d) ∗ (∃ d, owns (c : Thread nD τ) (st1_13 t) fullShare d) ∗ (∃ d, owns (c : Thread nD τ) (st1_14 t) fullShare d) ∗ (∃ d, owns (c : Thread nD τ) (st1_15 t) fullShare d) ∗ (∃ d, owns (c : Thread nD τ) (st1_16 t) fullShare d)
        ∗ (iprop(owns (c : Thread nD τ) (st1_0 t) fullShare (iblk m c 0 t) ∗ owns (c : Thread nD τ) (st1_1 t) fullShare (iblk m c 1 t) ∗ owns (c : Thread nD τ) (st1_2 t) fullShare (iblk m c 2 t) ∗ owns (c : Thread nD τ) (st1_3 t) fullShare (iblk m c 3 t) ∗ owns (c : Thread nD τ) (st1_4 t) fullShare (iblk m c 4 t) ∗ owns (c : Thread nD τ) (st1_5 t) fullShare (iblk m c 5 t) ∗ owns (c : Thread nD τ) (st1_6 t) fullShare (View.canon (left m c t).w6) ∗ owns (c : Thread nD τ) (st1_7 t) fullShare (View.canon (left m c t).w7) ∗ owns (c : Thread nD τ) (st1_8 t) fullShare (View.canon (left m c t).w8) ∗ owns (c : Thread nD τ) (st1_9 t) fullShare (View.canon (left m c t).w9) ∗ owns (c : Thread nD τ) (st1_10 t) fullShare (View.canon (left m c t).w10) ∗ owns (c : Thread nD τ) (st1_11 t) fullShare (View.canon (left m c t).w11) ∗ owns (c : Thread nD τ) (st1_12 t) fullShare (View.canon (left m c t).w12) ∗ owns (c : Thread nD τ) (st1_13 t) fullShare (View.canon (left m c t).w13) ∗ owns (c : Thread nD τ) (st1_14 t) fullShare (View.canon (left m c t).w14) ∗ owns (c : Thread nD τ) (st1_15 t) fullShare (View.canon (left m c t).w15) ∗ owns (c : Thread nD τ) (st1_16 t) fullShare (View.canon (left m c t).w16)) -∗ K ⟨⟩))
      ⊢ wp frame (wpE (defs₀ (F := F)) Variants.none c none) E (bodyAt1 t) K :=
  (run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (iblk m c 0 t) (iblk m c 1 t) (iblk m c 2 t) (iblk m c 3 t) (iblk m c 4 t) (iblk m c 5 t)).2 E K

/-- The pipeline's contents: the arrays as the region finds them; after a point each input buffer still its block, each
    result buffer what the body's pieces leave. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (left m c t).w6
    | ⟨7, _⟩ => View.canon (left m c t).w7
    | ⟨8, _⟩ => View.canon (left m c t).w8
    | ⟨9, _⟩ => View.canon (left m c t).w9
    | ⟨10, _⟩ => View.canon (left m c t).w10
    | ⟨11, _⟩ => View.canon (left m c t).w11
    | ⟨12, _⟩ => View.canon (left m c t).w12
    | ⟨13, _⟩ => View.canon (left m c t).w13
    | ⟨14, _⟩ => View.canon (left m c t).w14
    | ⟨15, _⟩ => View.canon (left m c t).w15
    | ⟨16, _⟩ => View.canon (left m c t).w16
    | ⟨n + 17, h⟩ => absurd h (Nat.not_lt.mpr (Nat.le_add_left 17 n))
  Φ _ := Pipeline.ΦA spec1 c
  q _ := fullShare
  owed _ := 0

/-- The arrays are the contents at the region's entry. -/
theorem A_eq (c : Dev nD) (w : Fin cfg1.W) : (dat m c).A w = V m c (Pipeline.arrRef spec1 w) := by
  dsimp only [dat]

/-! What each staging buffer holds after the body, window by window. -/
theorem after_0 (c : Dev nD) (t : Fin cfg1.N) : (dat m c).after 0 t = iblk m c 0 t := by dsimp only [dat]
theorem after_1 (c : Dev nD) (t : Fin cfg1.N) : (dat m c).after 1 t = iblk m c 1 t := by dsimp only [dat]
theorem after_2 (c : Dev nD) (t : Fin cfg1.N) : (dat m c).after 2 t = iblk m c 2 t := by dsimp only [dat]
theorem after_3 (c : Dev nD) (t : Fin cfg1.N) : (dat m c).after 3 t = iblk m c 3 t := by dsimp only [dat]
theorem after_4 (c : Dev nD) (t : Fin cfg1.N) : (dat m c).after 4 t = iblk m c 4 t := by dsimp only [dat]
theorem after_5 (c : Dev nD) (t : Fin cfg1.N) : (dat m c).after 5 t = iblk m c 5 t := by dsimp only [dat]
theorem after_6 (c : Dev nD) (t : Fin cfg1.N) : (dat m c).after 6 t = View.canon (left m c t).w6 := by dsimp only [dat]
theorem after_7 (c : Dev nD) (t : Fin cfg1.N) : (dat m c).after 7 t = View.canon (left m c t).w7 := by dsimp only [dat]
theorem after_8 (c : Dev nD) (t : Fin cfg1.N) : (dat m c).after 8 t = View.canon (left m c t).w8 := by dsimp only [dat]
theorem after_9 (c : Dev nD) (t : Fin cfg1.N) : (dat m c).after 9 t = View.canon (left m c t).w9 := by dsimp only [dat]
theorem after_10 (c : Dev nD) (t : Fin cfg1.N) : (dat m c).after 10 t = View.canon (left m c t).w10 := by dsimp only [dat]
theorem after_11 (c : Dev nD) (t : Fin cfg1.N) : (dat m c).after 11 t = View.canon (left m c t).w11 := by dsimp only [dat]
theorem after_12 (c : Dev nD) (t : Fin cfg1.N) : (dat m c).after 12 t = View.canon (left m c t).w12 := by dsimp only [dat]
theorem after_13 (c : Dev nD) (t : Fin cfg1.N) : (dat m c).after 13 t = View.canon (left m c t).w13 := by dsimp only [dat]
theorem after_14 (c : Dev nD) (t : Fin cfg1.N) : (dat m c).after 14 t = View.canon (left m c t).w14 := by dsimp only [dat]
theorem after_15 (c : Dev nD) (t : Fin cfg1.N) : (dat m c).after 15 t = View.canon (left m c t).w15 := by dsimp only [dat]
theorem after_16 (c : Dev nD) (t : Fin cfg1.N) : (dat m c).after 16 t = View.canon (left m c t).w16 := by dsimp only [dat]

/-! What each input buffer holds before the body: its block. -/
theorem before_0 (c : Dev nD) (t : Fin cfg1.N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dat m c).before 5 t d = iblk m c 5 t :=
  ((dat m c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is called with at point `t`. -/
def bodyPre (c : Dev nD) (t : Fin cfg1.N) : sProp 𝕄 :=
  iprop((dat m c).Φ t.castSucc ∗ (dat m c).owesAt () t.castSucc
    ∗ (∃ d, owns (c : Thread nD τ) (st1_0 t) fullShare ((dat m c).before 0 t d))
    ∗ (∃ d, owns (c : Thread nD τ) (st1_1 t) fullShare ((dat m c).before 1 t d))
    ∗ (∃ d, owns (c : Thread nD τ) (st1_2 t) fullShare ((dat m c).before 2 t d))
    ∗ (∃ d, owns (c : Thread nD τ) (st1_3 t) fullShare ((dat m c).before 3 t d))
    ∗ (∃ d, owns (c : Thread nD τ) (st1_4 t) fullShare ((dat m c).before 4 t d))
    ∗ (∃ d, owns (c : Thread nD τ) (st1_5 t) fullShare ((dat m c).before 5 t d))
    ∗ (∃ d, owns (c : Thread nD τ) (st1_6 t) fullShare ((dat m c).before 6 t d))
    ∗ (∃ d, owns (c : Thread nD τ) (st1_7 t) fullShare ((dat m c).before 7 t d))
    ∗ (∃ d, owns (c : Thread nD τ) (st1_8 t) fullShare ((dat m c).before 8 t d))
    ∗ (∃ d, owns (c : Thread nD τ) (st1_9 t) fullShare ((dat m c).before 9 t d))
    ∗ (∃ d, owns (c : Thread nD τ) (st1_10 t) fullShare ((dat m c).before 10 t d))
    ∗ (∃ d, owns (c : Thread nD τ) (st1_11 t) fullShare ((dat m c).before 11 t d))
    ∗ (∃ d, owns (c : Thread nD τ) (st1_12 t) fullShare ((dat m c).before 12 t d))
    ∗ (∃ d, owns (c : Thread nD τ) (st1_13 t) fullShare ((dat m c).before 13 t d))
    ∗ (∃ d, owns (c : Thread nD τ) (st1_14 t) fullShare ((dat m c).before 14 t d))
    ∗ (∃ d, owns (c : Thread nD τ) (st1_15 t) fullShare ((dat m c).before 15 t d))
    ∗ (∃ d, owns (c : Thread nD τ) (st1_16 t) fullShare ((dat m c).before 16 t d)))

/-- What the body returns at point `t`. -/
def bodyPost (c : Dev nD) (t : Fin cfg1.N) : sProp 𝕄 :=
  iprop((dat m c).Φ t.succ ∗ (dat m c).owesAt () t.succ
    ∗ owns (c : Thread nD τ) (st1_0 t) fullShare ((dat m c).after 0 t)
    ∗ owns (c : Thread nD τ) (st1_1 t) fullShare ((dat m c).after 1 t)
    ∗ owns (c : Thread nD τ) (st1_2 t) fullShare ((dat m c).after 2 t)
    ∗ owns (c : Thread nD τ) (st1_3 t) fullShare ((dat m c).after 3 t)
    ∗ owns (c : Thread nD τ) (st1_4 t) fullShare ((dat m c).after 4 t)
    ∗ owns (c : Thread nD τ) (st1_5 t) fullShare ((dat m c).after 5 t)
    ∗ owns (c : Thread nD τ) (st1_6 t) fullShare ((dat m c).after 6 t)
    ∗ owns (c : Thread nD τ) (st1_7 t) fullShare ((dat m c).after 7 t)
    ∗ owns (c : Thread nD τ) (st1_8 t) fullShare ((dat m c).after 8 t)
    ∗ owns (c : Thread nD τ) (st1_9 t) fullShare ((dat m c).after 9 t)
    ∗ owns (c : Thread nD τ) (st1_10 t) fullShare ((dat m c).after 10 t)
    ∗ owns (c : Thread nD τ) (st1_11 t) fullShare ((dat m c).after 11 t)
    ∗ owns (c : Thread nD τ) (st1_12 t) fullShare ((dat m c).after 12 t)
    ∗ owns (c : Thread nD τ) (st1_13 t) fullShare ((dat m c).after 13 t)
    ∗ owns (c : Thread nD τ) (st1_14 t) fullShare ((dat m c).after 14 t)
    ∗ owns (c : Thread nD τ) (st1_15 t) fullShare ((dat m c).after 15 t)
    ∗ owns (c : Thread nD τ) (st1_16 t) fullShare ((dat m c).after 16 t))

/-- The body at any point, the invariant and the owed signals passed through. -/
theorem sound_body (c : Dev nD) (t : Fin cfg1.N) :
    bodyPre m c t ⊢ wp frame (wpE (defs₀ (F := F)) Variants.none c none) Set.univ (bodyAt1 t) (fun _ => bodyPost m c t) := by
  unfold bodyPre bodyPost
  simp only [before_0, before_1, before_2, before_3, before_4, before_5]
  rw [show (dat m c).Φ t.succ = (dat m c).Φ t.castSucc from rfl,
    show (dat m c).owesAt () t.succ = (dat m c).owesAt () t.castSucc from rfl,
    after_0, after_1, after_2, after_3, after_4, after_5, after_6, after_7, after_8, after_9, after_10, after_11, after_12, after_13, after_14, after_15, after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (left_sound m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The table's row for the region's body is the body. -/
theorem defs₀_row (t : Fin cfg1.N) :
    defs₀ (F := F) .tc cfg1.body (cfg1.bodyArgs t (cfg1.slots t)) = bodyAt1 t := by
  unfold defs₀; rw [Defs.onTc_tc]

/-- The library's obligation on the body, at every point. -/
theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

end Cert.PromptCachesIdeal.Hand1

end
-- ==== Proof.PromptCachesIdealRun.lean ====
module

public import proofs.«01_k».proof.Proof.PromptCachesIdealRegion0
public import proofs.«01_k».proof.Proof.PromptCachesIdealRegion1
public import proofs.«01_k».proof.Proof.Gen.PromptCachesIdeal.Regions
public import Idealize.ShloMosaic.Lib.Pipeline.RegionArraysS
public import Idealize.ShloMosaic.Lib.Claim

@[expose] public section

set_option maxRecDepth 16384

noncomputable section

namespace Cert.PromptCachesIdeal.Hand

open Cert.PromptCachesIdeal Cert.PromptCachesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two pipelines' contents. -/
def dats (p : Fin 2) (c : Dev nD) : Dat τ (Elt F) Unit ℕ (UR sig nD τ) ℕ (cfgs p) c :=
  match p with
  | 0 => Hand0.dat m c
  | 1 => Hand1.dat m c

/-- The buffers after the first projection call (the context rows). -/
def W4 (c : Dev nD) : Valuation τ sig (Elt F) := Pipeline.afterRegion (Hand0.dat m c) (V3 m c)
/-- The buffers after the second projection call (the meta rows). -/
def W5 (c : Dev nD) : Valuation τ sig (Elt F) := Pipeline.afterRegion (Hand1.dat m c) (W4 m c)
/-- The buffers at the end: the host's last lines have run. -/
def W6 (c : Dev nD) : Valuation τ sig (Elt F) := StableHlo.after hostOps2 (W5 m c)

/-- The first call leaves every buffer that is no result of it. -/
theorem W4_of (c : Dev nD) (r : Ref sig .tc) (h : ∀ w, Pipeline.arrRef spec0 w = r → (cfg0.win w).isOut = false) :
    W4 m c (Proc.devRef .tc r) = V3 m c (Proc.devRef .tc r) :=
  Pipeline.afterRegion_keeps (Hand0.dat m c) (V3 m c) winFacts0.arr_inj (Hand0.A_eq m c) r h

/-- The second call finds its arrays as the host prepared them. -/
theorem W4_arr1 (c : Dev nD) (w : Fin cfg1.W) :
    W4 m c (Proc.devRef .tc (Pipeline.arrRef spec1 w)) = V3 m c (Proc.devRef .tc (Pipeline.arrRef spec1 w)) :=
  W4_of m c _ (by revert w; decide)

/-- The second call leaves every buffer that is no result of it. -/
theorem W5_of (c : Dev nD) (r : Ref sig .tc) (h : ∀ w, Pipeline.arrRef spec1 w = r → (cfg1.win w).isOut = false) :
    W5 m c (Proc.devRef .tc r) = W4 m c (Proc.devRef .tc r) :=
  Pipeline.afterRegion_keeps (Hand1.dat m c) (W4 m c) winFacts1.arr_inj (fun w => (Hand1.A_eq m c w).trans (W4_arr1 m c w).symm) r h

/-- A result of the first call, after both calls. -/
theorem W5_arr0 (c : Dev nD) (w : Fin cfg0.W) (h : ∀ w', Pipeline.arrRef spec1 w' = Pipeline.arrRef spec0 w → (cfg1.win w').isOut = false) :
    W5 m c (Proc.devRef .tc (Pipeline.arrRef spec0 w)) = (Hand0.dat m c).arrAt w cfg0.N := by
  rw [W5_of m c _ h]
  exact Pipeline.afterRegion_arr (Hand0.dat m c) (V3 m c) winFacts0.arr_inj w

/-- A result of the second call, after both calls. -/
theorem W5_arr1 (c : Dev nD) (w : Fin cfg1.W) :
    W5 m c (Proc.devRef .tc (Pipeline.arrRef spec1 w)) = (Hand1.dat m c).arrAt w cfg1.N :=
  Pipeline.afterRegion_arr (Hand1.dat m c) (W4 m c) winFacts1.arr_inj w

/-- The levels: the one label, at the TensorCores' cells. -/
def Lvls (g : GSem nD τ sig) : Finset Unit := if g.1.2 = .tc then {()} else ∅

/-- What rides beside the buffers between two items: nothing owed, and the generator register. -/
def Rest (c : Dev nD) : sProp 𝕄 :=
  iprop((∃ Wd, owes (c : Thread nD τ) (0 : CellTallies nD τ sig Unit) Wd) ∗ (∃ r, prngReg c r) ∗ emp)

/-- The evidence for the pipelines' waits: nothing is owed and one level serves all. -/
theorem cut (p : Fin 2) : Pipeline.LevelCut (pcfgs (F := F)) adm () Lvls (fun _ _ => (0 : ℕ)) p (fun _ => 0) (fun _ => 0) where
  hι c w s := by simp [Lvls]
  hιb c w s := le_refl _
  hD c g i h := absurd h (Nat.lt_irrefl 0)

/-- The first call as a segment. -/
def reg0 : RegionSeg (pcfgs (F := F)) adm (dats m) () defs₀ Variants.none Lvls (fun _ _ => (0 : ℕ)) 0 :=
  RegionSeg.ofHeldIn (pcfgs (F := F)) adm (dats m) () defs₀ Variants.none Lvls (fun _ _ => (0 : ℕ)) 0 (fun _ => 0)
    (Pipeline.ucRefs τ sig) (fun c => iprop(∃ r, prngReg c r)) (fun c => iprop(∃ r, prngReg c r)) launch0.toP rfl
    (fun c => (Hand0.body_obligation m c).loose) (fun _ _ => rfl) (fun _ => rfl)
    (fun c w => (Hand0.dat m c).share_full (fun _ => rfl) w) (fun _ => .rfl) (fun _ => .rfl) (fun _ => 0) (cut 0) (fun _ => iprop(emp))
    (V3 m) (fun c w => Hand0.A_eq m c w)

/-- The second call as a segment. -/
def reg1 : RegionSeg (pcfgs (F := F)) adm (dats m) () defs₀ Variants.none Lvls (fun _ _ => (0 : ℕ)) 1 :=
  RegionSeg.ofHeldIn (pcfgs (F := F)) adm (dats m) () defs₀ Variants.none Lvls (fun _ _ => (0 : ℕ)) 1 (fun _ => 0)
    (Pipeline.ucRefs τ sig) (fun c => iprop(∃ r, prngReg c r)) (fun c => iprop(∃ r, prngReg c r)) launch1.toP rfl
    (fun c => (Hand1.body_obligation m c).loose) (fun _ _ => rfl) (fun _ => rfl)
    (fun c w => (Hand1.dat m c).share_full (fun _ => rfl) w) (fun _ => .rfl) (fun _ => .rfl) (fun _ => 0) (cut 1) (fun _ => iprop(emp))
    (W4 m) (fun c w => (Hand1.A_eq m c w).trans (W4_arr1 m c w).symm)

/-- The last host stretch as a segment. -/
def last : HostSeg (Ix := Unit) (Name := ℕ) (U := UR sig nD τ) (Lvl := ℕ) (pcfgs (F := F)) defs₀ Variants.none Lvls (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) Rest

/-- The program as segments: three host stretches, the two calls, the last host stretch. -/
abbrev parts (c : Dev nD) : List (Seg (pcfgs (F := F)) adm (dats m) () defs₀ Variants.none Lvls (fun _ _ => (0 : ℕ))) :=
  [.host (seg0 m Variants.none Lvls (fun _ _ => 0) (fun _ => Rest)), .host (seg1 m Variants.none Lvls (fun _ _ => 0) (fun _ => Rest)),
    .host (seg2 m Variants.none Lvls (fun _ _ => 0) (fun _ => Rest)), .region (reg0 m), .region (reg1 m), .host (last m)]

/-- The buffers and the rest before the first call are what its segment is entered from. -/
theorem enter0 (c : Dev nD) : iprop(StableHlo.held (c : Thread nD τ) (Pipeline.ucRefs τ sig) (V3 m c) ∗ Rest c) ⊢ (reg0 m).pre c :=
  BIBase.Entails.trans (by unfold Rest; exact BIBase.Entails.rfl) (RegionSeg.ofHeldIn_pre (pcs := pcfgs (F := F)) (a := adm) (pdats := dats m) (p := 0) (D := fun _ => 0) (ι := ())
    (defs₀ := defs₀) (𝒱₀ := Variants.none) (L := Lvls) (lv := fun _ _ => (0 : ℕ)) (W := V3 m) (R := fun _ => iprop(emp))
    (X := fun c => iprop(∃ r, prngReg c r)) (Pipeline.arrRefs_sub_ucRefs _ launch0.win.arr_unscoped) c)

/-- The first call leaves the buffers at `W4`. -/
theorem leave0 (c : Dev nD) : (reg0 m).post c ⊢ iprop(StableHlo.held (c : Thread nD τ) (Pipeline.ucRefs τ sig) (W4 m c) ∗ Rest c) :=
  RegionSeg.ofHeldIn_post (Pipeline.arrRefs_sub_ucRefs _ launch0.win.arr_unscoped) c

/-- The buffers and the rest between the calls are what the second segment is entered from. -/
theorem enter1 (c : Dev nD) : iprop(StableHlo.held (c : Thread nD τ) (Pipeline.ucRefs τ sig) (W4 m c) ∗ Rest c) ⊢ (reg1 m).pre c :=
  BIBase.Entails.trans (by unfold Rest; exact BIBase.Entails.rfl) (RegionSeg.ofHeldIn_pre (pcs := pcfgs (F := F)) (a := adm) (pdats := dats m) (p := 1) (D := fun _ => 0) (ι := ())
    (defs₀ := defs₀) (𝒱₀ := Variants.none) (L := Lvls) (lv := fun _ _ => (0 : ℕ)) (W := W4 m) (R := fun _ => iprop(emp))
    (X := fun c => iprop(∃ r, prngReg c r)) (Pipeline.arrRefs_sub_ucRefs _ launch1.win.arr_unscoped) c)

/-- The second call leaves the buffers at `W5`. -/
theorem leave1 (c : Dev nD) : (reg1 m).post c ⊢ iprop(StableHlo.held (c : Thread nD τ) (Pipeline.ucRefs τ sig) (W5 m c) ∗ Rest c) :=
  RegionSeg.ofHeldIn_post (Pipeline.arrRefs_sub_ucRefs _ launch1.win.arr_unscoped) c

set_option backward.isDefEq.respectTransparency.types false in
set_option maxHeartbeats 1600000 in
/-- Every run of the program ends, with every unscoped buffer at `W6` and every counter at zero. -/
theorem run_main : θ_run defs (onTc (τ := τ) (main (F := F))) ⟨m, fun _ => 0, ρ⟩
    (fun r => (∀ c : Dev nD, ∀ b ∈ Pipeline.ucRefs τ sig, r.2.mem ((c.tc : Thread nD τ).1, b) = W6 m c b) ∧ r.2.sem = fun _ => 0) := by
  refine Pipeline.θ_run_regions_kit_dev_sems (pcfgs (F := F)) adm (dats m) () cellOf_inj emb₁ defs₀ Variants.none Lvls (fun _ _ => 0) m ρ main
    (parts m)
    (fun c Q => by
      rewrite [main_chain c, Seg.run_eq_chain,
        show (parts m c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide) (fun _ => 0)
    (fun g hg => by simp [Lvls, hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (W6 m c))
    (hch := fun c => ⟨.rfl, .rfl, .rfl, enter0 m c, (leave0 m c).trans (enter1 m c), leave1 m c, sep_mono .rfl ?_⟩)
    (hinit := ?_) (QY := fun c s => ∀ b ∈ Pipeline.ucRefs τ sig, s.mem ((c.tc : Thread nD τ).1, b) = W6 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const]); iempintro
  · unfold Rest
    iintro ⟨Ho, Hp, He⟩
    iexact Ho
  · refine Pipeline.initEach Lvls (fun _ _ => (0 : ℕ)) fun c => ?_
    rw [show unscopedBufs (Ix := Unit) (Name := ℕ) (U := UR sig nD τ) (Lvl := ℕ) c (fun b => m ((c.tc : Thread nD τ).loc b))
      = StableHlo.held (c : Thread nD τ) (Pipeline.ucRefs τ sig) (V0 m c) from Pipeline.unscopedBufs_held c (V0 m c)]
    unfold Rest
    iintro ⟨⟨Hh, Hs, Ho, Hc, Hp, Hg⟩, Hl⟩
    imodintro
    isplitl [Hh]; · iexact Hh
    isplitl [Ho]; · iexists _; iexact Ho
    isplitl [Hp]; · iexists _; iexact Hp
    iempintro
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro; exact h
    · iexact HSI

/-- An unscoped buffer of the TensorCore at the end. -/
theorem at_end {s : MemSt nD τ sig (Elt F)} {c : Dev nD} (h : ∀ b ∈ Pipeline.ucRefs τ sig, s.mem ((c.tc : Thread nD τ).1, b) = W6 m c b)
    (r : Ref sig .tc) (hr : (Proc.devRef .tc r : DevRef τ sig) ∈ Pipeline.ucRefs τ sig) :
    s.mem ((c.tc : Thread nD τ).loc r) = W6 m c (Proc.devRef .tc r) := h _ hr

/-- No item writes an argument. -/
theorem W6_arg (c : Dev nD) (r : Ref sig .tc) (h2 : r ∉ hostOps2_W) (h1 : ∀ w, Pipeline.arrRef spec1 w = r → (cfg1.win w).isOut = false)
    (h0 : ∀ w, Pipeline.arrRef spec0 w = r → (cfg0.win w).isOut = false)
    (ha : r ∉ hostOps0_2_W) (hb : r ∉ hostOps0_1_W) (hc : r ∉ hostOps0_W) : W6 m c (Proc.devRef .tc r) = m ((c.tc : Thread nD τ).loc r) :=
  (StableHlo.after_of_writes_sub hostOps2 _ hostOps2_writes h2).trans <| (W5_of m c r h1).trans <| (W4_of m c r h0).trans <|
    (V3_of m c r ha).trans <| (V2_of m c r hb).trans (V1_of m c r hc)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(at_end m (h.1 c) main_arg0 (Finset.mem_filter.mpr ⟨StableHlo.devRef_mem_tcRefs main_arg0, by decide⟩)).trans (W6_arg m c main_arg0 (by decide) (by decide) (by decide) (by decide) (by decide) (by decide)),
      (at_end m (h.1 c) main_arg1 (Finset.mem_filter.mpr ⟨StableHlo.devRef_mem_tcRefs main_arg1, by decide⟩)).trans (W6_arg m c main_arg1 (by decide) (by decide) (by decide) (by decide) (by decide) (by decide)),
      (at_end m (h.1 c) main_arg2 (Finset.mem_filter.mpr ⟨StableHlo.devRef_mem_tcRefs main_arg2, by decide⟩)).trans (W6_arg m c main_arg2 (by decide) (by decide) (by decide) (by decide) (by decide) (by decide)),
      (at_end m (h.1 c) main_arg3 (Finset.mem_filter.mpr ⟨StableHlo.devRef_mem_tcRefs main_arg3, by decide⟩)).trans (W6_arg m c main_arg3 (by decide) (by decide) (by decide) (by decide) (by decide) (by decide)),
      (at_end m (h.1 c) main_arg4 (Finset.mem_filter.mpr ⟨StableHlo.devRef_mem_tcRefs main_arg4, by decide⟩)).trans (W6_arg m c main_arg4 (by decide) (by decide) (by decide) (by decide) (by decide) (by decide)),
      (at_end m (h.1 c) main_arg5 (Finset.mem_filter.mpr ⟨StableHlo.devRef_mem_tcRefs main_arg5, by decide⟩)).trans (W6_arg m c main_arg5 (by decide) (by decide) (by decide) (by decide) (by decide) (by decide))⟩, h.2⟩) (run_main m ρ)

end Cert.PromptCachesIdeal.Hand

end
-- ==== Proof.PromptHost.lean ====
/-
  What the host prepares in front of the two projections of the prompt: the stream's rows, flattened, the reordered and
  padded weights, the transposed weights of the second attention's keys, and the scales and the shift as rows.
-/
module

public import proofs.«01_k».proof.Proof.PromptBlock0
public import proofs.«01_k».proof.Proof.PromptCachesIdealRun

@[expose] public section

set_option maxRecDepth 16384

noncomputable section

namespace Cert.PromptCachesIdeal.Host

open Idealize.ShloMosaic Idealize.ShloMosaic.TcCoe Idealize.SL.Sem
open Cert.PromptCachesIdeal.Gen Cert.Rows

variable [Cert.PromptCachesIdeal.Facts]
variable (m : (ℓ : Loc nD τ sig) → Buf (Elt Ideal) ℓ)

/-- The weights as the host hands them to the call: transposed, their rows reordered, padded and transposed back. -/
def hostW (x : S1x1024x2500.Idx → EReal) : S1024x2560.Idx → EReal :=
  let wt : S2500x1024.Idx → EReal := transpose S2500x1024 [1, 0] (shapeCast S1024x2500 x shapeCasts_S1x1024x2500_S1024x2500) transposes_S1024x2500_S2500x1024_1_0
  transpose S1024x2560 [1, 0] (pad S2560x1024 ![0, 0] ![60, 0] ![0, 0]
    (concatenate S2500x1024 0 [⟨S512x1024, extractStridedSlice S512x1024 ![0, 0] wt slices_S2500x1024_S512x1024_0_0⟩,
      ⟨S512x1024, extractStridedSlice S512x1024 ![964, 0] wt slices_S2500x1024_S512x1024_964_0⟩,
      ⟨S512x1024, extractStridedSlice S512x1024 ![1476, 0] wt slices_S2500x1024_S512x1024_1476_0⟩,
      ⟨S512x1024, extractStridedSlice S512x1024 ![1988, 0] wt slices_S2500x1024_S512x1024_1988_0⟩,
      ⟨S256x1024, extractStridedSlice S256x1024 ![640, 0] wt slices_S2500x1024_S256x1024_640_0⟩,
      ⟨S128x1024, extractStridedSlice S128x1024 ![512, 0] wt slices_S2500x1024_S128x1024_512_0⟩,
      ⟨S68x1024, extractStridedSlice S68x1024 ![896, 0] wt slices_S2500x1024_S68x1024_896_0⟩]
      concatenates_S512x1024_S512x1024_S512x1024_S512x1024_S256x1024_S128x1024_S68x1024_S2500x1024_d0)
    (sitofp (F := Ideal) .bf16 (constantI S_ 32 0#32)) pads_S2500x1024_S2560x1024_0600_000 h_S_) transposes_S2560x1024_S1024x2560_1_0

set_option maxHeartbeats 1000000 in
/-- The key and value columns of the second attention in the reordered weights. -/
theorem hostW_b (x : S1x1024x2500.Idx → EReal) (k : Fin 1024) (u : Fin 1024) :
    hostW x (ix2 k ⟨1024 + u, by omega⟩) = x (ix3 0 k ⟨1476 + u, by omega⟩) := by
  unfold hostW
  pointwise
  split_ifs <;> first | omega | (refine congrArg (fun j => x (ix3 0 k j)) (Fin.ext ?_); simp only []; omega)

set_option maxHeartbeats 1000000 in
/-- The key and value columns of the first attention in the reordered weights. -/
theorem hostW_a (x : S1x1024x2500.Idx → EReal) (k : Fin 1024) (u : Fin 128) :
    hostW x (ix2 k ⟨2304 + u, by omega⟩) = x (ix3 0 k ⟨512 + u, by omega⟩) := by
  unfold hostW
  pointwise
  split_ifs <;> first | omega | (refine congrArg (fun j => x (ix3 0 k j)) (Fin.ext ?_); simp only []; omega)

set_option maxHeartbeats 1000000 in
/-- The index key columns in the reordered weights. -/
theorem hostW_i (x : S1x1024x2500.Idx → EReal) (k : Fin 1024) (u : Fin 64) :
    hostW x (ix2 k ⟨2432 + u, by omega⟩) = x (ix3 0 k ⟨896 + u, by omega⟩) := by
  unfold hostW
  pointwise
  split_ifs <;> first | omega | (refine congrArg (fun j => x (ix3 0 k j)) (Fin.ext ?_); simp only []; omega)

/-- The transposed weights of the second attention's keys and values, as the host hands them to the calls. -/
def hostWt (x : S1x1024x2500.Idx → EReal) : S1024x1024.Idx → EReal :=
  extractStridedSlice S1024x1024 ![1476, 0] (transpose S2500x1024 [1, 0] (shapeCast S1024x2500 x shapeCasts_S1x1024x2500_S1024x2500) transposes_S1024x2500_S2500x1024_1_0) slices_S2500x1024_S1024x1024_1476_0

set_option maxHeartbeats 1000000 in
/-- Row `u` of the transposed weights is column `1476 + u` of the weights. -/
theorem hostWt_apply (x : S1x1024x2500.Idx → EReal) (u : Fin 1024) (k : Fin 1024) :
    hostWt x (ix2 u k) = x (ix3 0 k ⟨1476 + u, by omega⟩) := by
  unfold hostWt
  pointwise
  all_goals first | rfl | (refine congrArg (fun j => x (ix3 0 k j)) (Fin.ext ?_); simp only []; omega)

/-- The contents of a buffer when the calls are reached. -/
abbrev B (c : Dev nD) (b : Ref sig .tc) : Buf (Elt Ideal) ((c : Thread nD τ).loc b) := V3 m c (Proc.devRef .tc b)

set_option maxHeartbeats 2000000 in
/-- The weights, when the calls are reached. -/
theorem B_w (c : Dev nD) : B m c main_v12 = hostW (m ((c : Thread nD τ).loc main_arg3)) := by
  show StableHlo.after (hostOps0 ++ hostOps0_1 ++ hostOps0_2) (V0 m c) (Proc.devRef .tc main_v12) = _
  simp only [hostOps0, hostOps0_1, hostOps0_2, List.cons_append, List.nil_append]
  after_results <;> rfl

set_option maxHeartbeats 2000000 in
/-- The transposed weights, when the calls are reached. -/
theorem B_wt (c : Dev nD) : B m c main_v13 = hostWt (m ((c : Thread nD τ).loc main_arg3)) := by
  show StableHlo.after (hostOps0 ++ hostOps0_1 ++ hostOps0_2) (V0 m c) (Proc.devRef .tc main_v13) = _
  simp only [hostOps0, hostOps0_1, hostOps0_2, List.cons_append, List.nil_append]
  after_results <;> rfl

set_option maxHeartbeats 2000000 in
/-- The rows of all streams, flattened. -/
theorem B_x (c : Dev nD) : B m c main_v20 = (shapeCast S16384x1024 (m ((c : Thread nD τ).loc main_arg0) : S8x2048x1024.Idx → EReal) shapeCasts_S8x2048x1024_S16384x1024 : S16384x1024.Idx → EReal) := by
  show StableHlo.after (hostOps0 ++ hostOps0_1 ++ hostOps0_2) (V0 m c) (Proc.devRef .tc main_v20) = _
  simp only [hostOps0, hostOps0_1, hostOps0_2, List.cons_append, List.nil_append]
  after_results <;> rfl

set_option maxHeartbeats 2000000 in
/-- The meta rows are an argument. -/
theorem B_m (c : Dev nD) : B m c main_arg1 = (m ((c : Thread nD τ).loc main_arg1) : S16x1024.Idx → EReal) := by
  show StableHlo.after (hostOps0 ++ hostOps0_1 ++ hostOps0_2) (V0 m c) (Proc.devRef .tc main_arg1) = _
  simp only [hostOps0, hostOps0_1, hostOps0_2, List.cons_append, List.nil_append]
  after_results <;> rfl

set_option maxHeartbeats 2000000 in
/-- The scale of the normalisation, as one row. -/
theorem B_g (c : Dev nD) : B m c main_v15 = (broadcastInDim S1x1024 ![1] bcast_S1024_S1x1024_1 (shapeCast S1024 (m ((c : Thread nD τ).loc main_arg2) : S1x1024.Idx → EReal) shapeCasts_S1x1024_S1024) : S1x1024.Idx → EReal) := by
  show StableHlo.after (hostOps0 ++ hostOps0_1 ++ hostOps0_2) (V0 m c) (Proc.devRef .tc main_v15) = _
  simp only [hostOps0, hostOps0_1, hostOps0_2, List.cons_append, List.nil_append]
  after_results <;> rfl

set_option maxHeartbeats 2000000 in
/-- The scale of the layer normalisation, as one row. -/
theorem B_kg (c : Dev nD) : B m c main_v17 = (broadcastInDim S1x64 ![1] bcast_S64_S1x64_1 (shapeCast S64 (m ((c : Thread nD τ).loc main_arg4) : S1x64.Idx → EReal) shapeCasts_S1x64_S64) : S1x64.Idx → EReal) := by
  show StableHlo.after (hostOps0 ++ hostOps0_1 ++ hostOps0_2) (V0 m c) (Proc.devRef .tc main_v17) = _
  simp only [hostOps0, hostOps0_1, hostOps0_2, List.cons_append, List.nil_append]
  after_results <;> rfl

set_option maxHeartbeats 2000000 in
/-- The shift of the layer normalisation, as one row. -/
theorem B_kb (c : Dev nD) : B m c main_v19 = (broadcastInDim S1x64 ![1] bcast_S64_S1x64_1 (shapeCast S64 (m ((c : Thread nD τ).loc main_arg5) : S1x64.Idx → EReal) shapeCasts_S1x64_S64) : S1x64.Idx → EReal) := by
  show StableHlo.after (hostOps0 ++ hostOps0_1 ++ hostOps0_2) (V0 m c) (Proc.devRef .tc main_v19) = _
  simp only [hostOps0, hostOps0_1, hostOps0_2, List.cons_append, List.nil_append]
  after_results <;> rfl

/-- A stream row's entry after the two axes are made one. -/
theorem flat_apply (x : S8x2048x1024.Idx → EReal) (p : Fin 16384) (k : Fin 1024) :
    shapeCast S16384x1024 x shapeCasts_S8x2048x1024_S16384x1024 (ix2 p k) = x (ix3 ⟨p / 2048, by omega⟩ ⟨p % 2048, by omega⟩ k) := by
  pointwise
  try rfl

/-- Equal positions, equal entries. -/
theorem at_congr {R C : ℕ} (x : (⟨2, ![R, C]⟩ : Shape).Idx → EReal) {p p' : Fin R} {l l' : Fin C} (hp : p.val = p'.val)
    (hl : l.val = l'.val) : x (ix2 p l) = x (ix2 p' l') := by
  rw [Fin.ext hp, Fin.ext hl]

/-- One row made a vector and a row again is the row. -/
theorem row1024_apply (x : S1x1024.Idx → EReal) (k : Fin 1024) :
    broadcastInDim S1x1024 ![1] bcast_S1024_S1x1024_1 (shapeCast S1024 x shapeCasts_S1x1024_S1024) (ix2 0 k) = x (ix2 0 k) := by
  pointwise
  try rfl

/-- The same for a row of 64. -/
theorem row64_apply (x : S1x64.Idx → EReal) (k : Fin 64) :
    broadcastInDim S1x64 ![1] bcast_S64_S1x64_1 (shapeCast S64 x shapeCasts_S1x64_S64) (ix2 0 k) = x (ix2 0 k) := by
  pointwise
  try rfl

/-- The scale of the normalisation. -/
abbrev scale (c : Dev nD) : Fin 1024 → EReal := fun k => (m ((c : Thread nD τ).loc main_arg2) : S1x1024.Idx → EReal) (ix2 0 k)

/-- The normalised row `s` of stream `b`. -/
def streamRow (c : Dev nD) (b : Fin 8) (s : Fin 2048) : Fin 1024 → EReal :=
  rms (fun k => (m ((c : Thread nD τ).loc main_arg0) : S8x2048x1024.Idx → EReal) (ix3 b s k)) (scale m c)

/-- The normalised meta row `s`. -/
def metaRow (c : Dev nD) (s : Fin 16) : Fin 1024 → EReal :=
  rms (fun k => (m ((c : Thread nD τ).loc main_arg1) : S16x1024.Idx → EReal) (ix2 s k)) (scale m c)

/-- Column `j` of the input weights. -/
def weight (c : Dev nD) (j : Fin 2500) : Fin 1024 → EReal :=
  fun k => (m ((c : Thread nD τ).loc main_arg3) : S1x1024x2500.Idx → EReal) (ix3 0 k j)

/-- The index keys of a normalised row. -/
def indexKey (c : Dev nD) (n : Fin 1024 → EReal) (l : Fin 64) : EReal :=
  layerNorm (fun j => col n (weight m c ⟨896 + j, by omega⟩))
    (fun j => (m ((c : Thread nD τ).loc main_arg4) : S1x64.Idx → EReal) (ix2 0 j))
    (fun j => (m ((c : Thread nD τ).loc main_arg5) : S1x64.Idx → EReal) (ix2 0 j)) l

/-- A column's two factors may change places. -/
theorem col_comm (n u : Fin 1024 → EReal) : col n u = col u n :=
  Finset.sum_congr rfl fun k _ => mul_comm _ _

end Cert.PromptCachesIdeal.Host

end
-- ==== Proof.PromptArray0.lean ====
/-
  The streams' projection: what stands in its blocks, and its result arrays after the run.
-/
module

public import proofs.«01_k».proof.Proof.PromptHost

@[expose] public section

set_option maxRecDepth 16384

noncomputable section

namespace Cert.PromptCachesIdeal.Hand0

open Idealize.ShloMosaic Idealize.ShloMosaic.TcCoe Idealize.SL.Sem
open Cert.PromptCachesIdeal.Gen Cert.PromptCachesIdeal.Host Cert.Rows
open Hand1 (row column)

variable [Cert.PromptCachesIdeal.Facts]
variable (m : (ℓ : Loc nD τ sig) → Buf (Elt Ideal) ℓ)

/-- The grid has 32 points. -/
theorem t_lt (t : Fin cfg0.N) : t.val < 32 := t.isLt

/-- The stream that point `t` works on. -/
abbrev strm (t : Fin cfg0.N) : Fin 8 := ⟨t.val / 4, by have := t_lt t; omega⟩

/-- The place in its stream of row `p` of point `t`. -/
abbrev place (t : Fin cfg0.N) (p : Fin 512) : Fin 2048 := ⟨t.val % 4 * 512 + p, by omega⟩

/-- Where every window's block lies in its array. -/
theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_10.index t = ![t.val, 0]
    ∧ win0_16.index t = ![t.val / 4, 0, t.val % 4] ∧ win0_17.index t = ![t.val / 4, 0, t.val % 4] := by decide +kernel

/-- A stream row read off its block. -/
theorem x_eq (c : Dev nD) (t : Fin cfg0.N) (p : Fin 512) (k : Fin 1024) : iblk m c 0 t (ix2 p k)
    = (m ((c : Thread nD τ).loc main_arg0) : S8x2048x1024.Idx → EReal) (ix3 (strm t) (place t p) k) := by
  have ht := t_lt t
  have h : iblk m c 0 t (ix2 p k) = (B m c main_v20 : S16384x1024.Idx → EReal) (ix2 ⟨t.val * 512 + p, by omega⟩ k) := by blk_ext! [iblk, idx t]
  rw [h, B_x, flat_apply]
  congr 2 <;> exact Fin.ext (by simp only []; omega)

set_option maxHeartbeats 1000000 in
/-- The scale of the normalisation read off its block. -/
theorem n_eq (c : Dev nD) (t : Fin cfg0.N) (k : Fin 1024) : iblk m c 1 t (ix2 0 k) = scale m c k := by
  have h : iblk m c 1 t (ix2 0 k) = (B m c main_v15 : S1x1024.Idx → EReal) (ix2 0 k) := by blk_ext! [iblk, idx t]
  rw [h, B_g, row1024_apply]

set_option maxHeartbeats 1000000 in
/-- The scale of the layer normalisation read off its block. -/
theorem g_eq (c : Dev nD) (t : Fin cfg0.N) (j : Fin 64) :
    iblk m c 4 t (ix2 0 j) = (m ((c : Thread nD τ).loc main_arg4) : S1x64.Idx → EReal) (ix2 0 j) := by
  have h : iblk m c 4 t (ix2 0 j) = (B m c main_v17 : S1x64.Idx → EReal) (ix2 0 j) := by blk_ext! [iblk, idx t]
  rw [h, B_kg, row64_apply]

set_option maxHeartbeats 1000000 in
/-- The shift of the layer normalisation read off its block. -/
theorem b_eq (c : Dev nD) (t : Fin cfg0.N) (j : Fin 64) :
    iblk m c 5 t (ix2 0 j) = (m ((c : Thread nD τ).loc main_arg5) : S1x64.Idx → EReal) (ix2 0 j) := by
  have h : iblk m c 5 t (ix2 0 j) = (B m c main_v19 : S1x64.Idx → EReal) (ix2 0 j) := by blk_ext! [iblk, idx t]
  rw [h, B_kb, row64_apply]

set_option maxHeartbeats 1000000 in
/-- The weight block is what the host prepared. -/
theorem w_eq (c : Dev nD) (t : Fin cfg0.N) (k : Fin 1024) (u : Fin 2560) :
    iblk m c 2 t (ix2 k u) = hostW (m ((c : Thread nD τ).loc main_arg3)) (ix2 k u) := by
  rw [← B_w]
  blk_ext! [iblk, idx t]

/-- A column of the weight block that lies among the second attention's keys and values. -/
theorem column_b (c : Dev nD) (t : Fin cfg0.N) (u : Fin 1024) :
    column (iblk m c 2 t) ⟨1024 + u, by omega⟩ = weight m c ⟨1476 + u, by omega⟩ :=
  funext fun k => (w_eq m c t k _).trans (hostW_b _ k u)

/-- A column of the weight block that lies among the first attention's keys and values. -/
theorem column_a (c : Dev nD) (t : Fin cfg0.N) (u : Fin 128) :
    column (iblk m c 2 t) ⟨2304 + u, by omega⟩ = weight m c ⟨512 + u, by omega⟩ :=
  funext fun k => (w_eq m c t k _).trans (hostW_a _ k u)

/-- A column of the weight block that lies among the index keys. -/
theorem column_i (c : Dev nD) (t : Fin cfg0.N) (u : Fin 64) :
    column (iblk m c 2 t) ⟨2432 + u, by omega⟩ = weight m c ⟨896 + u, by omega⟩ :=
  funext fun k => (w_eq m c t k _).trans (hostW_i _ k u)

/-- The columns of the second attention's values. -/
theorem column_v (c : Dev nD) (t : Fin cfg0.N) (h : Fin 4) (l : Fin 128) :
    column (iblk m c 2 t) ⟨1536 + 128 * h + l, by omega⟩ = weight m c ⟨1988 + 128 * h + l, by omega⟩ := by
  rw [show (⟨1536 + 128 * h + l, by omega⟩ : Fin 2560) = ⟨1024 + (512 + 128 * h + l), by omega⟩ from Fin.ext (by simp only []; omega),
    column_b m c t ⟨512 + 128 * h + l, by omega⟩]
  refine congrArg (weight m c) (Fin.ext ?_)
  simp only []
  omega

set_option maxHeartbeats 1000000 in
/-- The block of transposed weights is what the host prepared. -/
theorem wt_eq (c : Dev nD) (t : Fin cfg0.N) (u k : Fin 1024) :
    iblk m c 3 t (ix2 u k) = hostWt (m ((c : Thread nD τ).loc main_arg3)) (ix2 u k) := by
  rw [← B_wt]
  blk_ext! [iblk, idx t]

/-- A row of the transposed weights is a column of the weights. -/
theorem row_t (c : Dev nD) (t : Fin cfg0.N) (u : Fin 1024) : row (iblk m c 3 t) u = weight m c ⟨1476 + u, by omega⟩ :=
  funext fun k => (wt_eq m c t u k).trans (hostWt_apply _ u k)

/-- The normalised row read off the two blocks. -/
theorem nrow_eq (c : Dev nD) (t : Fin cfg0.N) (p : Fin 512) :
    nrow (iblk m c 0 t) (iblk m c 1 t) p = streamRow m c (strm t) (place t p) := by
  unfold nrow streamRow
  congr 1
  · funext k
    exact x_eq m c t p k
  · funext k
    exact n_eq m c t k

/-- A row of a block lies in its first or in its second half. -/
theorem half (p : Fin 512) : ∃ (o : Fin 2) (q : Fin 256), p = ⟨256 * o + q, by omega⟩ :=
  ⟨⟨p / 256, by omega⟩, ⟨p % 256, by omega⟩, Fin.ext (by simp only []; omega)⟩

/-- The second attention's keys, head dimension by row: what the array holds in the end. -/
def keysB (c : Dev nD) : S8x512x2048.Idx → EReal :=
  fun i => col (streamRow m c (i 0) (i 2)) (weight m c ⟨1476 + (i 1).val, by have : (i 1).val < 512 := (i 1).isLt; omega⟩)

/-- The small columns: the first attention's keys and values, and below them its index keys. -/
def smallA (c : Dev nD) : S8x192x2048.Idx → EReal := fun i =>
  if h : (i 1).val < 128 then col (streamRow m c (i 0) (i 2)) (weight m c ⟨512 + (i 1).val, by omega⟩)
  else indexKey m c (streamRow m c (i 0) (i 2)) ⟨(i 1).val - 128, by have : (i 1).val < 192 := (i 1).isLt; omega⟩

/-- The first 128 rows of the small columns. -/
theorem smallA_lo (c : Dev nD) (b : Fin 8) (l : Fin 128) (s : Fin 2048) :
    smallA m c (ix3 b ⟨l.val, l.isLt.trans (by decide)⟩ s) = col (streamRow m c b s) (weight m c ⟨512 + l, by omega⟩) := by
  unfold smallA
  split
  · rfl
  · exact absurd l.isLt ‹_›

/-- The last 64 rows of the small columns. -/
theorem smallA_hi (c : Dev nD) (b : Fin 8) (l : Fin 64) (s : Fin 2048) :
    smallA m c (ix3 b ⟨128 + l.val, Nat.add_lt_add_left l.isLt 128⟩ s) = indexKey m c (streamRow m c b s) l := by
  unfold smallA
  split
  · rename_i h
    exact absurd (show 128 + l.val < 128 from h) (by omega)
  · exact congrArg (indexKey m c (streamRow m c b s)) (Fin.ext (Nat.add_sub_cancel_left ..))

/-- The second attention's values: row `4 r + h` is head `h` of flattened row `r`. -/
def valuesB (c : Dev nD) : S65536x128.Idx → EReal := fun i =>
  col (streamRow m c ⟨(i 0).val / 8192, by have : (i 0).val < 65536 := (i 0).isLt; omega⟩ ⟨(i 0).val / 4 % 2048, by omega⟩)
    (weight m c ⟨1988 + 128 * ((i 0).val % 4) + (i 1).val, by have : (i 1).val < 128 := (i 1).isLt; omega⟩)

/-- A value, by its stream, its place, its head and its column. -/
theorem valuesB_at (c : Dev nD) (b : Fin 8) (s : Fin 2048) (h : Fin 4) (l : Fin 128) :
    valuesB m c (ix2 ⟨4 * (2048 * b + s) + h, by omega⟩ l)
      = col (streamRow m c b s) (weight m c ⟨1988 + 128 * h + l, by omega⟩) := by
  unfold valuesB
  congr 2
  · exact Fin.ext (show (4 * (2048 * b.val + s.val) + h.val) / 8192 = b.val by omega)
  · exact Fin.ext (show (4 * (2048 * b.val + s.val) + h.val) / 4 % 2048 = s.val by omega)
  · exact Fin.ext (show 1988 + 128 * ((4 * (2048 * b.val + s.val) + h.val) % 4) + l.val = 1988 + 128 * h.val + l.val by omega)

set_option maxHeartbeats 1000000 in
/-- The keys' array after the run. -/
theorem arr17 (c : Dev nD) : (dat m c).arrAt 17 cfg0.N = keysB m c := by
  refine (dat m c).arrAt_eq_of_covers 17 _ (by decide +kernel) fun t hf y => ?_
  blk_simp
  rw [after_17]
  obtain ⟨u, p, rfl⟩ : ∃ (u : Fin 512) (p : Fin 512), y = ix3 0 u p :=
    ⟨y 1, y 2, by funext a; match a with
      | ⟨0, _⟩ => exact Subsingleton.elim (α := Fin 1) _ _ | ⟨1, _⟩ => rfl | ⟨2, _⟩ => rfl⟩
  obtain ⟨o, q, rfl⟩ := half p
  refine (w17_apply ..).trans ?_
  rw [col_comm, nrow_eq, row_t m c t ⟨u, by omega⟩]
  refine Eq.trans (b := keysB m c (ix3 (strm t) u (place t ⟨256 * o + q, by omega⟩))) rfl (congrArg (keysB m c) ?_)
  blk_ext [idx t]

set_option maxHeartbeats 1000000 in
/-- The array of small columns after the run. -/
theorem arr16 (c : Dev nD) : (dat m c).arrAt 16 cfg0.N = smallA m c := by
  refine (dat m c).arrAt_eq_of_covers 16 _ (by decide +kernel) fun t hf y => ?_
  blk_simp
  rw [after_16]
  obtain ⟨u, p, rfl⟩ : ∃ (u : Fin 192) (p : Fin 512), y = ix3 0 u p :=
    ⟨y 1, y 2, by funext a; match a with
      | ⟨0, _⟩ => exact Subsingleton.elim (α := Fin 1) _ _ | ⟨1, _⟩ => rfl | ⟨2, _⟩ => rfl⟩
  obtain ⟨o, q, rfl⟩ := half p
  refine Eq.trans (b := smallA m c (ix3 (strm t) u (place t ⟨256 * o + q, by omega⟩))) ?_ (congrArg (smallA m c) ?_)
  · by_cases hu : u.val < 128
    · obtain ⟨l, rfl⟩ : ∃ l : Fin 128, u = ⟨l.val, l.isLt.trans (by decide)⟩ := ⟨⟨u, hu⟩, rfl⟩
      refine (w16_apply ..).trans ?_
      rw [nrow_eq, column_a m c t l]
      exact (smallA_lo m c (strm t) l _).symm
    · obtain ⟨l, rfl⟩ : ∃ l : Fin 64, u = ⟨128 + l.val, Nat.add_lt_add_left l.isLt 128⟩ := ⟨⟨u - 128, by omega⟩, Fin.ext (by simp only []; omega)⟩
      refine (w16_norm_apply ..).trans ?_
      simp only [nrow_eq, column_i m c t]
      refine Eq.trans ?_ (smallA_hi m c (strm t) l _).symm
      unfold indexKey
      congr 1
      · exact funext fun j => g_eq m c t j
      · exact funext fun j => b_eq m c t j
  · blk_ext [idx t]

set_option maxHeartbeats 1000000 in
/-- The values' array after the run. -/
theorem arr10 (c : Dev nD) : (dat m c).arrAt 10 cfg0.N = valuesB m c := by
  refine (dat m c).arrAt_eq_of_covers 10 _ (by decide +kernel) fun t hf y => ?_
  blk_simp
  rw [after_10]
  have ht := t_lt t
  obtain ⟨o, q, h, l, rfl⟩ : ∃ (o : Fin 2) (q : Fin 256) (h : Fin 4) (l : Fin 128), y = ix2 ⟨1024 * o + 4 * q + h, by omega⟩ l := by
    have h0 : (y 0).val < 2048 := (y 0).isLt
    refine ⟨⟨(y 0).val / 1024, by omega⟩, ⟨(y 0).val / 4 % 256, by omega⟩, ⟨(y 0).val % 4, by omega⟩, y 1, ?_⟩
    funext a
    match a with
    | ⟨0, _⟩ => exact Fin.ext (show (y 0).val = 1024 * ((y 0).val / 1024) + 4 * ((y 0).val / 4 % 256) + (y 0).val % 4 by omega)
    | ⟨1, _⟩ => rfl
  refine (w10_apply ..).trans ?_
  rw [nrow_eq, column_v]
  refine Eq.trans (b := valuesB m c (ix2 ⟨t.val * 2048 + (1024 * o + 4 * q + h), by omega⟩ l)) ?_ (congrArg (valuesB m c) ?_)
  · unfold valuesB
    congr 2
    · exact Fin.ext (show t.val / 4 = (t.val * 2048 + (1024 * o.val + 4 * q.val + h.val)) / 8192 by omega)
    · exact Fin.ext (show t.val % 4 * 512 + (256 * o.val + q.val) = (t.val * 2048 + (1024 * o.val + 4 * q.val + h.val)) / 4 % 2048 by omega)
    · exact Fin.ext (show 1988 + 128 * h.val + l.val = 1988 + 128 * ((t.val * 2048 + (1024 * o.val + 4 * q.val + h.val)) % 4) + l.val by omega)
  · blk_ext [idx t]

end Cert.PromptCachesIdeal.Hand0

end
-- ==== Proof.PromptArray1.lean ====
/-
  The meta rows' projection: what stands in its blocks, and its result arrays after the run.
-/
module

public import proofs.«01_k».proof.Proof.PromptHost

@[expose] public section

set_option maxRecDepth 16384

noncomputable section

namespace Cert.PromptCachesIdeal.Hand1

open Idealize.ShloMosaic Idealize.ShloMosaic.TcCoe Idealize.SL.Sem
open Cert.PromptCachesIdeal.Gen Cert.PromptCachesIdeal.Host Cert.Rows

variable [Cert.PromptCachesIdeal.Facts]
variable (m : (ℓ : Loc nD τ sig) → Buf (Elt Ideal) ℓ)

/-- Where every window's block lies in its array. -/
theorem idx : ∀ t : Fin grid1.N, win1_0.index t = ![0, 0] ∧ win1_1.index t = ![0, 0] ∧ win1_2.index t = ![0, 0] ∧ win1_4.index t = ![0, 0] ∧ win1_5.index t = ![0, 0] ∧ win1_10.index t = ![0, 0] ∧ win1_13.index t = ![0, 0] ∧ win1_15.index t = ![0, 0] := by decide +kernel

/-- A meta row read off its block. -/
theorem x_eq (c : Dev nD) (t : Fin cfg1.N) (p : Fin 16) (k : Fin 1024) : iblk m c 0 t (ix2 p k)
    = (m ((c : Thread nD τ).loc main_arg1) : S16x1024.Idx → EReal) (ix2 p k) := by
  have h : iblk m c 0 t (ix2 p k) = (B m c main_arg1 : S16x1024.Idx → EReal) (ix2 p k) := by blk_ext! [iblk, idx t]
  rw [h, B_m]

set_option maxHeartbeats 1000000 in
/-- The scale of the normalisation read off its block. -/
theorem n_eq (c : Dev nD) (t : Fin cfg1.N) (k : Fin 1024) : iblk m c 1 t (ix2 0 k) = scale m c k := by
  have h : iblk m c 1 t (ix2 0 k) = (B m c main_v15 : S1x1024.Idx → EReal) (ix2 0 k) := by blk_ext! [iblk, idx t]
  rw [h, B_g, row1024_apply]

set_option maxHeartbeats 1000000 in
/-- The scale of the layer normalisation read off its block. -/
theorem g_eq (c : Dev nD) (t : Fin cfg1.N) (j : Fin 64) :
    iblk m c 4 t (ix2 0 j) = (m ((c : Thread nD τ).loc main_arg4) : S1x64.Idx → EReal) (ix2 0 j) := by
  have h : iblk m c 4 t (ix2 0 j) = (B m c main_v17 : S1x64.Idx → EReal) (ix2 0 j) := by blk_ext! [iblk, idx t]
  rw [h, B_kg, row64_apply]

set_option maxHeartbeats 1000000 in
/-- The shift of the layer normalisation read off its block. -/
theorem b_eq (c : Dev nD) (t : Fin cfg1.N) (j : Fin 64) :
    iblk m c 5 t (ix2 0 j) = (m ((c : Thread nD τ).loc main_arg5) : S1x64.Idx → EReal) (ix2 0 j) := by
  have h : iblk m c 5 t (ix2 0 j) = (B m c main_v19 : S1x64.Idx → EReal) (ix2 0 j) := by blk_ext! [iblk, idx t]
  rw [h, B_kb, row64_apply]

set_option maxHeartbeats 1000000 in
/-- The weight block is what the host prepared. -/
theorem w_eq (c : Dev nD) (t : Fin cfg1.N) (k : Fin 1024) (u : Fin 2560) :
    iblk m c 2 t (ix2 k u) = hostW (m ((c : Thread nD τ).loc main_arg3)) (ix2 k u) := by
  rw [← B_w]
  blk_ext! [iblk, idx t]

/-- A column of the weight block that lies among the second attention's keys and values. -/
theorem column_b (c : Dev nD) (t : Fin cfg1.N) (u : Fin 1024) :
    column (iblk m c 2 t) ⟨1024 + u, by omega⟩ = weight m c ⟨1476 + u, by omega⟩ :=
  funext fun k => (w_eq m c t k _).trans (hostW_b _ k u)

/-- A column of the weight block that lies among the first attention's keys and values. -/
theorem column_a (c : Dev nD) (t : Fin cfg1.N) (u : Fin 128) :
    column (iblk m c 2 t) ⟨2304 + u, by omega⟩ = weight m c ⟨512 + u, by omega⟩ :=
  funext fun k => (w_eq m c t k _).trans (hostW_a _ k u)

/-- A column of the weight block that lies among the index keys. -/
theorem column_i (c : Dev nD) (t : Fin cfg1.N) (u : Fin 64) :
    column (iblk m c 2 t) ⟨2432 + u, by omega⟩ = weight m c ⟨896 + u, by omega⟩ :=
  funext fun k => (w_eq m c t k _).trans (hostW_i _ k u)

/-- The columns of the second attention's values. -/
theorem column_v (c : Dev nD) (t : Fin cfg1.N) (h : Fin 4) (l : Fin 128) :
    column (iblk m c 2 t) ⟨1536 + 128 * h + l, by omega⟩ = weight m c ⟨1988 + 128 * h + l, by omega⟩ := by
  rw [show (⟨1536 + 128 * h + l, by omega⟩ : Fin 2560) = ⟨1024 + (512 + 128 * h + l), by omega⟩ from Fin.ext (by simp only []; omega),
    column_b m c t ⟨512 + 128 * h + l, by omega⟩]
  refine congrArg (weight m c) (Fin.ext ?_)
  simp only []
  omega

/-- The normalised row read off the two blocks. -/
theorem nrow_eq (c : Dev nD) (t : Fin cfg1.N) (p : Fin 16) : nrow (iblk m c 0 t) (iblk m c 1 t) p = metaRow m c p := by
  unfold nrow metaRow
  congr 1
  · funext k
    exact x_eq m c t p k
  · funext k
    exact n_eq m c t k

/-- The only grid point. -/
abbrev t0 : Fin cfg1.N := ⟨0, Nat.one_pos⟩

/-- The grid has one point. -/
theorem t0_only (t : Fin cfg1.N) : t = t0 := Fin.ext (Nat.lt_one_iff.mp t.isLt)

/-- An array that starts at the origin of its only block is the block. -/
theorem arr13 (c : Dev nD) : (dat m c).arrAt 13 cfg1.N = View.canon (left m c t0).w13 := by
  refine (dat m c).arrAt_eq_of_covers 13 _ (by decide +kernel) fun t hf y => ?_
  obtain rfl : t = t0 := t0_only t
  blk_simp
  rw [after_13]
  refine congrArg (View.canon (left m c t0).w13) ?_
  blk_ext [idx t0]

/-- The same for the values of the second attention. -/
theorem arr10 (c : Dev nD) : (dat m c).arrAt 10 cfg1.N = View.canon (left m c t0).w10 := by
  refine (dat m c).arrAt_eq_of_covers 10 _ (by decide +kernel) fun t hf y => ?_
  obtain rfl : t = t0 := t0_only t
  blk_simp
  rw [after_10]
  refine congrArg (View.canon (left m c t0).w10) ?_
  blk_ext [idx t0]

/-- The same for the first attention's keys, values and index keys. -/
theorem arr15 (c : Dev nD) : (dat m c).arrAt 15 cfg1.N = View.canon (left m c t0).w15 := by
  refine (dat m c).arrAt_eq_of_covers 15 _ (by decide +kernel) fun t hf y => ?_
  obtain rfl : t = t0 := t0_only t
  blk_simp
  rw [after_15]
  refine congrArg (View.canon (left m c t0).w15) ?_
  blk_ext [idx t0]

/-- The keys of the second attention after the run. -/
theorem final13 (c : Dev nD) (p : Fin 16) (l : Fin 512) :
    (dat m c).arrAt 13 cfg1.N (ix2 p l) = col (metaRow m c p) (weight m c ⟨1476 + l, by omega⟩) := by
  rw [arr13]
  refine (w13_apply ..).trans ?_
  rw [nrow_eq, column_b m c t0 ⟨l, by omega⟩]

/-- The values of the second attention after the run: row `4 p + h` is head `h` of meta row `p`. -/
theorem final10 (c : Dev nD) (p : Fin 16) (h : Fin 4) (l : Fin 128) :
    (dat m c).arrAt 10 cfg1.N (ix2 ⟨4 * p + h, by omega⟩ l)
      = col (metaRow m c p) (weight m c ⟨1988 + 128 * h + l, by omega⟩) := by
  rw [arr10]
  refine (w10_apply ..).trans ?_
  rw [nrow_eq, column_v]

/-- The first attention's keys and values after the run. -/
theorem final15 (c : Dev nD) (p : Fin 16) (l : Fin 128) :
    (dat m c).arrAt 15 cfg1.N (ix2 p ⟨l, by omega⟩) = col (metaRow m c p) (weight m c ⟨512 + l, by omega⟩) := by
  rw [arr15]
  refine (w15_apply ..).trans ?_
  rw [nrow_eq, column_a m c t0 l]

/-- The first attention's index keys after the run. -/
theorem final15_norm (c : Dev nD) (p : Fin 16) (l : Fin 64) :
    (dat m c).arrAt 15 cfg1.N (ix2 p ⟨128 + l, by omega⟩) = indexKey m c (metaRow m c p) l := by
  rw [arr15]
  refine (w15_norm_apply ..).trans ?_
  unfold indexKey
  simp only [nrow_eq, column_i m c t0]
  congr 1
  · exact funext fun j => g_eq m c t0 j
  · exact funext fun j => b_eq m c t0 j

end Cert.PromptCachesIdeal.Hand1

end
-- ==== Proof.PromptTail.lean ====
/-
  The cache entries of the prompt: what the host lays out from the arrays of the two projections, the meta rows first.
-/
module

public import proofs.«01_k».proof.Proof.PromptArray0
public import proofs.«01_k».proof.Proof.PromptArray1

@[expose] public section

set_option maxRecDepth 16384

noncomputable section

namespace Cert.PromptCachesIdeal.Hand

open Idealize.ShloMosaic Idealize.ShloMosaic.TcCoe Idealize.SL.Sem
open Cert.PromptCachesIdeal.Gen Cert.PromptCachesIdeal.Host Cert.Rows

variable [Cert.PromptCachesIdeal.Facts]
variable (m : (ℓ : Loc nD τ sig) → Buf (Elt Ideal) ℓ)

/-! The host's layouts, as functions of the arrays of the two calls. -/

/-- The first 64 columns: the meta rows', the same for every stream, before the stream's own. -/
def lay0 (y : S16x256.Idx → EReal) (z : S8x192x2048.Idx → EReal) : S1x8x2064x64.Idx → EReal :=
  broadcastInDim S1x8x2064x64 ![1, 2, 3] bcast_S8x2064x64_S1x8x2064x64_1_2_3 (transpose S8x2064x64 [0, 2, 1]
    (concatenate S8x64x2064 2 [⟨S8x64x16, broadcastInDim S8x64x16 ![0, 1, 2] bcast_S1x64x16_S8x64x16_0_1_2
        (broadcastInDim S1x64x16 ![1, 2] bcast_S64x16_S1x64x16_1_2 (transpose S64x16 [1, 0] (extractStridedSlice S16x64 ![0, 0] y slices_S16x256_S16x64_0_0) transposes_S16x64_S64x16_1_0))⟩,
      ⟨S8x64x2048, extractStridedSlice S8x64x2048 ![0, 0, 0] z slices_S8x192x2048_S8x64x2048_0_0_0⟩]
      concatenates_S8x64x16_S8x64x2048_S8x64x2064_d2) transposes_S8x64x2064_S8x2064x64_0_2_1)

set_option maxHeartbeats 1000000 in
/-- Its entries. -/
theorem lay0_apply (y : S16x256.Idx → EReal) (z : S8x192x2048.Idx → EReal) (b : Fin 8) (s : Fin 2064) (l : Fin 64) :
    lay0 y z (ix4 0 b s l) = if h : s.val < 16 then y (ix2 ⟨s, h⟩ ⟨0 + l, by omega⟩) else z (ix3 b ⟨0 + l, by omega⟩ ⟨s - 16, by omega⟩) := by
  unfold lay0
  pointwise
  all_goals first | rfl | (split_ifs <;> first | rfl | omega | (congr 2 <;> exact Fin.ext (by simp only []; omega)))

/-- The 64 columns from column 64 on: the meta rows', the same for every stream, before the stream's own. -/
def lay64 (y : S16x256.Idx → EReal) (z : S8x192x2048.Idx → EReal) : S1x8x2064x64.Idx → EReal :=
  broadcastInDim S1x8x2064x64 ![1, 2, 3] bcast_S8x2064x64_S1x8x2064x64_1_2_3 (transpose S8x2064x64 [0, 2, 1]
    (concatenate S8x64x2064 2 [⟨S8x64x16, broadcastInDim S8x64x16 ![0, 1, 2] bcast_S1x64x16_S8x64x16_0_1_2
        (broadcastInDim S1x64x16 ![1, 2] bcast_S64x16_S1x64x16_1_2 (transpose S64x16 [1, 0] (extractStridedSlice S16x64 ![0, 64] y slices_S16x256_S16x64_0_64) transposes_S16x64_S64x16_1_0))⟩,
      ⟨S8x64x2048, extractStridedSlice S8x64x2048 ![0, 64, 0] z slices_S8x192x2048_S8x64x2048_0_64_0⟩]
      concatenates_S8x64x16_S8x64x2048_S8x64x2064_d2) transposes_S8x64x2064_S8x2064x64_0_2_1)

set_option maxHeartbeats 1000000 in
/-- Its entries. -/
theorem lay64_apply (y : S16x256.Idx → EReal) (z : S8x192x2048.Idx → EReal) (b : Fin 8) (s : Fin 2064) (l : Fin 64) :
    lay64 y z (ix4 0 b s l) = if h : s.val < 16 then y (ix2 ⟨s, h⟩ ⟨64 + l, by omega⟩) else z (ix3 b ⟨64 + l, by omega⟩ ⟨s - 16, by omega⟩) := by
  unfold lay64
  pointwise
  all_goals first | rfl | (split_ifs <;> first | rfl | omega | (congr 2 <;> exact Fin.ext (by simp only []; omega)))

/-- The 64 columns from column 128 on: the meta rows', the same for every stream, before the stream's own. -/
def lay128 (y : S16x256.Idx → EReal) (z : S8x192x2048.Idx → EReal) : S1x8x2064x64.Idx → EReal :=
  broadcastInDim S1x8x2064x64 ![1, 2, 3] bcast_S8x2064x64_S1x8x2064x64_1_2_3 (transpose S8x2064x64 [0, 2, 1]
    (concatenate S8x64x2064 2 [⟨S8x64x16, broadcastInDim S8x64x16 ![0, 1, 2] bcast_S1x64x16_S8x64x16_0_1_2
        (broadcastInDim S1x64x16 ![1, 2] bcast_S64x16_S1x64x16_1_2 (transpose S64x16 [1, 0] (extractStridedSlice S16x64 ![0, 128] y slices_S16x256_S16x64_0_128) transposes_S16x64_S64x16_1_0))⟩,
      ⟨S8x64x2048, extractStridedSlice S8x64x2048 ![0, 128, 0] z slices_S8x192x2048_S8x64x2048_0_128_0⟩]
      concatenates_S8x64x16_S8x64x2048_S8x64x2064_d2) transposes_S8x64x2064_S8x2064x64_0_2_1)

set_option maxHeartbeats 1000000 in
/-- Its entries. -/
theorem lay128_apply (y : S16x256.Idx → EReal) (z : S8x192x2048.Idx → EReal) (b : Fin 8) (s : Fin 2064) (l : Fin 64) :
    lay128 y z (ix4 0 b s l) = if h : s.val < 16 then y (ix2 ⟨s, h⟩ ⟨128 + l, by omega⟩) else z (ix3 b ⟨128 + l, by omega⟩ ⟨s - 16, by omega⟩) := by
  unfold lay128
  pointwise
  all_goals first | rfl | (split_ifs <;> first | rfl | omega | (congr 2 <;> exact Fin.ext (by simp only []; omega)))

/-- The keys of the second attention by streams, tokens, heads and halves, the meta rows first. -/
def layK (y : S16x512.Idx → EReal) (z : S8x512x2048.Idx → EReal) : S1x8x2064x4x2x64.Idx → EReal :=
  broadcastInDim S1x8x2064x4x2x64 ![1, 2, 3, 4, 5] bcast_S8x2064x4x2x64_S1x8x2064x4x2x64_1_2_3_4_5 (transpose S8x2064x4x2x64 [0, 4, 1, 2, 3]
    (concatenate S8x4x2x64x2064 4 [⟨S8x4x2x64x16, broadcastInDim S8x4x2x64x16 ![0, 1, 2, 3, 4] bcast_S1x4x2x64x16_S8x4x2x64x16_0_1_2_3_4
        (shapeCast S1x4x2x64x16 (transpose S512x16 [1, 0] y transposes_S16x512_S512x16_1_0) shapeCasts_S512x16_S1x4x2x64x16)⟩,
      ⟨S8x4x2x64x2048, shapeCast S8x4x2x64x2048 z shapeCasts_S8x512x2048_S8x4x2x64x2048⟩]
      concatenates_S8x4x2x64x16_S8x4x2x64x2048_S8x4x2x64x2064_d4) transposes_S8x4x2x64x2064_S8x2064x4x2x64_0_4_1_2_3)

set_option maxHeartbeats 2000000 in
/-- Its entries. -/
theorem layK_apply (y : S16x512.Idx → EReal) (z : S8x512x2048.Idx → EReal) (b : Fin 8) (s : Fin 2064) (h : Fin 4) (e : Fin 2) (l : Fin 64) :
    layK y z (ix6 0 b s h e l) = if hs : s.val < 16 then y (ix2 ⟨s, hs⟩ ⟨128 * h + 64 * e + l, by omega⟩)
      else z (ix3 b ⟨128 * h + 64 * e + l, by omega⟩ ⟨s - 16, by omega⟩) := by
  unfold layK
  pointwise
  all_goals first | rfl | (split_ifs <;> first | rfl | omega | (congr 2 <;> exact Fin.ext (by simp only []; omega)))

/-- The values of the second attention by streams, tokens and heads, the meta rows first. -/
def layV (y : S64x128.Idx → EReal) (z : S65536x128.Idx → EReal) : S1x8x2064x4x128.Idx → EReal :=
  broadcastInDim S1x8x2064x4x128 ![1, 2, 3, 4] bcast_S8x2064x4x128_S1x8x2064x4x128_1_2_3_4
    (concatenate S8x2064x4x128 1 [⟨S8x16x4x128, broadcastInDim S8x16x4x128 ![0, 1, 2, 3] bcast_S1x16x4x128_S8x16x4x128_0_1_2_3
        (shapeCast S1x16x4x128 y shapeCasts_S64x128_S1x16x4x128)⟩,
      ⟨S8x2048x4x128, shapeCast S8x2048x4x128 z shapeCasts_S65536x128_S8x2048x4x128⟩]
      concatenates_S8x16x4x128_S8x2048x4x128_S8x2064x4x128_d1)

set_option maxHeartbeats 2000000 in
/-- Its entries. -/
theorem layV_apply (y : S64x128.Idx → EReal) (z : S65536x128.Idx → EReal) (b : Fin 8) (s : Fin 2064) (h : Fin 4) (l : Fin 128) :
    layV y z (ix5 0 b s h l) = if hs : s.val < 16 then y (ix2 ⟨4 * s.val + h, by omega⟩ l)
      else z (ix2 ⟨4 * (2048 * b + (s - 16)) + h, by omega⟩ l) := by
  unfold layV
  pointwise
  all_goals first | rfl | (split_ifs <;> first | rfl | omega | (congr 2 <;> exact Fin.ext (by simp only []; omega)))

/-! The entries. -/

/-- The meta rows' small columns, after both calls. -/
theorem end_small1 (c : Dev nD) : W5 m c (Proc.devRef .tc main_v22_9) = (Hand1.dat m c).arrAt 15 cfg1.N := W5_arr1 m c 15
/-- The meta rows' keys, after both calls. -/
theorem end_keys1 (c : Dev nD) : W5 m c (Proc.devRef .tc main_v22_7) = (Hand1.dat m c).arrAt 13 cfg1.N := W5_arr1 m c 13
/-- The meta rows' values, after both calls. -/
theorem end_values1 (c : Dev nD) : W5 m c (Proc.devRef .tc main_v22_4) = (Hand1.dat m c).arrAt 10 cfg1.N := W5_arr1 m c 10
/-- The streams' small columns, after both calls. -/
theorem end_small0 (c : Dev nD) : W5 m c (Proc.devRef .tc main_v21_10) = Hand0.smallA m c :=
  (W5_arr0 m c 16 (by decide)).trans (Hand0.arr16 m c)
/-- The streams' keys, after both calls. -/
theorem end_keys0 (c : Dev nD) : W5 m c (Proc.devRef .tc main_v21_11) = Hand0.keysB m c :=
  (W5_arr0 m c 17 (by decide)).trans (Hand0.arr17 m c)
/-- The streams' values, after both calls. -/
theorem end_values0 (c : Dev nD) : W5 m c (Proc.devRef .tc main_v21_4) = Hand0.valuesB m c :=
  (W5_arr0 m c 10 (by decide)).trans (Hand0.arr10 m c)

set_option maxHeartbeats 2000000 in
/-- The first attention's keys, laid out from the two calls' arrays. -/
theorem tail_v30 (c : Dev nD) : W6 m c (Proc.devRef .tc main_v30) = lay0 ((Hand1.dat m c).arrAt 15 cfg1.N) (Hand0.smallA m c) := by
  rw [← end_small1, ← end_small0]
  show StableHlo.after hostOps2 (W5 m c) (Proc.devRef .tc main_v30) = _
  generalize W5 m c = W
  simp only [hostOps2]
  after_results <;> rfl

set_option maxHeartbeats 2000000 in
/-- The first attention's values, laid out from the two calls' arrays. -/
theorem tail_v38 (c : Dev nD) : W6 m c (Proc.devRef .tc main_v38) = lay64 ((Hand1.dat m c).arrAt 15 cfg1.N) (Hand0.smallA m c) := by
  rw [← end_small1, ← end_small0]
  show StableHlo.after hostOps2 (W5 m c) (Proc.devRef .tc main_v38) = _
  generalize W5 m c = W
  simp only [hostOps2]
  after_results <;> rfl

set_option maxHeartbeats 2000000 in
/-- The index keys, laid out from the two calls' arrays. -/
theorem tail_v46 (c : Dev nD) : W6 m c (Proc.devRef .tc main_v46) = lay128 ((Hand1.dat m c).arrAt 15 cfg1.N) (Hand0.smallA m c) := by
  rw [← end_small1, ← end_small0]
  show StableHlo.after hostOps2 (W5 m c) (Proc.devRef .tc main_v46) = _
  generalize W5 m c = W
  simp only [hostOps2]
  after_results <;> rfl

set_option maxHeartbeats 2000000 in
/-- The second attention's keys, laid out from the two calls' arrays. -/
theorem tail_v53 (c : Dev nD) : W6 m c (Proc.devRef .tc main_v53) = layK ((Hand1.dat m c).arrAt 13 cfg1.N) (Hand0.keysB m c) := by
  rw [← end_keys1, ← end_keys0]
  show StableHlo.after hostOps2 (W5 m c) (Proc.devRef .tc main_v53) = _
  generalize W5 m c = W
  simp only [hostOps2]
  after_results <;> rfl

set_option maxHeartbeats 2000000 in
/-- The second attention's values, laid out from the two calls' arrays. -/
theorem tail_v58 (c : Dev nD) : W6 m c (Proc.devRef .tc main_v58) = layV ((Hand1.dat m c).arrAt 10 cfg1.N) (Hand0.valuesB m c) := by
  rw [← end_values1, ← end_values0]
  show StableHlo.after hostOps2 (W5 m c) (Proc.devRef .tc main_v58) = _
  generalize W5 m c = W
  simp only [hostOps2]
  after_results <;> rfl

/-- The normalised row `s` of stream `b` with its meta rows first. -/
def token (c : Dev nD) (b : Fin 8) (s : Fin 2064) : Fin 1024 → EReal :=
  if h : s.val < 16 then metaRow m c ⟨s, h⟩ else streamRow m c b ⟨s - 16, by omega⟩

/-- A token's row, normalised, with the choice between the meta rows and the stream's made entry by entry. -/
theorem token_at (c : Dev nD) (b : Fin 8) (s : Fin 2064) : token m c b s
    = rms (fun k => if h : s.val < 16 then (m ((c : Thread nD τ).loc main_arg1) : S16x1024.Idx → EReal) (ix2 ⟨s, h⟩ k)
        else (m ((c : Thread nD τ).loc main_arg0) : S8x2048x1024.Idx → EReal) (ix3 b ⟨s - 16, by omega⟩ k))
      (scale m c) := by
  unfold token
  split
  · unfold metaRow
    congr 1
  · unfold streamRow
    congr 1

/-- The first attention's keys: token by token, 64 columns of the product. -/
theorem entry_v30 (c : Dev nD) (b : Fin 8) (s : Fin 2064) (l : Fin 64) :
    (W6 m c (Proc.devRef .tc main_v30) : S1x8x2064x64.Idx → EReal) (ix4 0 b s l)
      = col (token m c b s) (weight m c ⟨512 + (0 + l), by omega⟩) := by
  rw [tail_v30, lay0_apply]
  unfold token
  split
  · exact Hand1.final15 m c _ ⟨0 + l, by omega⟩
  · exact Hand0.smallA_lo m c b ⟨0 + l, by omega⟩ _

/-- The first attention's values. -/
theorem entry_v38 (c : Dev nD) (b : Fin 8) (s : Fin 2064) (l : Fin 64) :
    (W6 m c (Proc.devRef .tc main_v38) : S1x8x2064x64.Idx → EReal) (ix4 0 b s l)
      = col (token m c b s) (weight m c ⟨512 + (64 + l), by omega⟩) := by
  rw [tail_v38, lay64_apply]
  unfold token
  split
  · exact Hand1.final15 m c _ ⟨64 + l, by omega⟩
  · exact Hand0.smallA_lo m c b ⟨64 + l, by omega⟩ _

/-- The index keys. -/
theorem entry_v46 (c : Dev nD) (b : Fin 8) (s : Fin 2064) (l : Fin 64) :
    (W6 m c (Proc.devRef .tc main_v46) : S1x8x2064x64.Idx → EReal) (ix4 0 b s l) = indexKey m c (token m c b s) l := by
  rw [tail_v46, lay128_apply]
  unfold token
  split
  · exact Hand1.final15_norm m c _ l
  · exact Hand0.smallA_hi m c b l _

/-- A key, by its stream, its column and its place. -/
theorem keysB_at (c : Dev nD) (b : Fin 8) (u : Fin 512) (s : Fin 2048) :
    Hand0.keysB m c (ix3 b u s) = col (streamRow m c b s) (weight m c ⟨1476 + u, by omega⟩) := rfl

/-- The second attention's keys. -/
theorem entry_v53 (c : Dev nD) (b : Fin 8) (s : Fin 2064) (h : Fin 4) (e : Fin 2) (l : Fin 64) :
    (W6 m c (Proc.devRef .tc main_v53) : S1x8x2064x4x2x64.Idx → EReal) (ix6 0 b s h e l)
      = col (token m c b s) (weight m c ⟨1476 + (128 * h + 64 * e + l), by omega⟩) := by
  rw [tail_v53, layK_apply]
  unfold token
  split
  · exact Hand1.final13 m c _ ⟨128 * h + 64 * e + l, by omega⟩
  · exact keysB_at m c b ⟨128 * h + 64 * e + l, by omega⟩ _

/-- The second attention's values. -/
theorem entry_v58 (c : Dev nD) (b : Fin 8) (s : Fin 2064) (h : Fin 4) (l : Fin 128) :
    (W6 m c (Proc.devRef .tc main_v58) : S1x8x2064x4x128.Idx → EReal) (ix5 0 b s h l)
      = col (token m c b s) (weight m c ⟨1988 + 128 * h + l, by omega⟩) := by
  rw [tail_v58, layV_apply]
  unfold token
  split
  · exact Hand1.final10 m c ⟨s, _⟩ h l
  · exact Hand0.valuesB_at m c b ⟨s - 16, by omega⟩ h l

end Cert.PromptCachesIdeal.Hand

end
-- ==== Proof.PromptRef.lean ====
/-
  The reference of the prompt's cache entries: the meta rows stand before every stream's rows, and each entry is a column
  of the normalised row's product with the weights, or the layer normalisation of 64 such columns.
-/
module

public import proofs.«01_k».proof.Proof.Gen.PromptCachesReferenceIdeal.Read
public import proofs.«01_k».proof.Proof.Gen.PromptCachesReferenceIdeal.Run
public import proofs.«01_k».proof.Proof.ProjSpec
public import Idealize.ShloMosaic.Lib.Pointwise

@[expose] public section

set_option maxRecDepth 16384

noncomputable section

open Idealize.ShloMosaic Idealize.ShloMosaic.TcCoe Idealize.SL.Sem
open Cert.Rows

namespace Cert.PromptCachesReferenceIdeal.Entries

open Cert.PromptCachesReferenceIdeal Cert.PromptCachesReferenceIdeal.Read

variable (x0 : (⟨S8x2048x1024, .f32⟩ : BufTy).Contents (Elt Ideal)) (x1 : (⟨S16x1024, .f32⟩ : BufTy).Contents (Elt Ideal))
  (x2 : (⟨S1x1024, .f32⟩ : BufTy).Contents (Elt Ideal)) (x3 : (⟨S1x1024x2500, .f32⟩ : BufTy).Contents (Elt Ideal))
  (x4 x5 : (⟨S1x64, .f32⟩ : BufTy).Contents (Elt Ideal))

/-- Row `s` of stream `b`: the meta rows first, then the stream's own. -/
def hrow (b : Fin 8) (s : Fin 2064) (k : Fin 1024) : EReal :=
  if h : s.val < 16 then x1 (ix2 ⟨s, h⟩ k) else x0 (ix3 b ⟨s - 16, by omega⟩ k)

/-- The normalised row of a token. -/
abbrev tok (b : Fin 8) (s : Fin 2064) : Fin 1024 → EReal := rms (hrow x0 x1 b s) (fun k => x2 (ix2 0 k))

/-- A column of the weights. -/
abbrev wcol (j : Fin 2500) : Fin 1024 → EReal := fun k => x3 (ix3 0 k j)

/-- The rows with the meta rows before them. -/
theorem v2_apply (b : Fin 8) (s : Fin 2064) (k : Fin 1024) :
    val_main_v2 (F := Ideal) x0 x1 (ix3 b s k) = hrow x0 x1 b s k := by
  unfold hrow
  pointwise [val_main_v2, val_main_v1, val_main_v0]

/-- The normalised rows. -/
theorem v19_apply (b : Fin 8) (s : Fin 2064) (k : Fin 1024) :
    val_main_v19 (F := Ideal) x0 x1 x2 (ix3 b s k) = tok x0 x1 x2 b s k := by
  pointwise [val_main_v19, val_main_v18, val_main_v17, val_main_v16, val_main_v15, val_main_v14, val_main_v13, val_main_v12, val_main_v11, val_main_v10, val_main_v9,
    val_main_v8, val_main_v7, val_main_v3, val_main_cst, val_main_cst_0, val_main_cst_1]
  simp only [v2_apply]
  try rfl

/-- The projected rows. -/
theorem v20_apply (b : Fin 8) (s : Fin 2064) (j : Fin 2500) :
    val_main_v20 (F := Ideal) x0 x1 x2 x3 (ix3 b s j) = col (tok x0 x1 x2 b s) (wcol x3 j) := by
  pointwise [val_main_v20, val_main_v4]
  simp only [v19_apply]
  try rfl

/-- The layer-normalised index keys. -/
theorem v47_apply (b : Fin 8) (s : Fin 2064) (l : Fin 64) :
    val_main_v47 (F := Ideal) x0 x1 x2 x3 x4 x5 (ix3 b s l)
      = layerNorm (fun j => col (tok x0 x1 x2 b s) (wcol x3 ⟨896 + j, by omega⟩)) (fun j => x4 (ix2 0 j)) (fun j => x5 (ix2 0 j)) l := by
  pointwise [val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v23, val_main_v5, val_main_v6,
    val_main_cst_2, val_main_cst_3, val_main_cst_4, val_main_cst_5, val_main_cst_6]
  simp only [v20_apply]
  try rfl

/-- The first attention's keys. -/
theorem v50_apply (b : Fin 8) (s : Fin 2064) (l : Fin 64) :
    val_main_v50 (F := Ideal) x0 x1 x2 x3 (ix4 0 b s l) = col (tok x0 x1 x2 b s) (wcol x3 ⟨512 + l, by omega⟩) := by
  pointwise [val_main_v50, val_main_v21]
  simp only [v20_apply]
  try rfl

/-- The first attention's values. -/
theorem v51_apply (b : Fin 8) (s : Fin 2064) (l : Fin 64) :
    val_main_v51 (F := Ideal) x0 x1 x2 x3 (ix4 0 b s l) = col (tok x0 x1 x2 b s) (wcol x3 ⟨576 + l, by omega⟩) := by
  pointwise [val_main_v51, val_main_v22]
  simp only [v20_apply]
  try rfl

/-- The index keys. -/
theorem v52_apply (b : Fin 8) (s : Fin 2064) (l : Fin 64) :
    val_main_v52 (F := Ideal) x0 x1 x2 x3 x4 x5 (ix4 0 b s l)
      = layerNorm (fun j => col (tok x0 x1 x2 b s) (wcol x3 ⟨896 + j, by omega⟩)) (fun j => x4 (ix2 0 j)) (fun j => x5 (ix2 0 j)) l := by
  pointwise [val_main_v52]
  simp only [v47_apply]
  try rfl

/-- The second attention's keys. -/
theorem v53_apply (b : Fin 8) (s : Fin 2064) (h : Fin 4) (e : Fin 2) (l : Fin 64) :
    val_main_v53 (F := Ideal) x0 x1 x2 x3 (ix6 0 b s h e l)
      = col (tok x0 x1 x2 b s) (wcol x3 ⟨1476 + 128 * h + 64 * e + l, by omega⟩) := by
  pointwise [val_main_v53, val_main_v48, val_main_v24]
  simp only [v20_apply]
  congr 2
  refine Fin.ext ?_
  simp only []
  omega

/-- The second attention's values. -/
theorem v54_apply (b : Fin 8) (s : Fin 2064) (h : Fin 4) (l : Fin 128) :
    val_main_v54 (F := Ideal) x0 x1 x2 x3 (ix5 0 b s h l)
      = col (tok x0 x1 x2 b s) (wcol x3 ⟨1988 + 128 * h + l, by omega⟩) := by
  pointwise [val_main_v54, val_main_v49, val_main_v25]
  simp only [v20_apply]
  congr 2
  refine Fin.ext ?_
  simp only []
  omega

end Cert.PromptCachesReferenceIdeal.Entries

end
-- ==== Proof.PromptClaims.lean ====
/-
  The claims about the cache entries of the prompt: frames of the two calls, of their ideal reading and of the reference,
  and the equality of the five entries.
-/
module

public import proofs.«01_k».proof.Proof.PromptTail
public import proofs.«01_k».proof.Proof.PromptRef
public import proofs.«01_k».proof.Proof.PromptCachesRun
public import proofs.«01_k».proof.Defs

@[expose] public section

set_option maxRecDepth 16384

noncomputable section

open Idealize.ShloMosaic Idealize.ShloMosaic.TcCoe Idealize.SL.Sem
open Cert.PromptCachesIdeal.Hand Cert.PromptCachesIdeal.Gen

namespace Cert.Proof.Prompt

variable [Cert.PromptCaches.Facts] [Cert.PromptCachesIdeal.Facts] [Cert.PromptCachesReferenceIdeal.Facts]

/-- The frame of the two projections of the prompt. -/
theorem frame_k : Cert.quiescent_PromptCaches := fun m ρ _ => Cert.PromptCaches.Hand.frame m ρ

/-- The frame of their ideal reading. -/
theorem frame_ki : Cert.quiescent_PromptCachesIdeal := fun m ρ _ => Cert.PromptCachesIdeal.Hand.frame m ρ

/-- The reference's frame: its run read at the arguments; it has no semaphore. -/
theorem frame_ri : Cert.quiescent_PromptCachesReferenceIdeal := fun m ρ _ =>
  (θ_run Cert.PromptCachesReferenceIdeal.defs _ _).mono
    (fun _ h => ⟨fun c => (h c).2.2.2.2.2, sem_eq_zero_of_no_sems (by decide) _⟩)
    (Cert.PromptCachesReferenceIdeal.Value.run (F := Ideal) m ρ)

/-- The reading at the extended reals changed no operation. -/
theorem preserves : Cert.preserves_PromptCaches_PromptCachesIdeal := trivial

/-- An entry of the caches after the kernel. -/
abbrev entry (m : (ℓ : Loc Cert.PromptCachesIdeal.nD Cert.PromptCachesIdeal.τ Cert.PromptCachesIdeal.sig) → Buf (Elt Ideal) ℓ)
    (c : Dev Cert.PromptCachesIdeal.nD) (b : Ref Cert.PromptCachesIdeal.sig .tc) :=
  W6 m c (Proc.devRef .tc b)

/-- Kernel and reference end with the same five entries. -/
theorem algebraic : Cert.algebraic_PromptCachesIdeal_PromptCachesReferenceIdeal := by
  intro m ρ m' ρ' _ hag
  refine ⟨fun c => entry m c Cert.PromptCachesIdeal.main_v30, fun c => entry m c Cert.PromptCachesIdeal.main_v38,
    fun c => entry m c Cert.PromptCachesIdeal.main_v46, fun c => entry m c Cert.PromptCachesIdeal.main_v53,
    fun c => entry m c Cert.PromptCachesIdeal.main_v58, ?_, ?_⟩
  · refine (θ_run Cert.PromptCachesIdeal.defs _ _).mono (fun r h c => ?_)
      (θ_run_and (run_main m ρ) (Cert.PromptCachesIdeal.Hand.frame m ρ))
    exact ⟨at_end m (h.1.1 c) _ (Finset.mem_filter.mpr ⟨StableHlo.devRef_mem_tcRefs _, by decide⟩),
      at_end m (h.1.1 c) _ (Finset.mem_filter.mpr ⟨StableHlo.devRef_mem_tcRefs _, by decide⟩),
      at_end m (h.1.1 c) _ (Finset.mem_filter.mpr ⟨StableHlo.devRef_mem_tcRefs _, by decide⟩),
      at_end m (h.1.1 c) _ (Finset.mem_filter.mpr ⟨StableHlo.devRef_mem_tcRefs _, by decide⟩),
      at_end m (h.1.1 c) _ (Finset.mem_filter.mpr ⟨StableHlo.devRef_mem_tcRefs _, by decide⟩), h.2.1 c⟩
  refine (θ_run Cert.PromptCachesReferenceIdeal.defs _ _).mono (fun _ h c => ?_)
    (Cert.PromptCachesReferenceIdeal.Value.run (F := Ideal) m' ρ')
  obtain ⟨h0, h1, h2, h3, h4, h5⟩ := hag c
  obtain ⟨k0, k1, k2, k3, k4, k5⟩ := h c
  refine ⟨k0.trans ?_, k1.trans ?_, k2.trans ?_, k3.trans ?_, k4.trans ?_, k5⟩
  · rw [Cert.PromptCachesReferenceIdeal.Read.val_main_v50_eq]
    funext i
    obtain ⟨b, s, l, rfl⟩ : ∃ (b : Fin 8) (s : Fin 2064) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.PromptCachesReferenceIdeal.Entries.v50_apply _ _ _ _ b s l).trans (Eq.trans ?_ (entry_v30 m c b s l).symm)
    rw [token_at, h0, h1, h2, h3]
    congr 1
    funext k
    refine congrArg (fun j => (m ((c.tc : Thread Cert.PromptCachesIdeal.nD Cert.PromptCachesIdeal.τ).loc Cert.PromptCachesIdeal.main_arg3) : Cert.PromptCachesIdeal.S1x1024x2500.Idx → EReal) (ix3 0 k j)) (Fin.ext ?_)
    show 512 + l.val = 512 + (0 + l.val)
    omega
  · rw [Cert.PromptCachesReferenceIdeal.Read.val_main_v51_eq]
    funext i
    obtain ⟨b, s, l, rfl⟩ : ∃ (b : Fin 8) (s : Fin 2064) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.PromptCachesReferenceIdeal.Entries.v51_apply _ _ _ _ b s l).trans (Eq.trans ?_ (entry_v38 m c b s l).symm)
    rw [token_at, h0, h1, h2, h3]
    congr 1
    funext k
    refine congrArg (fun j => (m ((c.tc : Thread Cert.PromptCachesIdeal.nD Cert.PromptCachesIdeal.τ).loc Cert.PromptCachesIdeal.main_arg3) : Cert.PromptCachesIdeal.S1x1024x2500.Idx → EReal) (ix3 0 k j)) (Fin.ext ?_)
    show 576 + l.val = 512 + (64 + l.val)
    omega
  · rw [Cert.PromptCachesReferenceIdeal.Read.val_main_v52_eq]
    funext i
    obtain ⟨b, s, l, rfl⟩ : ∃ (b : Fin 8) (s : Fin 2064) (l : Fin 64), i = ix4 0 b s l :=
      ⟨i 1, i 2, i 3, by funext a; match a with
        | ⟨0, _⟩ => exact Subsingleton.elim (α := Fin 1) _ _ | ⟨1, _⟩ => rfl | ⟨2, _⟩ => rfl | ⟨3, _⟩ => rfl⟩
    refine (Cert.PromptCachesReferenceIdeal.Entries.v52_apply _ _ _ _ _ _ b s l).trans (Eq.trans ?_ (entry_v46 m c b s l).symm)
    rw [token_at, h0, h1, h2, h3, h4, h5]
    rfl
  · rw [Cert.PromptCachesReferenceIdeal.Read.val_main_v53_eq]
    funext i
    obtain ⟨b, s, g, e, l, rfl⟩ : ∃ (b : Fin 8) (s : Fin 2064) (g : Fin 4) (e : Fin 2) (l : Fin 64), i = ix6 0 b s g e l :=
      ⟨i 1, i 2, i 3, i 4, i 5, by funext a; match a with
        | ⟨0, _⟩ => exact Subsingleton.elim (α := Fin 1) _ _ | ⟨1, _⟩ => rfl | ⟨2, _⟩ => rfl | ⟨3, _⟩ => rfl | ⟨4, _⟩ => rfl | ⟨5, _⟩ => rfl⟩
    refine (Cert.PromptCachesReferenceIdeal.Entries.v53_apply _ _ _ _ b s g e l).trans (Eq.trans ?_ (entry_v53 m c b s g e l).symm)
    rw [token_at, h0, h1, h2, h3]
    congr 1
    funext k
    refine congrArg (fun j => (m ((c.tc : Thread Cert.PromptCachesIdeal.nD Cert.PromptCachesIdeal.τ).loc Cert.PromptCachesIdeal.main_arg3) : Cert.PromptCachesIdeal.S1x1024x2500.Idx → EReal) (ix3 0 k j)) (Fin.ext ?_)
    show 1476 + 128 * g.val + 64 * e.val + l.val = 1476 + (128 * g.val + 64 * e.val + l.val)
    omega
  · rw [Cert.PromptCachesReferenceIdeal.Read.val_main_v54_eq]
    funext i
    obtain ⟨b, s, g, l, rfl⟩ : ∃ (b : Fin 8) (s : Fin 2064) (g : Fin 4) (l : Fin 128), i = ix5 0 b s g l :=
      ⟨i 1, i 2, i 3, i 4, by funext a; match a with
        | ⟨0, _⟩ => exact Subsingleton.elim (α := Fin 1) _ _ | ⟨1, _⟩ => rfl | ⟨2, _⟩ => rfl | ⟨3, _⟩ => rfl | ⟨4, _⟩ => rfl⟩
    refine (Cert.PromptCachesReferenceIdeal.Entries.v54_apply _ _ _ _ b s g l).trans (Eq.trans ?_ (entry_v58 m c b s g l).symm)
    rw [token_at, h0, h1, h2, h3]
    rfl

end Cert.Proof.Prompt

end
-- ==== Proof.FinishSampleBlock.lean ====
/-
  What one grid point of the decoded tokens' finishing kernel leaves in its block of 128 rows: row by row, the finishing layer
  (`Rows.layer`) of the block's rows.
-/
module

public import proofs.«01_k».proof.Proof.Gen.FinishSampleIdeal.Value
public import proofs.«01_k».proof.Proof.FinishArray

@[expose] public section

set_option maxRecDepth 16384

noncomputable section

open Idealize.ShloMosaic Idealize.ShloMosaic.TcCoe Idealize.SL.Sem
open Cert.Rows

namespace Cert.FinishSampleIdeal.Block

open Cert.FinishSampleIdeal Cert.FinishSampleIdeal.Gen
open Cert.FinishKernelIdeal.Block (row ld_up ld_down ld_up0 ld_down0 hz)

/-- The residual sum at an index of the block. -/
theorem pay2_apply (v0 v1 : Vec Ideal S128x512 .bf16) (v3 : Vec Ideal S128x1024 .f32) (v5 : Vec Ideal S1024x1024 .bf16)
    (p : Fin 128) (l : Fin 1024) :
    k0_pay2 v0 v1 v3 v5 (ix2 p l) = residual (row v3 p) (row v0 p) (row v1 p) (row v5) l := by
  pointwise [k0_pay2]
  rfl

/-- The normalised residual row at an index of the block. -/
theorem pay3_apply (v0 v1 : Vec Ideal S128x512 .bf16) (v3 : Vec Ideal S128x1024 .f32) (v5 : Vec Ideal S1024x1024 .bf16)
    (v9 : Vec Ideal S1x1024 .f32) (p : Fin 128) (l : Fin 1024) :
    k0_pay3 v0 v1 v3 v5 v9 (ix2 p l) = rms (residual (row v3 p) (row v0 p) (row v1 p) (row v5)) (row v9 0) l := by
  pointwise [k0_pay3]
  simp only [pay2_apply]
  rfl

/-- The residual row with the first quarter of the hidden layer added. -/
theorem pay4_apply (v0 v1 : Vec Ideal S128x512 .bf16) (v3 : Vec Ideal S128x1024 .f32) (v5 : Vec Ideal S1024x1024 .bf16)
    (v9 : Vec Ideal S1x1024 .f32) (u d : Vec Ideal S1024x1024 .bf16) (p : Fin 128) (l : Fin 1024) :
    k0_pay4 v0 v1 v3 v5 v9 u d (ix2 p l)
      = residual (row v3 p) (row v0 p) (row v1 p) (row v5) l
        + ∑ k : Fin 1024, unit (rms (residual (row v3 p) (row v0 p) (row v1 p) (row v5)) (row v9 0)) (fun i => u (ix2 i k))
          * d (ix2 k l) := by
  pointwise [k0_pay4]
  simp only [pay2_apply, pay3_apply]
  rfl

/-- The other three quarters of the hidden layer added one after the other. -/
theorem pay5_apply (n : FVec Ideal S128x1024 .bf16) (h : FVec Ideal S128x1024 .f32)
    (u1 d1 u2 d2 u3 d3 : Vec Ideal S1024x1024 .bf16) (p : Fin 128) (l : Fin 1024) :
    k0_pay5 n h u1 d1 u2 d2 u3 d3 (ix2 p l)
      = h (ix2 p l) + ∑ k : Fin 1024, unit (row n p) (fun i => u1 (ix2 i k)) * d1 (ix2 k l)
        + ∑ k : Fin 1024, unit (row n p) (fun i => u2 (ix2 i k)) * d2 (ix2 k l)
        + ∑ k : Fin 1024, unit (row n p) (fun i => u3 (ix2 i k)) * d3 (ix2 k l) := by
  pointwise [k0_pay5]
  rfl

/-- The last normalisation of the block. -/
theorem pay1_apply (n : FVec Ideal S128x1024 .bf16) (h : FVec Ideal S128x1024 .f32)
    (u1 d1 u2 d2 u3 d3 : Vec Ideal S1024x1024 .bf16) (g : Vec Ideal S1x1024 .f32) (p : Fin 128) (l : Fin 1024) :
    k0_pay1 (k0_pay5 n h u1 d1 u2 d2 u3 d3) (k0_pay6 g) (k0_pay7 n h u1 d1 u2 d2 u3 d3) (Scalar.ofBits .f32 0x44800000#32)
        (ix2 p l)
      = rms (fun k => k0_pay5 n h u1 d1 u2 d2 u3 d3 (ix2 p k)) (row g 0) l := by
  pointwise [k0_pay1, k0_pay6, k0_pay7]
  rfl

/-- The block that the body leaves, row by row. -/
theorem out_apply (x0 : Vec Ideal S128x1024 .f32) (x1 x2 : Vec Ideal S128x512 .bf16) (x3 : Vec Ideal S1024x1024 .bf16)
    (x4 : Vec Ideal S1x1024 .f32) (x5 : Vec Ideal S1024x4096 .bf16) (x6 : Vec Ideal S4096x1024 .bf16)
    (x7 : Vec Ideal S1x1024 .f32) (p : Fin 128) (l : Fin 1024) :
    out0_8 x0 x1 x2 x3 x4 x5 x6 x7 (ix2 p l)
      = layer (row x0 p) (row x1 p) (row x2 p) (row x3) (row x4 0) (row x5) (row x6) (row x7 0) l := by
  unfold_out out0_8
  rw [View.canon_unit_zero hz, pay1_apply, View.ld_unit_zero hz _ x7]
  unfold layer
  congr 1
  funext k
  rw [mlp_quarters, pay5_apply, pay4_apply]
  have hn : row (k0_pay3 x1 x2 x0 x3 x4) p
      = rms (residual (row x0 p) (row x1 p) (row x2 p) (row x3)) (row x4 0) :=
    funext fun k => pay3_apply x1 x2 x0 x3 x4 p k
  simp only [View.ld_unit_zero hz _ x0, View.ld_unit_zero hz _ x1, View.ld_unit_zero hz _ x2, View.ld_unit_zero hz _ x3,
    View.ld_unit_zero hz _ x4, hn, ld_up0 x5, ld_down0 x6, ld_up x5 1024 (by norm_num), ld_up x5 2048 (by norm_num),
    ld_up x5 3072 (by norm_num),
    ld_down x6 1024 (by norm_num), ld_down x6 2048 (by norm_num), ld_down x6 3072 (by norm_num)]

end Cert.FinishSampleIdeal.Block

end
-- ==== Proof.FinishSampleArray.lean ====
/-
  The result array of the decoded tokens' finishing kernel: every row of it is the finishing layer of the arguments' rows.
-/
module

public import proofs.«01_k».proof.Proof.FinishSampleBlock

@[expose] public section

set_option maxRecDepth 16384

noncomputable section

open Idealize.ShloMosaic Idealize.ShloMosaic.TcCoe Idealize.SL.Sem
open Idealize.ShloMosaic.Pipeline (Dat)
open Cert.Rows

namespace Cert.FinishSampleIdeal.Array

open Cert.FinishSampleIdeal Cert.FinishSampleIdeal.Gen Cert.FinishSampleIdeal.Block
open Cert.FinishKernelIdeal.Block (row)
open Cert.FinishKernelIdeal.Array (layer_congr)

variable (m : (ℓ : Loc nD τ sig) → Buf (Elt Ideal) ℓ)

/-- The finishing layer of row `r` of eight argument arrays. -/
def rowOf (x : (⟨3, ![8, 16, 1024]⟩ : Shape).Idx → EReal) (a b : (⟨2, ![128, 512]⟩ : Shape).Idx → EReal)
    (wo : (⟨3, ![1, 1024, 1024]⟩ : Shape).Idx → EReal) (gm : (⟨2, ![1, 1024]⟩ : Shape).Idx → EReal)
    (wu : (⟨3, ![1, 1024, 4096]⟩ : Shape).Idx → EReal) (wd : (⟨3, ![1, 4096, 1024]⟩ : Shape).Idx → EReal)
    (gf : (⟨1, ![1024]⟩ : Shape).Idx → EReal) (r : Fin 128) : Fin 1024 → EReal :=
  layer (fun k => x (ix3 ⟨r / 16, by omega⟩ ⟨r % 16, by omega⟩ k)) (row a r) (row b r) (fun k l => wo (ix3 0 k l))
    (fun k => gm (ix2 0 k)) (fun k f => wu (ix3 0 k f)) (fun f l => wd (ix3 0 f l)) (fun k => gf (ix1 k))

/-- The result array of device `c`. -/
def result (c : Dev nD) : Buf (Elt Ideal) ((c : Thread nD τ).loc main_v10) := fun i =>
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-- Where each window's block lies at a point: the row windows move by the point, the others stay. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by decide +kernel

/-- The row of the array that row `p` of point `t`'s block is. -/
theorem point_row (t : Fin grid0.N) (p : Fin 128) : t.val * 128 + p.val < 128 := by
  have : t.val < 1 := t.isLt
  omega

set_option maxHeartbeats 2000000 in
/-- What a point writes back is its block of the result array. -/
theorem point (c : Dev nD) (t : Fin cfg0.N) (p : Fin 128) (l : Fin 1024) :
    out0_8 (iblk m c 0 t) (iblk m c 1 t) (iblk m c 2 t) (iblk m c 3 t) (iblk m c 4 t) (iblk m c 5 t) (iblk m c 6 t)
        (iblk m c 7 t) (ix2 p l)
      = result m c (ix2 ⟨t.val * 128 + p.val, point_row t p⟩ l) := by
  rw [out_apply]
  unfold result rowOf
  refine layer_congr (fun k => ?_) (fun k => ?_) (fun k => ?_) (fun k l => ?_) (fun k => ?_) (fun k f => ?_)
    (fun f l => ?_) (fun k => ?_) rfl
  all_goals simp only [row]
  all_goals blk_ext! [iblk, V, idx t]

/-- The result array after the run. -/
theorem final (c : Dev nD) : (dats m 0 c).arrAt 8 cfg0.N = result m c := by
  refine (dats m 0 c).arrAt_eq_of_covers 8 _ (by decide +kernel) fun t hf y => ?_
  blk_simp
  rw [after0_8]
  obtain ⟨p, l, rfl⟩ : ∃ (p : Fin 128) (l : Fin 1024), y = ix2 p l :=
    ⟨y 0, y 1, by funext a; match a with | ⟨0, _⟩ => rfl | ⟨1, _⟩ => rfl⟩
  refine (point m c t p l).trans (congrArg (result m c) ?_)
  blk_ext [idx t]

end Cert.FinishSampleIdeal.Array

end
-- ==== Proof.FinishSampleRef.lean ====
/-
  The reference of the decoded tokens' finishing call: every row of what it computes is the finishing layer of the arguments' rows.
-/
module

public import proofs.«01_k».proof.Proof.Gen.FinishSampleReferenceIdeal.Read
public import proofs.«01_k».proof.Proof.FinishSampleArray

@[expose] public section

set_option maxRecDepth 16384

noncomputable section

open Idealize.ShloMosaic Idealize.ShloMosaic.TcCoe Idealize.SL.Sem
open Cert.Rows Cert.FinishSampleIdeal.Array
open Cert.FinishKernelIdeal.Block (row)

namespace Cert.FinishSampleReferenceIdeal.RefRows

open Cert.FinishSampleReferenceIdeal Cert.FinishSampleReferenceIdeal.Read

variable (x0 : (⟨S8x16x1024, .f32⟩ : BufTy).Contents (Elt Ideal)) (x1 x2 : (⟨S128x512, .bf16⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal))
  (x7 : (⟨S1024, .f32⟩ : BufTy).Contents (Elt Ideal))

/-- The input row of a reshaped batch. -/
abbrev inRow (r : Fin 128) (k : Fin 1024) : EReal := x0 (ix3 ⟨r / 16, by omega⟩ ⟨r % 16, by omega⟩ k)

/-- The reference's residual sum. -/
theorem v5_apply (r : Fin 128) (l : Fin 1024) :
    val_main_v5 (F := Ideal) x0 x1 x2 x3 (ix2 r l)
      = residual (inRow x0 r) (row x1 r) (row x2 r) (fun k l => x3 (ix3 0 k l)) l := by
  rw [← residual_eq]
  pointwise [val_main_v5, val_main_v0, val_main_v4, val_main_v2, val_main_v1, val_main_v3]
  try rfl

/-- The reference's normalised row. -/
theorem v19_apply (r : Fin 128) (l : Fin 1024) :
    val_main_v19 (F := Ideal) x0 x1 x2 x3 x4 (ix2 r l)
      = rms (residual (inRow x0 r) (row x1 r) (row x2 r) (fun k l => x3 (ix3 0 k l))) (row x4 0) l := by
  pointwise [val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  simp only [v5_apply]
  try rfl

/-- The reference's row with the hidden layer added. -/
theorem v26_apply (r : Fin 128) (l : Fin 1024) :
    val_main_v26 (F := Ideal) x0 x1 x2 x3 x4 x5 x6 (ix2 r l)
      = mlp (residual (inRow x0 r) (row x1 r) (row x2 r) (fun k l => x3 (ix3 0 k l)))
          (rms (residual (inRow x0 r) (row x1 r) (row x2 r) (fun k l => x3 (ix3 0 k l))) (row x4 0))
          (fun k f => x5 (ix3 0 k f)) (fun f l => x6 (ix3 0 f l)) l := by
  pointwise [val_main_v26, val_main_v25, val_main_v24, val_main_v23, val_main_v22, val_main_v21, val_main_v20,
    val_main_call0_v0, val_main_call0_cst]
  simp only [v5_apply, v19_apply]
  try rfl

/-- The reference's result. -/
theorem v39_apply (r : Fin 128) (l : Fin 1024) :
    val_main_v39 (F := Ideal) x0 x1 x2 x3 x4 x5 x6 x7 (ix2 r l) = rowOf x0 x1 x2 x3 x4 x5 x6 x7 r l := by
  pointwise [val_main_v39, val_main_v38, val_main_v37, val_main_v36, val_main_v35, val_main_v34, val_main_v33, val_main_v32,
    val_main_v31, val_main_v30, val_main_v29, val_main_v28, val_main_v27, val_main_cst_2, val_main_cst_3, val_main_cst_4]
  simp only [v26_apply]
  try rfl

end Cert.FinishSampleReferenceIdeal.RefRows

end
-- ==== Proof.FinishSampleClaims.lean ====
/-
  The claims of the decoded tokens' finishing call: the frames of the kernel, of its ideal reading and of the reference, and that at the ideal
  instance kernel and reference end with one array.
-/
module

public import proofs.«01_k».proof.Defs
public import proofs.«01_k».proof.Proof.Gen.FinishSample.Frame
public import proofs.«01_k».proof.Proof.FinishSampleRef
public import Idealize.ShloMosaic.Lib.Quiescent

@[expose] public section

set_option maxRecDepth 16384

noncomputable section

open Idealize.ShloMosaic Idealize.ShloMosaic.TcCoe Idealize.SL.Sem

namespace Cert.Proof.FinishSample

/-- The frame of the decoded tokens' finishing kernel. -/
theorem frame_k : Cert.quiescent_FinishSample := fun m ρ _ => Cert.FinishSample.Gen.frame m ρ

/-- The frame of its ideal reading. -/
theorem frame_ki : Cert.quiescent_FinishSampleIdeal := fun m ρ _ => Cert.FinishSampleIdeal.Gen.frame m ρ

/-- The reference's frame: its run read at the arguments; it has no semaphore. -/
theorem frame_ri : Cert.quiescent_FinishSampleReferenceIdeal := fun m ρ _ =>
  (θ_run Cert.FinishSampleReferenceIdeal.defs _ _).mono
    (fun _ h => ⟨fun c => (h c).2, sem_eq_zero_of_no_sems (by decide) _⟩)
    (Cert.FinishSampleReferenceIdeal.Value.run (F := Ideal) m ρ)

/-- The reading at the extended reals changed no operation. -/
theorem preserves : Cert.preserves_FinishSample_FinishSampleIdeal := trivial

/-- Kernel and reference end with one array: row by row, the finishing layer of the arguments. -/
theorem algebraic : Cert.algebraic_FinishSampleIdeal_FinishSampleReferenceIdeal := by
  intro m ρ m' ρ' _ hag
  refine ⟨fun c => Cert.FinishSampleIdeal.Array.result m c, ?_, ?_⟩
  · exact (θ_run Cert.FinishSampleIdeal.defs _ _).mono
      (fun _ h c => ⟨(h c).1.trans (Cert.FinishSampleIdeal.Array.final m c), (h c).2⟩)
      (Cert.FinishSampleIdeal.Value.run_blocks m ρ)
  refine (θ_run Cert.FinishSampleReferenceIdeal.defs _ _).mono (fun _ h c => ⟨(h c).1.trans ?_, (h c).2⟩)
    (Cert.FinishSampleReferenceIdeal.Value.run (F := Ideal) m' ρ')
  rw [Cert.FinishSampleReferenceIdeal.Read.val_main_v39_eq]
  funext i
  obtain ⟨r, l, rfl⟩ : ∃ (r : Fin 128) (l : Fin 1024), i = ix2 r l :=
    ⟨i 0, i 1, by funext a; match a with | ⟨0, _⟩ => rfl | ⟨1, _⟩ => rfl⟩
  refine (Cert.FinishSampleReferenceIdeal.RefRows.v39_apply _ _ _ _ _ _ _ _ r l).trans ?_
  obtain ⟨h0, h1, h2, h3, h4, h5, h6, h7⟩ := hag c
  rw [h0, h1, h2, h3, h4, h5, h6, h7]
  rfl

end Cert.Proof.FinishSample

end
-- ==== Proof.lean ====
/-
  The proof of `Cert.Claim`: the claims of each call, put together.
-/
module

public import proofs.«01_k».proof.Defs
public import proofs.«01_k».proof.Proof.Gen.FinishKernel
public import proofs.«01_k».proof.Proof.Gen.FinishKernel.Skeleton
public import proofs.«01_k».proof.Proof.Gen.FinishKernel.Launch
public import proofs.«01_k».proof.Proof.Gen.FinishKernel.Points
public import proofs.«01_k».proof.Proof.Gen.FinishKernel.Frame
public import proofs.«01_k».proof.Proof.Gen.FinishKernelIdeal
public import proofs.«01_k».proof.Proof.Gen.FinishKernelIdeal.Skeleton
public import proofs.«01_k».proof.Proof.Gen.FinishKernelIdeal.Launch
public import proofs.«01_k».proof.Proof.Gen.FinishKernelIdeal.Points
public import proofs.«01_k».proof.Proof.Gen.FinishKernelIdeal.Frame
public import proofs.«01_k».proof.Proof.Gen.FinishReferenceIdeal
public import proofs.«01_k».proof.Proof.Gen.FinishKernelIdeal.Value
public import proofs.«01_k».proof.Proof.Gen.FinishReferenceIdeal.Run
public import proofs.«01_k».proof.Proof.Gen.FinishReferenceIdeal.Read
public import proofs.«01_k».proof.Proof.FinishClaims
public import proofs.«01_k».proof.Proof.SampleClaims
public import proofs.«01_k».proof.Proof.PromptClaims
public import proofs.«01_k».proof.Proof.FinishSampleClaims
public import Idealize.ShloMosaic.Adequacy
public import Idealize.ShloMosaic.Init

@[expose] public section

noncomputable section

namespace Cert.Proof

/-- Every claim of the certificate. -/
theorem claim : Cert.Claim :=
  ⟨Cert.FinishKernel.Gen.facts, Cert.FinishKernelIdeal.Gen.facts, Cert.FinishReferenceIdeal.Gen.facts,
    Cert.SampleCaches.Gen.facts, Cert.SampleCachesIdeal.Gen.facts, Cert.SampleCachesReferenceIdeal.Gen.facts,
    Cert.PromptCaches.Gen.facts, Cert.PromptCachesIdeal.Gen.facts, Cert.PromptCachesReferenceIdeal.Gen.facts,
    Cert.FinishSample.Gen.facts, Cert.FinishSampleIdeal.Gen.facts, Cert.FinishSampleReferenceIdeal.Gen.facts,
    Finish.frame_k, Finish.frame_ki, Finish.frame_ri, Sample.frame_k, Sample.frame_ki, Sample.frame_ri,
    Prompt.frame_k, Prompt.frame_ki, Prompt.frame_ri,
    FinishSample.frame_k, FinishSample.frame_ki, FinishSample.frame_ri,
    Finish.preserves, Finish.algebraic, Sample.preserves, Sample.algebraic,
    Prompt.preserves, Prompt.algebraic,
    FinishSample.preserves, FinishSample.algebraic⟩

end Cert.Proof

end
